-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x2048 : Shape := ⟨2, ![1024, 2048]⟩
abbrev S4096x2048 : Shape := ⟨2, ![4096, 2048]⟩
abbrev S2x512x1024 : Shape := ⟨3, ![2, 512, 1024]⟩
abbrev S2x1024x1024 : Shape := ⟨3, ![2, 1024, 1024]⟩
abbrev S4x8x128 : Shape := ⟨3, ![4, 8, 128]⟩
abbrev S2 : Shape := ⟨1, ![2]⟩
abbrev S12 : Shape := ⟨1, ![12]⟩
abbrev S3 : Shape := ⟨1, ![3]⟩
abbrev S1 : Shape := ⟨1, ![1]⟩
abbrev S_ : Shape := ⟨0, ![]⟩
abbrev S1x512x1024 : Shape := ⟨3, ![1, 512, 1024]⟩
abbrev S512x1024 : Shape := ⟨2, ![512, 1024]⟩
abbrev S512x2048 : Shape := ⟨2, ![512, 2048]⟩
abbrev S1024x1024 : Shape := ⟨2, ![1024, 1024]⟩
abbrev S1x1x1 : Shape := ⟨3, ![1, 1, 1]⟩
abbrev S1x8x128 : Shape := ⟨3, ![1, 8, 128]⟩
abbrev S1x4x8x128 : Shape := ⟨4, ![1, 4, 8, 128]⟩
abbrev S1x1x1x1 : Shape := ⟨4, ![1, 1, 1, 1]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .local _ .vmem, ⟨0, _⟩ => ⟨S1024x2048, .f32⟩
  | .local _ .vmem, ⟨1, _⟩ => ⟨S4096x2048, .f32⟩
  | .local _ .vmem, ⟨2, _⟩ => ⟨S2x512x1024, .f32⟩
  | .local _ .vmem, ⟨3, _⟩ => ⟨S2x1024x1024, .f32⟩
  | .local _ .vmem, ⟨4, _⟩ => ⟨S4x8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  (ofTc nBuf bufTy 1 58 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v8 : BitVec 32 := Scalar.muli v2 c1024_i32
  let v9 : BitVec 32 := Scalar.addi v8 c0_i32
  let c0_i32_9 : BitVec 32 := 0#32
  ![v9.toNat, 0]
def k0_dev1 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_17 : BitVec 32 := 1#32
  let v23 : BitVec 32 := Scalar.muli v5 c1_i32_17
  let v24 : BitVec 32 := Scalar.addi c0_i32_18 v23
  v24.toNat
def k0_dev2 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_20 : BitVec 32 := 1#32
  let v25 : BitVec 32 := Scalar.muli v7 c1_i32_20
  let v26 : BitVec 32 := Scalar.addi c0_i32_21 v25
  v26.toNat
def k0_off2 (d0 : Dev nD) (c0_i32_32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_31 : BitVec 32 := 1024#32
  let v37 : BitVec 32 := Scalar.muli v2 c1024_i32_31
  let v38 : BitVec 32 := Scalar.addi v37 c0_i32_32
  let v39 : Index := Scalar.indexCast v38
  let c0_33 : Index := 0#32
  ![v39.toNat, 0]
def k0_off3 (d0 : Dev nD) (c0_i32_37 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_36 : BitVec 32 := 1024#32
  let v43 : BitVec 32 := Scalar.muli v2 c1024_i32_36
  let v44 : BitVec 32 := Scalar.addi v43 c0_i32_37
  let c0_i32_42 : BitVec 32 := 0#32
  ![v44.toNat, 0]
def k0_dev3 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_40 : BitVec 32 := 1#32
  let v45 : BitVec 32 := Scalar.muli v7 c1_i32_40
  let v46 : BitVec 32 := Scalar.addi c0_i32_41 v45
  v46.toNat
def k0_off4 (d0 : Dev nD) (c0_i32_47 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_46 : BitVec 32 := 1024#32
  let v55 : BitVec 32 := Scalar.muli v2 c1024_i32_46
  let v56 : BitVec 32 := Scalar.addi v55 c0_i32_47
  let c1024_i32_52 : BitVec 32 := 1024#32
  ![v56.toNat, 1024]
def k0_dev4 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_50 : BitVec 32 := 1#32
  let v57 : BitVec 32 := Scalar.muli v5 c1_i32_50
  let v58 : BitVec 32 := Scalar.addi c0_i32_51 v57
  v58.toNat
def k0_dev5 (d0 : Dev nD) : Nat :=
  let c0_i32_74 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_73 : BitVec 32 := 1#32
  let v83 : BitVec 32 := Scalar.muli v7 c1_i32_73
  let v84 : BitVec 32 := Scalar.addi c0_i32_74 v83
  v84.toNat
def k0_dev6 (d0 : Dev nD) : Nat :=
  let c0_i32_84 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_83 : BitVec 32 := 1#32
  let v95 : BitVec 32 := Scalar.muli v5 c1_i32_83
  let v96 : BitVec 32 := Scalar.addi c0_i32_84 v95
  v96.toNat
def k0_off5 (d0 : Dev nD) (c0_i32_87 : BitVec 32) (c0_i32_95 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v103 : BitVec 32 := Scalar.subi v2 c0_i32_87
  let c1_i32_88 : BitVec 32 := 1#32
  let v104 : BitVec 32 := Scalar.subi v103 c1_i32_88
  let c4_i32_89 : BitVec 32 := 4#32
  let v105 : BitVec 32 := Scalar.addi v104 c4_i32_89
  let c4_i32_90 : BitVec 32 := 4#32
  let v106 : BitVec 32 := Scalar.remsi v105 c4_i32_90
  let c1024_i32_94 : BitVec 32 := 1024#32
  let v110 : BitVec 32 := Scalar.muli v106 c1024_i32_94
  let v111 : BitVec 32 := Scalar.addi v110 c0_i32_95
  let c0_i32_100 : BitVec 32 := 0#32
  ![v111.toNat, 0]
def k0_off6 (d0 : Dev nD) (c0_i32_91 : BitVec 32) (c0_i32_123 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v107 : BitVec 32 := Scalar.addi v2 c0_i32_91
  let c1_i32_92 : BitVec 32 := 1#32
  let v108 : BitVec 32 := Scalar.addi v107 c1_i32_92
  let c4_i32_93 : BitVec 32 := 4#32
  let v109 : BitVec 32 := Scalar.remsi v108 c4_i32_93
  let c1024_i32_122 : BitVec 32 := 1024#32
  let v137 : BitVec 32 := Scalar.muli v109 c1024_i32_122
  let v138 : BitVec 32 := Scalar.addi v137 c0_i32_123
  let c0_i32_128 : BitVec 32 := 0#32
  ![v138.toNat, 0]
def k0_off7 (d0 : Dev nD) (c0_i32_87 : BitVec 32) (c0_i32_150 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v103 : BitVec 32 := Scalar.subi v2 c0_i32_87
  let c1_i32_88 : BitVec 32 := 1#32
  let v104 : BitVec 32 := Scalar.subi v103 c1_i32_88
  let c4_i32_89 : BitVec 32 := 4#32
  let v105 : BitVec 32 := Scalar.addi v104 c4_i32_89
  let c4_i32_90 : BitVec 32 := 4#32
  let v106 : BitVec 32 := Scalar.remsi v105 c4_i32_90
  let c1024_i32_149 : BitVec 32 := 1024#32
  let v164 : BitVec 32 := Scalar.muli v106 c1024_i32_149
  let v165 : BitVec 32 := Scalar.addi v164 c0_i32_150
  let c0_i32_156 : BitVec 32 := 0#32
  ![v165.toNat, 0]
def k0_off8 (d0 : Dev nD) (c0_i32_87 : BitVec 32) (c0_i32_165 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v103 : BitVec 32 := Scalar.subi v2 c0_i32_87
  let c1_i32_88 : BitVec 32 := 1#32
  let v104 : BitVec 32 := Scalar.subi v103 c1_i32_88
  let c4_i32_89 : BitVec 32 := 4#32
  let v105 : BitVec 32 := Scalar.addi v104 c4_i32_89
  let c4_i32_90 : BitVec 32 := 4#32
  let v106 : BitVec 32 := Scalar.remsi v105 c4_i32_90
  let c1024_i32_164 : BitVec 32 := 1024#32
  let v178 : BitVec 32 := Scalar.muli v106 c1024_i32_164
  let v179 : BitVec 32 := Scalar.addi v178 c0_i32_165
  let v180 : Index := Scalar.indexCast v179
  let c0_166 : Index := 0#32
  ![v180.toNat, 0]
def k0_dev7 (d0 : Dev nD) : Nat :=
  let c0_i32_178 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_177 : BitVec 32 := 1#32
  let v192 : BitVec 32 := Scalar.muli v7 c1_i32_177
  let v193 : BitVec 32 := Scalar.addi c0_i32_178 v192
  v193.toNat
def k0_dev8 (d0 : Dev nD) : Nat :=
  let c0_i32_222 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_221 : BitVec 32 := 1#32
  let v241 : BitVec 32 := Scalar.muli v7 c1_i32_221
  let v242 : BitVec 32 := Scalar.addi c0_i32_222 v241
  v242.toNat
def k0_off9 (d0 : Dev nD) (c0_i32_91 : BitVec 32) (c0_i32_240 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v107 : BitVec 32 := Scalar.addi v2 c0_i32_91
  let c1_i32_92 : BitVec 32 := 1#32
  let v108 : BitVec 32 := Scalar.addi v107 c1_i32_92
  let c4_i32_93 : BitVec 32 := 4#32
  let v109 : BitVec 32 := Scalar.remsi v108 c4_i32_93
  let c1024_i32_239 : BitVec 32 := 1024#32
  let v262 : BitVec 32 := Scalar.muli v109 c1024_i32_239
  let v263 : BitVec 32 := Scalar.addi v262 c0_i32_240
  let c1024_i32_246 : BitVec 32 := 1024#32
  ![v263.toNat, 1024]
def k0_off10 (d0 : Dev nD) (c0_i32_91 : BitVec 32) (c0_i32_255 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v107 : BitVec 32 := Scalar.addi v2 c0_i32_91
  let c1_i32_92 : BitVec 32 := 1#32
  let v108 : BitVec 32 := Scalar.addi v107 c1_i32_92
  let c4_i32_93 : BitVec 32 := 4#32
  let v109 : BitVec 32 := Scalar.remsi v108 c4_i32_93
  let c1024_i32_254 : BitVec 32 := 1024#32
  let v276 : BitVec 32 := Scalar.muli v109 c1024_i32_254
  let v277 : BitVec 32 := Scalar.addi v276 c0_i32_255
  let v278 : Index := Scalar.indexCast v277
  let c1024_256 : Index := 1024#32
  ![v278.toNat, 1024]
def k0_dev9 (d0 : Dev nD) : Nat :=
  let c0_i32_268 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_267 : BitVec 32 := 1#32
  let v290 : BitVec 32 := Scalar.muli v5 c1_i32_267
  let v291 : BitVec 32 := Scalar.addi c0_i32_268 v290
  v291.toNat
def k0_dev10 (d0 : Dev nD) : Nat :=
  let c0_i32_300 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_299 : BitVec 32 := 1#32
  let v326 : BitVec 32 := Scalar.muli v5 c1_i32_299
  let v327 : BitVec 32 := Scalar.addi c0_i32_300 v326
  v327.toNat
def k0_dev11 (d0 : Dev nD) : Nat :=
  let c0_i32_395 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_394 : BitVec 32 := 1#32
  let v423 : BitVec 32 := Scalar.muli v7 c1_i32_394
  let v424 : BitVec 32 := Scalar.addi c0_i32_395 v423
  v424.toNat
def k0_dev12 (d0 : Dev nD) : Nat :=
  let c0_i32_440 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_439 : BitVec 32 := 1#32
  let v472 : BitVec 32 := Scalar.muli v7 c1_i32_439
  let v473 : BitVec 32 := Scalar.addi c0_i32_440 v472
  v473.toNat
def k0_dev13 (d0 : Dev nD) : Nat :=
  let c0_i32_486 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_485 : BitVec 32 := 1#32
  let v521 : BitVec 32 := Scalar.muli v5 c1_i32_485
  let v522 : BitVec 32 := Scalar.addi c0_i32_486 v521
  v522.toNat
def k0_dev14 (d0 : Dev nD) : Nat :=
  let c0_i32_518 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_517 : BitVec 32 := 1#32
  let v557 : BitVec 32 := Scalar.muli v5 c1_i32_517
  let v558 : BitVec 32 := Scalar.addi c0_i32_518 v557
  v558.toNat
def k0_dev15 (d0 : Dev nD) : Nat :=
  let c0_i32_612 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_611 : BitVec 32 := 1#32
  let v654 : BitVec 32 := Scalar.muli v7 c1_i32_611
  let v655 : BitVec 32 := Scalar.addi c0_i32_612 v654
  v655.toNat
def k0_dev16 (d0 : Dev nD) : Nat :=
  let c0_i32_657 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_656 : BitVec 32 := 1#32
  let v703 : BitVec 32 := Scalar.muli v7 c1_i32_656
  let v704 : BitVec 32 := Scalar.addi c0_i32_657 v703
  v704.toNat
def k0_dev17 (d0 : Dev nD) : Nat :=
  let c0_i32_703 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_702 : BitVec 32 := 1#32
  let v752 : BitVec 32 := Scalar.muli v5 c1_i32_702
  let v753 : BitVec 32 := Scalar.addi c0_i32_703 v752
  v753.toNat
def k0_dev18 (d0 : Dev nD) : Nat :=
  let c0_i32_735 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_734 : BitVec 32 := 1#32
  let v788 : BitVec 32 := Scalar.muli v5 c1_i32_734
  let v789 : BitVec 32 := Scalar.addi c0_i32_735 v788
  v789.toNat
def k0_off11 (d0 : Dev nD) (c0_i32_744 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_738 : BitVec 32 := 1#32
  let v796 : BitVec 32 := Scalar.addi v2 c1_i32_738
  let c4_i32_739 : BitVec 32 := 4#32
  let v797 : BitVec 32 := Scalar.remsi v796 c4_i32_739
  let c1024_i32_743 : BitVec 32 := 1024#32
  let v801 : BitVec 32 := Scalar.muli v797 c1024_i32_743
  let v802 : BitVec 32 := Scalar.addi v801 c0_i32_744
  let v803 : Index := Scalar.indexCast v802
  let c0_745 : Index := 0#32
  ![v803.toNat, 0]
def k0_off12 (d0 : Dev nD) (c0_i32_749 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_740 : BitVec 32 := 1#32
  let v798 : BitVec 32 := Scalar.subi v2 c1_i32_740
  let c4_i32_741 : BitVec 32 := 4#32
  let v799 : BitVec 32 := Scalar.addi v798 c4_i32_741
  let c4_i32_742 : BitVec 32 := 4#32
  let v800 : BitVec 32 := Scalar.remsi v799 c4_i32_742
  let c1024_i32_748 : BitVec 32 := 1024#32
  let v811 : BitVec 32 := Scalar.muli v800 c1024_i32_748
  let v812 : BitVec 32 := Scalar.addi v811 c0_i32_749
  let v813 : Index := Scalar.indexCast v812
  let c1024_750 : Index := 1024#32
  ![v813.toNat, 1024]
def k0_off13 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v842 : Index := Scalar.indexCast v2
  let c0_760 : Index := 0#32
  let c0_761 : Index := 0#32
  ![v842.toNat, 0, 0]
def k0_off14 (d0 : Dev nD) (c0_i32_762 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v846 : BitVec 32 := Scalar.subi v2 c0_i32_762
  let c4_i32_763 : BitVec 32 := 4#32
  let v847 : BitVec 32 := Scalar.addi v846 c4_i32_763
  let c4_i32_764 : BitVec 32 := 4#32
  let v848 : BitVec 32 := Scalar.remsi v847 c4_i32_764
  let c0_i32_769 : BitVec 32 := 0#32
  let c0_i32_770 : BitVec 32 := 0#32
  ![v848.toNat, 0, 0]
def k0_dev19 (d0 : Dev nD) : Nat :=
  let c0_i32_768 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_767 : BitVec 32 := 1#32
  let v849 : BitVec 32 := Scalar.muli v7 c1_i32_767
  let v850 : BitVec 32 := Scalar.addi c0_i32_768 v849
  v850.toNat
def k0_off15 (d0 : Dev nD) (c0_i32_773 : BitVec 32) (c0_i32_779 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v857 : BitVec 32 := Scalar.subi v2 c0_i32_773
  let c4_i32_774 : BitVec 32 := 4#32
  let v858 : BitVec 32 := Scalar.addi v857 c4_i32_774
  let c4_i32_775 : BitVec 32 := 4#32
  let v859 : BitVec 32 := Scalar.remsi v858 c4_i32_775
  let c1024_i32_778 : BitVec 32 := 1024#32
  let v862 : BitVec 32 := Scalar.muli v859 c1024_i32_778
  let v863 : BitVec 32 := Scalar.addi v862 c0_i32_779
  let c0_i32_785 : BitVec 32 := 0#32
  ![v863.toNat, 0]
def k0_dev20 (d0 : Dev nD) : Nat :=
  let c0_i32_799 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_798 : BitVec 32 := 1#32
  let v880 : BitVec 32 := Scalar.muli v7 c1_i32_798
  let v881 : BitVec 32 := Scalar.addi c0_i32_799 v880
  v881.toNat
def k0_dev21 (d0 : Dev nD) : Nat :=
  let c0_i32_826 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_825 : BitVec 32 := 1#32
  let v904 : BitVec 32 := Scalar.muli v7 c1_i32_825
  let v905 : BitVec 32 := Scalar.addi c0_i32_826 v904
  v905.toNat
def k0_dev22 (d0 : Dev nD) : Nat :=
  let c0_i32_852 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_851 : BitVec 32 := 1#32
  let v930 : BitVec 32 := Scalar.muli v7 c1_i32_851
  let v931 : BitVec 32 := Scalar.addi c0_i32_852 v930
  v931.toNat
def k0_off16 (d0 : Dev nD) (c0_i32_776 : BitVec 32) (c0_i32_856 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v860 : BitVec 32 := Scalar.addi v2 c0_i32_776
  let c4_i32_777 : BitVec 32 := 4#32
  let v861 : BitVec 32 := Scalar.remsi v860 c4_i32_777
  let c1024_i32_855 : BitVec 32 := 1024#32
  let v938 : BitVec 32 := Scalar.muli v861 c1024_i32_855
  let v939 : BitVec 32 := Scalar.addi v938 c0_i32_856
  let c1024_i32_862 : BitVec 32 := 1024#32
  ![v939.toNat, 1024]
def k0_dev23 (d0 : Dev nD) : Nat :=
  let c0_i32_877 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_876 : BitVec 32 := 1#32
  let v956 : BitVec 32 := Scalar.muli v5 c1_i32_876
  let v957 : BitVec 32 := Scalar.addi c0_i32_877 v956
  v957.toNat
def k0_dev24 (d0 : Dev nD) : Nat :=
  let c0_i32_902 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_901 : BitVec 32 := 1#32
  let v982 : BitVec 32 := Scalar.muli v5 c1_i32_901
  let v983 : BitVec 32 := Scalar.addi c0_i32_902 v982
  v983.toNat
def k0_dev25 (d0 : Dev nD) : Nat :=
  let c0_i32_931 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_930 : BitVec 32 := 1#32
  let v1013 : BitVec 32 := Scalar.muli v7 c1_i32_930
  let v1014 : BitVec 32 := Scalar.addi c0_i32_931 v1013
  v1014.toNat
def k0_dev26 (d0 : Dev nD) : Nat :=
  let c0_i32_958 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_957 : BitVec 32 := 1#32
  let v1037 : BitVec 32 := Scalar.muli v7 c1_i32_957
  let v1038 : BitVec 32 := Scalar.addi c0_i32_958 v1037
  v1038.toNat
def k0_dev27 (d0 : Dev nD) : Nat :=
  let c0_i32_984 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_983 : BitVec 32 := 1#32
  let v1063 : BitVec 32 := Scalar.muli v7 c1_i32_983
  let v1064 : BitVec 32 := Scalar.addi c0_i32_984 v1063
  v1064.toNat
def k0_dev28 (d0 : Dev nD) : Nat :=
  let c0_i32_1009 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1008 : BitVec 32 := 1#32
  let v1089 : BitVec 32 := Scalar.muli v5 c1_i32_1008
  let v1090 : BitVec 32 := Scalar.addi c0_i32_1009 v1089
  v1090.toNat
def k0_dev29 (d0 : Dev nD) : Nat :=
  let c0_i32_1034 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1033 : BitVec 32 := 1#32
  let v1115 : BitVec 32 := Scalar.muli v5 c1_i32_1033
  let v1116 : BitVec 32 := Scalar.addi c0_i32_1034 v1115
  v1116.toNat
def k0_off17 (d0 : Dev nD) (c0_i32_1068 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_738 : BitVec 32 := 1#32
  let v796 : BitVec 32 := Scalar.addi v2 c1_i32_738
  let c4_i32_739 : BitVec 32 := 4#32
  let v797 : BitVec 32 := Scalar.remsi v796 c4_i32_739
  let c1024_i32_1067 : BitVec 32 := 1024#32
  let v1149 : BitVec 32 := Scalar.muli v797 c1024_i32_1067
  let v1150 : BitVec 32 := Scalar.addi v1149 c0_i32_1068
  let v1151 : Index := Scalar.indexCast v1150
  let c0_1069 : Index := 0#32
  ![v1151.toNat, 0]
def k0_off18 (d0 : Dev nD) (c0_i32_1091 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_1089 : BitVec 32 := 4#32
  let v1217 : BitVec 32 := Scalar.remsi v2 c4_i32_1089
  let c1024_i32_1090 : BitVec 32 := 1024#32
  let v1218 : BitVec 32 := Scalar.muli v1217 c1024_i32_1090
  let v1219 : BitVec 32 := Scalar.addi v1218 c0_i32_1091
  let v1220 : Index := Scalar.indexCast v1219
  let c0_1092 : Index := 0#32
  ![v1220.toNat, 0]
def k0_off19 (d0 : Dev nD) (c0_i32_1115 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_740 : BitVec 32 := 1#32
  let v798 : BitVec 32 := Scalar.subi v2 c1_i32_740
  let c4_i32_741 : BitVec 32 := 4#32
  let v799 : BitVec 32 := Scalar.addi v798 c4_i32_741
  let c4_i32_742 : BitVec 32 := 4#32
  let v800 : BitVec 32 := Scalar.remsi v799 c4_i32_742
  let c1024_i32_1114 : BitVec 32 := 1024#32
  let v1286 : BitVec 32 := Scalar.muli v800 c1024_i32_1114
  let v1287 : BitVec 32 := Scalar.addi v1286 c0_i32_1115
  let v1288 : Index := Scalar.indexCast v1287
  let c1024_1116 : Index := 1024#32
  ![v1288.toNat, 1024]
def k0_off20 (d0 : Dev nD) (c0_i32_1140 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_1138 : BitVec 32 := 4#32
  let v1354 : BitVec 32 := Scalar.remsi v2 c4_i32_1138
  let c1024_i32_1139 : BitVec 32 := 1024#32
  let v1355 : BitVec 32 := Scalar.muli v1354 c1024_i32_1139
  let v1356 : BitVec 32 := Scalar.addi v1355 c0_i32_1140
  let v1357 : Index := Scalar.indexCast v1356
  let c1024_1141 : Index := 1024#32
  ![v1357.toNat, 1024]
def k0_off21 (d0 : Dev nD) (c2_i32_1037 : BitVec 32) (c0_i32_1179 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1123 : BitVec 32 := Scalar.subi v2 c2_i32_1037
  let c4_i32_1038 : BitVec 32 := 4#32
  let v1124 : BitVec 32 := Scalar.addi v1123 c4_i32_1038
  let c4_i32_1039 : BitVec 32 := 4#32
  let v1125 : BitVec 32 := Scalar.remsi v1124 c4_i32_1039
  let c1024_i32_1178 : BitVec 32 := 1024#32
  let v1437 : BitVec 32 := Scalar.muli v1125 c1024_i32_1178
  let v1438 : BitVec 32 := Scalar.addi v1437 c0_i32_1179
  let v1439 : Index := Scalar.indexCast v1438
  let c0_1180 : Index := 0#32
  ![v1439.toNat, 0]
def k0_off22 (d0 : Dev nD) (c2_i32_1040 : BitVec 32) (c0_i32_1233 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1126 : BitVec 32 := Scalar.addi v2 c2_i32_1040
  let c4_i32_1041 : BitVec 32 := 4#32
  let v1127 : BitVec 32 := Scalar.remsi v1126 c4_i32_1041
  let c1024_i32_1232 : BitVec 32 := 1024#32
  let v1533 : BitVec 32 := Scalar.muli v1127 c1024_i32_1232
  let v1534 : BitVec 32 := Scalar.addi v1533 c0_i32_1233
  let v1535 : Index := Scalar.indexCast v1534
  let c1024_1234 : Index := 1024#32
  ![v1535.toNat, 1024]
abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩
abbrev S1x1 : Shape := ⟨2, ![1, 1]⟩

abbrev nBuf : Space → Nat
  | .hbm => 16
  | .vmem => 2
  | .smem => 1
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .fp8e4m3⟩
  | .hbm, ⟨14, _⟩ => ⟨S1x1, .f32⟩
  | .hbm, ⟨15, _⟩ => ⟨S4096x2048, .f32⟩
  | .local _ .vmem, ⟨0, _⟩ => ⟨S4096x2048, .fp8e4m3⟩
  | .local _ .vmem, ⟨1, _⟩ => ⟨S4096x2048, .f32⟩
  | .local _ .smem, ⟨0, _⟩ => ⟨S1x1, .f32⟩
  | _, _ => ⟨S4096x4096, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg2_0 : Ref sig .tc := ⟨.vmem, 1, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Blocks.lean ====
/-
  Blocks: what a device owns of its buffers, rectangle by rectangle.

  A `blk` is one rectangle of a buffer, owned outright, together with the values it reads: no contents function of the
  whole buffer is mentioned. Each step rule below takes a block before an operation to the block after it.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Transfers
public import Idealize.ShloMosaic.Lib.Tactic

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds, the kernel's rounds (duties `Bool`), the local copies' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The kernel's own cells: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

abbrev 𝒱₀ : Variants := Variants.none

/-- The weakest precondition of a program of the kernel on device `c`. -/
abbrev wpc {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Blocks -/

/-- The rectangle of `m` at `off` of size `sz` on device `c`, owned outright and reading `v`. -/
def blk (c : Dev nD) {cs : Space} {s : Shape} {e : EltTy} (m : Memref sig .tc cs s e) (off sz : Fin s.rank → ℕ)
    (inb : ∀ a, off a + sz a ≤ s.size a) (v : (Rect.unit off sz inb).shape.Idx → Elt F e) : sProp 𝕄 :=
  iprop(∃ f : Buf (Elt F) ((m.access (Rect.unit off sz inb)).loc (c : Thread nD τ)), ⌜(m.access (Rect.unit off sz inb)).read (Elt F) f = v⌝
    ∗ (m.access (Rect.unit off sz inb)).loc (c : Thread nD τ) ↦[(m.access (Rect.unit off sz inb)).set]{fullShare} f)

instance blk_storable (c : Dev nD) {cs : Space} {s : Shape} {e : EltTy} (m : Memref sig .tc cs s e) (off sz : Fin s.rank → ℕ)
    (inb : ∀ a, off a + sz a ≤ s.size a) (v : (Rect.unit off sz inb).shape.Idx → Elt F e) :
    BI.Storable (upEmb : UEmb _ 𝕄) (blk c m off sz inb v) := by unfold blk; infer_instance

section Steps

variable (c : Dev nD) {cs : CoreSpace} {s : Shape} {e : EltTy} {m : Memref sig .tc cs s e} {off off' sz : Fin s.rank → ℕ}
  {inb : ∀ a, off a + sz a ≤ s.size a} {inb' : ∀ a, off' a + sz a ≤ s.size a}

/-- A load of a block reads its values. -/
theorem ld_blk {α : Type} {Q : α → sProp 𝕄} (h : off' = off) {v : (Rect.unit off sz inb).shape.Idx → Elt F e}
    {hl : m.view.LoadsAt (Rect.unit off' sz inb').toLoadRect}
    {k : ((Rect.unit off' sz inb').shape.Idx → Elt F e) → Prog (TpuEff nD τ sig (Elt F) Λ₀ .tc) α} :
    blk c m off sz inb v ⊢ iprop((blk c m off sz inb v -∗ wpc c (k v) Q)
      -∗ wpc c (.op (.load m (Rect.unit off' sz inb').toLoadRect hl) k) Q) := by
  subst h
  unfold blk
  iintro ⟨%f, %hf, H⟩ Hk
  iapply (wp_load_rect 𝒱₀ (c : Thread nD τ) none Set.univ (m := m) (r := Rect.unit off' sz inb') subset_rfl) $$ H
  iintro H
  rw [hf]
  iapply Hk
  iexists f
  isplitr; · ipureintro; exact hf
  iexact H

/-- A store to a block leaves the values stored. -/
theorem st_blk {α : Type} {Q : α → sProp 𝕄} (h : off' = off) {v : (Rect.unit off sz inb).shape.Idx → Elt F e}
    {w : (Rect.unit off' sz inb').shape.Idx → Elt F e}
    {hx : (m.access (Rect.unit off' sz inb')).Stores Finset.univ} {hm : (Finset.univ : Finset (Rect.unit off' sz inb').shape.Idx) = Finset.univ ∨ ∀ a, (Rect.unit off' sz inb').stride a = 1}
    {k : PUnit → Prog (TpuEff nD τ sig (Elt F) Λ₀ .tc) α} :
    blk c m off sz inb v ⊢ iprop((blk c m off sz inb w -∗ wpc c (k ⟨⟩) Q)
      -∗ wpc c (.op (.store m (Rect.unit off' sz inb') w Finset.univ hx hm) k) Q) := by
  subst h
  unfold blk
  iintro ⟨%f, %hf, H⟩ Hk
  iapply (wp_store 𝒱₀ (c : Thread nD τ) none Set.univ (m := m) (r := Rect.unit off' sz inb') (hx := hx) (hm := hm) (S := (m.access (Rect.unit off' sz inb')).set) subset_rfl) $$ H
  iintro H
  iapply Hk
  iexists _
  isplitr; · ipureintro; exact View.read_write_univ f w
  iexact H

/-- A dead load and the store that follows it. -/
theorem ldst_blk {α : Type} {Q : α → sProp 𝕄} (h : off' = off) {v : (Rect.unit off sz inb).shape.Idx → Elt F e}
    {w : (Rect.unit off' sz inb').shape.Idx → Elt F e} {hl : m.view.LoadsAt (Rect.unit off' sz inb').toLoadRect}
    {hx : (m.access (Rect.unit off' sz inb')).Stores Finset.univ} {hm : (Finset.univ : Finset (Rect.unit off' sz inb').shape.Idx) = Finset.univ ∨ ∀ a, (Rect.unit off' sz inb').stride a = 1}
    {k : PUnit → Prog (TpuEff nD τ sig (Elt F) Λ₀ .tc) α} :
    blk c m off sz inb v ⊢ iprop((blk c m off sz inb w -∗ wpc c (k ⟨⟩) Q)
      -∗ wpc c (.op (.load m (Rect.unit off' sz inb').toLoadRect hl) fun _ => .op (.store m (Rect.unit off' sz inb') w Finset.univ hx hm) k) Q) := by
  iintro H Hk
  iapply (ld_blk c h) $$ H
  iintro H
  iapply (st_blk c h) $$ H
  iexact Hk

end Steps

/-! ## Shares of a block -/

/-- The share `q` of the rectangle of `m` at `off` of size `sz` on device `c`, reading `v`: it may be read, not written. -/
def blkQ (q : PosShare TreeShare) (c : Dev nD) {cs : Space} {s : Shape} {e : EltTy} (m : Memref sig .tc cs s e) (off sz : Fin s.rank → ℕ)
    (inb : ∀ a, off a + sz a ≤ s.size a) (v : (Rect.unit off sz inb).shape.Idx → Elt F e) : sProp 𝕄 :=
  iprop(∃ f : Buf (Elt F) ((m.access (Rect.unit off sz inb)).loc (c : Thread nD τ)), ⌜(m.access (Rect.unit off sz inb)).read (Elt F) f = v⌝
    ∗ (m.access (Rect.unit off sz inb)).loc (c : Thread nD τ) ↦[(m.access (Rect.unit off sz inb)).set]{q} f)

instance blkQ_storable (q : PosShare TreeShare) (c : Dev nD) {cs : Space} {s : Shape} {e : EltTy} (m : Memref sig .tc cs s e) (off sz : Fin s.rank → ℕ)
    (inb : ∀ a, off a + sz a ≤ s.size a) (v : (Rect.unit off sz inb).shape.Idx → Elt F e) :
    BI.Storable (upEmb : UEmb _ 𝕄) (blkQ q c m off sz inb v) := by unfold blkQ; infer_instance

section Shares

variable (c : Dev nD)

theorem blk_halves {cs : Space} {s : Shape} {e : EltTy} {m : Memref sig .tc cs s e} {off sz : Fin s.rank → ℕ}
    {inb : ∀ a, off a + sz a ≤ s.size a} {v : (Rect.unit off sz inb).shape.Idx → Elt F e} :
    blk c m off sz inb v ⊢ iprop(blkQ fullShare.left c m off sz inb v ∗ blkQ fullShare.right c m off sz inb v) := by
  unfold blk blkQ
  iintro ⟨%f, %hf, H⟩
  ihave H := (pointsTo_share (PosShare.mem_left_op_right fullShare)).1 $$ H
  icases H with ⟨H₁, H₂⟩
  isplitl [H₁]
  · iexists f
    isplitr; · ipureintro; exact hf
    iexact H₁
  · iexists f
    isplitr; · ipureintro; exact hf
    iexact H₂
theorem halves_blk {cs : Space} {s : Shape} {e : EltTy} {m : Memref sig .tc cs s e} {off sz : Fin s.rank → ℕ}
    {inb : ∀ a, off a + sz a ≤ s.size a} {v v' : (Rect.unit off sz inb).shape.Idx → Elt F e} :
    blkQ fullShare.left c m off sz inb v ⊢ iprop(blkQ fullShare.right c m off sz inb v' -∗ blk c m off sz inb v) := by
  unfold blk blkQ
  iintro ⟨%f, %hf, H₁⟩ ⟨%g, %hg, H₂⟩
  ihave %ha := pointsTo_agree $$ [H₁ H₂]
  · isplitl [H₁]; · iexact H₁
    iexact H₂
  iexists f
  isplitr; · ipureintro; exact hf
  iapply (pointsTo_share (PosShare.mem_left_op_right fullShare)).2
  isplitl [H₁]; · iexact H₁
  iapply (Entails.of_eq (pointsTo_congr (f := g) (g := f) fun i hi => (ha i (Finset.mem_inter.mpr ⟨hi, hi⟩)).1.symm)) $$ H₂

/-- A load reads a share's values. -/
theorem ld_blkQ {cs : CoreSpace} {s : Shape} {e : EltTy} {m : Memref sig .tc cs s e} {off off' sz : Fin s.rank → ℕ}
    {inb : ∀ a, off a + sz a ≤ s.size a} {inb' : ∀ a, off' a + sz a ≤ s.size a} {q : PosShare TreeShare}
    {α : Type} {Q : α → sProp 𝕄} (h : off' = off) {v : (Rect.unit off sz inb).shape.Idx → Elt F e}
    {hl : m.view.LoadsAt (Rect.unit off' sz inb').toLoadRect}
    {k : ((Rect.unit off' sz inb').shape.Idx → Elt F e) → Prog (TpuEff nD τ sig (Elt F) Λ₀ .tc) α} :
    blkQ q c m off sz inb v ⊢ iprop((blkQ q c m off sz inb v -∗ wpc c (k v) Q)
      -∗ wpc c (.op (.load m (Rect.unit off' sz inb').toLoadRect hl) k) Q) := by
  subst h
  unfold blkQ
  iintro ⟨%f, %hf, H⟩ Hk
  iapply (wp_load_rect 𝒱₀ (c : Thread nD τ) none Set.univ (m := m) (r := Rect.unit off' sz inb') subset_rfl) $$ H
  iintro H
  rw [hf]
  iapply Hk
  iexists f
  isplitr; · ipureintro; exact hf
  iexact H

end Shares

/-! ## The buffers -/

abbrev xA : Memref sig .tc .hbm S4096x1024 .f32 := Memref.whole main_arg0
abbrev wM : Memref sig .tc .vmem S1024x2048 .f32 := Memref.whole cc0_stg0_0
abbrev oM : Memref sig .tc .vmem S4096x2048 .f32 := Memref.whole cc0_stg1_0
abbrev xb : Memref sig .tc .vmem S2x512x1024 .f32 := Memref.whole cc0_scratch0
abbrev pm : Memref sig .tc .vmem S2x1024x1024 .f32 := Memref.whole cc0_scratch1
abbrev mm : Memref sig .tc .vmem S4x8x128 .f32 := Memref.whole cc0_scratch2

theorem inb_o (q : Fin 4) (s b : Fin 2) : ∀ a, (![1024 * q.val + 512 * s.val, 1024 * b.val] : Fin 2 → ℕ) a + S512x1024.size a ≤ S4096x2048.size a := by
  revert q s b; decide
theorem inb_x (q : Fin 4) (s : Fin 2) : ∀ a, (![1024 * q.val + 512 * s.val, 0] : Fin 2 → ℕ) a + S512x1024.size a ≤ S4096x1024.size a := by
  revert q s; decide
theorem inb_k (k : Fin 2) : ∀ a, (![k.val, 0, 0] : Fin 3 → ℕ) a + S1x512x1024.size a ≤ S2x512x1024.size a := by
  revert k; decide
theorem inb_p (b s : Fin 2) : ∀ a, (![b.val, 512 * s.val, 0] : Fin 3 → ℕ) a + S1x512x1024.size a ≤ S2x1024x1024.size a := by
  revert b s; decide
theorem inb_m (q : Fin 4) : ∀ a, (![q.val, 0, 0] : Fin 3 → ℕ) a + S1x8x128.size a ≤ S4x8x128.size a := by
  revert q; decide
theorem inb_w (b : Fin 2) : ∀ a, (![0, 1024 * b.val] : Fin 2 → ℕ) a + S1024x1024.size a ≤ S1024x2048.size a := by
  revert b; decide

/-- Rows `1024 q + 512 s …` of column half `b` of the output buffer. -/
def oB (c : Dev nD) (q : Fin 4) (s b : Fin 2) (v : Vec F S512x1024 .f32) : sProp 𝕄 :=
  blk c oM ![1024 * q.val + 512 * s.val, 1024 * b.val] S512x1024.size (inb_o q s b) v
/-- The same rows, whatever they hold. -/
def oE (c : Dev nD) (q : Fin 4) (s b : Fin 2) : sProp 𝕄 := iprop(∃ v, oB (F := F) c q s b v)
/-- Sub-block `s` of the partial products of column half `b`. -/
def pB (c : Dev nD) (b s : Fin 2) (v : Vec F S1x512x1024 .f32) : sProp 𝕄 :=
  blk c pm ![b.val, 512 * s.val, 0] S1x512x1024.size (inb_p b s) v
/-- Row `q` of the maxima's buffer. -/
def mB (c : Dev nD) (q : Fin 4) (v : Vec F S1x8x128 .f32) : sProp 𝕄 :=
  blk c mm ![q.val, 0, 0] S1x8x128.size (inb_m q) v
def mE (c : Dev nD) (q : Fin 4) : sProp 𝕄 := iprop(∃ v, mB (F := F) c q v)
/-- The share `u` of the same blocks. -/
def oBQ (u : PosShare TreeShare) (c : Dev nD) (q : Fin 4) (s b : Fin 2) (v : Vec F S512x1024 .f32) : sProp 𝕄 :=
  blkQ u c oM ![1024 * q.val + 512 * s.val, 1024 * b.val] S512x1024.size (inb_o q s b) v
def mBQ (u : PosShare TreeShare) (c : Dev nD) (q : Fin 4) (v : Vec F S1x8x128 .f32) : sProp 𝕄 :=
  blkQ u c mm ![q.val, 0, 0] S1x8x128.size (inb_m q) v

instance (u : PosShare TreeShare) (c : Dev nD) (q : Fin 4) (s b : Fin 2) (v : Vec F S512x1024 .f32) : BI.Storable (upEmb : UEmb _ 𝕄) (oBQ u c q s b v) := by
  unfold oBQ; infer_instance
instance (u : PosShare TreeShare) (c : Dev nD) (q : Fin 4) (v : Vec F S1x8x128 .f32) : BI.Storable (upEmb : UEmb _ 𝕄) (mBQ u c q v) := by
  unfold mBQ; infer_instance

instance (c : Dev nD) (q : Fin 4) (s b : Fin 2) (v : Vec F S512x1024 .f32) : BI.Storable (upEmb : UEmb _ 𝕄) (oB c q s b v) := by
  unfold oB; infer_instance
instance (c : Dev nD) (q : Fin 4) (s b : Fin 2) : BI.Storable (upEmb : UEmb _ 𝕄) (oE (F := F) c q s b) := by
  unfold oE; infer_instance
instance (c : Dev nD) (q : Fin 4) (v : Vec F S1x8x128 .f32) : BI.Storable (upEmb : UEmb _ 𝕄) (mB c q v) := by
  unfold mB; infer_instance
instance (c : Dev nD) (q : Fin 4) : BI.Storable (upEmb : UEmb _ 𝕄) (mE (F := F) c q) := by
  unfold mE; infer_instance

/-! ## The inputs -/

variable (m : (ℓ : Loc nD τ sig) → Buf (Elt F) ℓ)

/-- Device `c`'s rows `1024 q + 512 s …` of `x`. -/
def xrow (c : Dev nD) (q : Fin 4) (s : Fin 2) : Vec F S512x1024 .f32 :=
  (xA.access (Rect.unit (s := S4096x1024) ![1024 * q.val + 512 * s.val, 0] S512x1024.size (inb_x q s))).read (Elt F) (m ((c : Thread nD τ).loc main_arg0))

theorem numel_slot : S1x512x1024.numel = S512x1024.numel := squeezes_S1x512x1024_S512x1024.numel_eq.symm

/-- The same as they lie in a slot of the copy buffer. -/
def x3 (c : Dev nD) (q : Fin 4) (s : Fin 2) : Vec F S1x512x1024 .f32 := fun j => xrow m c q s (Shape.reshapeEquiv numel_slot j)

/-! ## The copies of `x` into the two slots -/

/-- The copy semaphore of slot `k`. -/
def xsem (k : Fin 2) : DmaSem sig := ⟨2 + k.val, by have := k.isLt; show 2 + k.val < 58; omega⟩

/-- The half share of `x` that slot `k`'s copies read it through. -/
def qx (k : Fin 2) : PosShare TreeShare := if k = 0 then fullShare.left else fullShare.right

def xRes (c : Dev nD) (k : Fin 2) : sProp 𝕄 := (((c : Thread nD τ).loc main_arg0) ↦{qx k} m ((c : Thread nD τ).loc main_arg0))

/-- Slot `k` at rest, holding `v`. -/
def XR (c : Dev nD) (k : Fin 2) (v : Vec F S1x512x1024 .f32) : sProp 𝕄 :=
  iprop(xRes m c k ∗ semVal ((c : Thread nD τ), SemLoc.dma (xsem k)) 0 ∗ blk c xb ![k.val, 0, 0] S1x512x1024.size (inb_k k) v)

abbrev slotM (k : Fin 2) : Memref sig .tc .vmem S512x1024 .f32 :=
  (xb.slice (Rect.unit (s := S2x512x1024) ![k.val, 0, 0] S1x512x1024.size (inb_k k)) (fun _ => rfl)).squeeze S512x1024 squeezes_S1x512x1024_S512x1024

/-- Slot `k` while a copy that will leave `v` in it is under way. -/
def XF (c : Dev nD) (k : Fin 2) (v : Vec F S1x512x1024 .f32) : sProp 𝕄 :=
  iprop(∃ D R : sProp 𝕄, Transfers.Flight countersEmb (c : Thread nD τ) (.dma (xsem k)) () (slotM k).view.dmaCredit D ∗ R
    ∗ ⌜iprop(D ∗ R) ⊢ iprop(xRes m c k ∗ blk c xb ![k.val, 0, 0] S1x512x1024.size (inb_k k) v)⌝)

/-- A load of slot `k`. -/
theorem ld_x {α : Type} {Q : α → sProp 𝕄} (c : Dev nD) (k : Fin 2) {off : Fin 3 → ℕ} (hoff : off = ![k.val, 0, 0]) {inb : ∀ a, off a + S1x512x1024.size a ≤ S2x512x1024.size a}
    {v : Vec F S1x512x1024 .f32} {hl : xb.view.LoadsAt (Rect.unit (s := S2x512x1024) off S1x512x1024.size inb).toLoadRect}
    {kk : Vec F S1x512x1024 .f32 → Prog (TpuEff nD τ sig (Elt F) Λ₀ .tc) α} :
    XR m c k v ⊢ iprop((XR m c k v -∗ wpc c (kk v) Q)
      -∗ wpc c (.op (.load xb (Rect.unit (s := S2x512x1024) off S1x512x1024.size inb).toLoadRect hl) kk) Q) := by
  unfold XR
  iintro ⟨Hx, Hs, Hb⟩ Hk
  iapply (ld_blk c hoff) $$ Hb
  iintro Hb
  iapply Hk
  isplitl [Hx]; · iexact Hx
  isplitl [Hs] <;> iassumption

/-- The start of a copy of rows `(q, s)` of `x` into slot `k`. -/
theorem dma_x {α : Type} {Q : α → sProp 𝕄} (c : Dev nD) (k : Fin 2) (q : Fin 4) (s : Fin 2) {offx : Fin 2 → ℕ} (hoffx : offx = ![1024 * q.val + 512 * s.val, 0])
    {inbx : ∀ a, offx a + S512x1024.size a ≤ S4096x1024.size a}
    {off : Fin 3 → ℕ} (hoff : off = ![k.val, 0, 0]) {inb : ∀ a, off a + S1x512x1024.size a ≤ S2x512x1024.size a}
    {sem : DmaSem sig} (hsem : sem = xsem k) {v : Vec F S1x512x1024 .f32}
    {h₁ : (xA.slice (Rect.unit (s := S4096x1024) offx S512x1024.size inbx) (fun _ => rfl)).view.WordExact}
    {h₂ : ((xb.slice (Rect.unit (s := S2x512x1024) off S1x512x1024.size inb) (fun _ => rfl)).squeeze S512x1024 squeezes_S1x512x1024_S512x1024).view.WordExact}
    {h₃ : DmaTarget.Typed (nD := nD) (τ := τ) (p := .tc) .hbm (.dma sem) (.here ((xb.slice (Rect.unit (s := S2x512x1024) off S1x512x1024.size inb) (fun _ => rfl)).squeeze S512x1024 squeezes_S1x512x1024_S512x1024))}
    {kk : PUnit → Prog (TpuEff nD τ sig (Elt F) Λ₀ .tc) α} :
    XR m c k v ⊢ iprop((XF m c k (x3 m c q s) -∗ wpc c (kk ⟨⟩) Q)
      -∗ wpc c (.op (.enqueueDma (xA.slice (Rect.unit (s := S4096x1024) offx S512x1024.size inbx) (fun _ => rfl))
          (.here ((xb.slice (Rect.unit (s := S2x512x1024) off S1x512x1024.size inb) (fun _ => rfl)).squeeze S512x1024 squeezes_S1x512x1024_S512x1024))
          (.dma sem) h₁ h₂ h₃) kk) Q) := by
  subst hoffx hoff hsem
  unfold XR xRes
  iintro ⟨Hx, Hs, Hb⟩ Hk
  unfold blk
  icases Hb with ⟨%f, %hf, Hb⟩
  ihave Hx := (pointsTo_split_subset (Finset.subset_univ (xA.access (Rect.unit (s := S4096x1024) ![1024 * q.val + 512 * s.val, 0] S512x1024.size (inb_x q s))).set)).1 $$ Hx
  icases Hx with ⟨Hx, Hr⟩
  iapply (Transfers.wp_dmaLocal countersEmb 𝒱₀ (c : Thread nD τ) none () (slotM k).view.dmaCredit rfl (View.dmaCredit_pos _ (by decide))
    (Sd := (xb.access (Rect.unit (s := S2x512x1024) ![k.val, 0, 0] S1x512x1024.size (inb_k k))).set)
    (le_of_eq (View.set_reshape _ _))) $$ [Hx Hs Hb]
  · isplitl [Hx]; · iexact Hx
    isplitl [Hb]; · iexact Hb
    iexact Hs
  iintro HF
  iapply Hk
  unfold XF
  iexists _
  iexists _
  isplitl [HF]; · iexact HF
  isplitl [Hr]; · iexact Hr
  ipureintro
  iintro ⟨⟨Hb, Hx⟩, Hr⟩
  isplitl [Hx Hr]
  · unfold xRes
    iapply (pointsTo_split_subset (Finset.subset_univ (xA.access (Rect.unit (s := S4096x1024) ![1024 * q.val + 512 * s.val, 0] S512x1024.size (inb_x q s))).set)).2
    isplitl [Hx]; · iexact Hx
    iexact Hr
  unfold blk
  iexists _
  isplitr
  rotate_left
  · iexact Hb
  ipureintro
  funext j
  have hw := View.read_write_univ (v := (slotM k).view) f (xrow m c q s)
  have hj : Shape.reshapeEquiv numel_slot.symm (Shape.reshapeEquiv numel_slot j) = j := by
    rw [Shape.reshapeEquiv_reshapeEquiv]; exact Shape.reshapeEquiv_self _ _
  have := congrFun hw (Shape.reshapeEquiv numel_slot j)
  refine Eq.trans ?_ this
  show _ = (slotM k).view.read (Elt F) _ (Shape.reshapeEquiv numel_slot j)
  conv_lhs => rw [← hj]
  rfl

/-- The wait that ends it. -/
theorem wait_x {α : Type} {Q : α → sProp 𝕄} (c : Dev nD) (k : Fin 2)
    {off : Fin 3 → ℕ} (hoff : off = ![k.val, 0, 0]) {inb : ∀ a, off a + S1x512x1024.size a ≤ S2x512x1024.size a}
    {sem : DmaSem sig} (hsem : sem = xsem k) {v : Vec F S1x512x1024 .f32} {src : Memref sig .tc .hbm S512x1024 .f32} {h₁ : src.view.WordExact}
    {h₂ : ((xb.slice (Rect.unit (s := S2x512x1024) off S1x512x1024.size inb) (fun _ => rfl)).squeeze S512x1024 squeezes_S1x512x1024_S512x1024).view.WordExact}
    {kk : PUnit → Prog (TpuEff nD τ sig (Elt F) Λ₀ .tc) α} {O : CellTallies nD τ sig Unit} {W : Waits sig Unit} :
    iprop(XF m c k v ∗ owes (c : Thread nD τ) O W ∗ MayWait (c : Thread nD τ) (.dma (xsem k)) () O)
      ⊢ iprop((XR m c k v ∗ owes (c : Thread nD τ) O (insert (SemLoc.dma (xsem k), ()) W) -∗ wpc c (kk ⟨⟩) Q)
      -∗ wpc c (.op (.waitDma2 sem src ((xb.slice (Rect.unit (s := S2x512x1024) off S1x512x1024.size inb) (fun _ => rfl)).squeeze S512x1024 squeezes_S1x512x1024_S512x1024) h₁ h₂) kk) Q) := by
  subst hoff hsem
  unfold XF
  iintro ⟨⟨%D, %R, HF, HR, %hD⟩, HO, HM⟩ Hk
  iapply (Transfers.wp_waitLocalO countersEmb 𝒱₀ (c : Thread nD τ) none (sem := xsem k) () (N := (slotM k).view.dmaCredit) rfl) $$ [HF HO HM]
  · isplitl [HF]; · iexact HF
    isplitl [HO]; · iexact HO
    iexact HM
  iintro ⟨HD, Hs, HO⟩
  iapply Hk
  isplitr [HO]
  · unfold XR
    ihave H := hD $$ [HD HR]
    · isplitl [HD] <;> iassumption
    icases H with ⟨Hx, Hb⟩
    isplitl [Hx]; · iexact Hx
    isplitl [Hs]; · iexact Hs
    iexact Hb
  · iexact HO

end Cert.KernelProof
-- ==== Proof.Protocol.lean ====
/-
  Protocol: the kernel's transfers between devices and what each of them hands over.

  A column half `b` of the sums travels round the ring of four: half 0 to the next device, half 1 to the one before. In hop
  `h` device `c` sends chunk `ck b h c` of its rows, in two sub-blocks; the maxima's rows go round with half 0. Every
  transfer has a send cell on its sender and a receive cell on its receiver, each used once; the entry barrier has a unit
  from either neighbour, and hands over the blocks of the neighbour that the first three hops write. The blocks later hops
  write are handed over with earlier transfers (`gift`).
-/
module

public import proofs.«01_k».proof.Proof.Blocks

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The ring -/

/-- `k` devices on. -/
def fwd (c : Dev nD) (k : ℕ) : Dev nD := ⟨(c.val + k) % 4, Nat.mod_lt _ (by decide)⟩
abbrev nxt (c : Dev nD) : Dev nD := fwd c 1
abbrev prv (c : Dev nD) : Dev nD := fwd c 3

theorem prv_nxt (c : Dev nD) : prv (nxt c) = c := by revert c; decide
theorem nxt_prv (c : Dev nD) : nxt (prv c) = c := by revert c; decide
theorem nxt_ne_prv (c : Dev nD) : nxt c ≠ prv c := by revert c; decide

def ring : Dev nD ≃ Dev nD := ⟨nxt, prv, prv_nxt, nxt_prv⟩

/-- The chunk of rows device `c` sends in hop `h` of column half `b`. -/
def ck (b : Fin 2) (h : ℕ) (c : Dev nD) : Fin 4 := fwd c (if b = 0 then 3 * h else h)
/-- The device that adds to chunk `q` of half `b` as the `j`-th on its way. -/
def dv (b : Fin 2) (j : ℕ) (q : Fin 4) : Dev nD := fwd q (if b = 0 then j else 3 * j)

theorem fwd_fwd (c : Dev nD) (j k : ℕ) : fwd (fwd c j) k = fwd c (j + k) :=
  Fin.ext (by show ((c.val + j) % 4 + k) % 4 = (c.val + (j + k)) % 4; omega)
theorem fwd_congr (c : Dev nD) {j k : ℕ} (h : j % 4 = k % 4) : fwd c j = fwd c k :=
  Fin.ext (by show (c.val + j) % 4 = (c.val + k) % 4; omega)
theorem fwd_zero (c : Dev nD) : fwd c 0 = c := Fin.ext (by show (c.val + 0) % 4 = c.val; have := c.isLt; change c.val < 4 at this; omega)

theorem ck_zero (h : ℕ) (c : Dev nD) : ck 0 h c = fwd c (3 * h) := rfl
theorem ck_one (h : ℕ) (c : Dev nD) : ck 1 h c = fwd c h := rfl
theorem ck_prv (h : ℕ) (c : Dev nD) : ck 0 h (prv c) = ck 0 (h + 1) c := by
  rw [ck_zero, ck_zero, fwd_fwd]; exact fwd_congr _ (by omega)
theorem ck_nxt (h : ℕ) (c : Dev nD) : ck 1 h (nxt c) = ck 1 (h + 1) c := by
  rw [ck_one, ck_one, fwd_fwd]; exact fwd_congr _ (by omega)
theorem ck_one_prv (h : ℕ) (c : Dev nD) : ck 1 h (prv c) = ck 1 (h + 3) c := by
  rw [ck_one, ck_one, fwd_fwd]; exact fwd_congr _ (by omega)
theorem ck_zero_nxt (h : ℕ) (c : Dev nD) : ck 0 h (nxt c) = ck 0 (h + 3) c := by
  rw [ck_zero, ck_zero, fwd_fwd]; exact fwd_congr _ (by omega)
theorem dv_ck (b : Fin 2) (h : ℕ) (c : Dev nD) : dv b h (ck b h c) = c := by
  unfold dv ck
  rw [fwd_fwd]
  refine (fwd_congr c (k := 0) ?_).trans (fwd_zero c)
  split <;> omega

/-! ## What the buffers hold -/

section Contents

/-- Device `c`'s block of the weights, as staged. -/
def wst (c : Dev nD) : Vec F S1024x2048 .f32 := (win0_0.blk (0 : Fin 1)).view.read (Elt F) (m ((c : Thread nD τ).loc main_arg1))
/-- Its column half `b`. -/
def wh (c : Dev nD) (b : Fin 2) : Vec F S1024x1024 .f32 :=
  (wM.access (Rect.unit (s := S1024x2048) ![0, 1024 * b.val] S1024x1024.size (inb_w b))).read (Elt F) (wst m c)

theorem inb_h (b : Fin 2) : ∀ a, (![0, 1024 * b.val] : Fin 2 → ℕ) a + S512x1024.size a ≤ S512x2048.size a := by revert b; decide

/-- Column half `b` of 512 rows. -/
def colHalf (b : Fin 2) (v : Vec F S512x2048 .f32) : Vec F S512x1024 .f32 :=
  fun j => v ((Rect.unit (s := S512x2048) ![0, 1024 * b.val] S512x1024.size (inb_h b)).emb j)

/-- Device `c`'s partial product of sub-block `s` of its own chunk. -/
def own (c : Dev nD) (s : Fin 2) : Vec F S512x2048 .f32 := k0_pay2 (x3 m c c s) (wst m c)
/-- Device `c`'s partial product of sub-block `(q, s)`, column half `b`. -/
def part (c : Dev nD) (q : Fin 4) (s b : Fin 2) : Vec F S1x512x1024 .f32 := k0_pay4 (x3 m c q s) (wh m c b)
/-- The sum over the first `j + 1` devices on the way of sub-block `(q, s)` of column half `b`. -/
def acc (b : Fin 2) (q : Fin 4) (s : Fin 2) : ℕ → Vec F S512x1024 .f32
  | 0 => colHalf b (own m q s)
  | j + 1 => k0_pay6 (acc b q s j) (part m (dv b (j + 1) q) q s b)

/-- The maximum of device `c`'s two finished chunks, as a row of the maxima. -/
def mxv (c : Dev nD) : Vec F S1x8x128 .f32 :=
  k0_pay37 (k0_pay36 (acc m 0 (ck 0 3 c) 0 3)) (acc m 1 (ck 1 3 c) 0 3) (acc m 0 (ck 0 3 c) 1 3) (acc m 1 (ck 1 3 c) 1 3)

end Contents

/-! ## The transfers -/

/-- A hop `(b, h, s)` of the sums, or a hop `g` of the maxima. -/
abbrev T : Type := (Fin 2 × Fin 6 × Fin 2) ⊕ Fin 3
abbrev hop (b : Fin 2) (h : Fin 6) (s : Fin 2) : T := .inl (b, h, s)
abbrev sca (g : Fin 3) : T := .inr g

/-- Who receives it from `c`, and who sends it to `c`. -/
def dst : T → Dev nD → Dev nD
  | .inl (b, _, _), c => if b = 0 then nxt c else prv c
  | .inr _, c => nxt c
def src : T → Dev nD → Dev nD
  | .inl (b, _, _), c => if b = 0 then prv c else nxt c
  | .inr _, c => prv c

theorem src_dst (t : T) (c : Dev nD) : src t (dst t c) = c := by
  rcases t with ⟨b, h, s⟩ | g
  · revert b c; decide +revert
  · exact prv_nxt c
theorem dst_src (t : T) (c : Dev nD) : dst t (src t c) = c := by
  rcases t with ⟨b, h, s⟩ | g
  · revert b c; decide +revert
  · exact nxt_prv c

/-- Their cells: the two semaphores' numbers. -/
def sendSem : T → DmaSem sig
  | .inl (b, h, s) => ⟨4 + 24 * b.val + (2 * h.val + s.val), by have := b.isLt; have := h.isLt; have := s.isLt; show _ < 58; omega⟩
  | .inr g => ⟨52 + g.val, by have := g.isLt; show _ < 58; omega⟩
def recvSem : T → DmaSem sig
  | .inl (b, h, s) => ⟨16 + 24 * b.val + (2 * h.val + s.val), by have := b.isLt; have := h.isLt; have := s.isLt; show _ < 58; omega⟩
  | .inr g => ⟨55 + g.val, by have := g.isLt; show _ < 58; omega⟩

/-- The cell of transfer `t` at its sender (`false`) or its receiver (`true`). -/
def cellSem (r : Bool) (t : T) : DmaSem sig := if r then recvSem t else sendSem t

/-- Every semaphore from number 4 on is one of them. -/
def dec (q : DmaSem sig) : Option (Bool × T) :=
  let n := q.val
  if n < 4 then none
  else if n < 52 then
    some (decide (12 ≤ (n - 4) % 24),
      .inl (⟨(n - 4) / 24 % 2, Nat.mod_lt _ (by decide)⟩, ⟨(n - 4) % 12 / 2 % 6, Nat.mod_lt _ (by decide)⟩, ⟨(n - 4) % 2, Nat.mod_lt _ (by decide)⟩))
  else some (decide (3 ≤ n - 52), .inr ⟨(n - 52) % 3, Nat.mod_lt _ (by decide)⟩)

theorem dec_cellSem : ∀ (r : Bool) (t : T), dec (cellSem r t) = some (r, t) := by decide +kernel
theorem dec_send (t : T) : dec (sendSem t) = some (false, t) := dec_cellSem false t
theorem dec_recv (t : T) : dec (recvSem t) = some (true, t) := dec_cellSem true t

/-- The barrier's semaphore. -/
abbrev barS : Sem sig := (SemArray.scalar (sig.barrier 0 rfl) : Sems sig S_).sem

abbrev barCell (c : Dev nD) : GSem nD τ sig := ((c : Thread nD τ), .reg barS)
abbrev sendCell (c : Dev nD) (t : T) : GSem nD τ sig := ((c : Thread nD τ), .dma (sendSem t))
abbrev recvCell (c : Dev nD) (t : T) : GSem nD τ sig := ((c : Thread nD τ), .dma (recvSem t))

abbrev oSl (q : Fin 4) (s b : Fin 2) : Memref sig .tc .vmem S512x1024 .f32 :=
  oM.slice (Rect.unit (s := S4096x2048) ![1024 * q.val + 512 * s.val, 1024 * b.val] S512x1024.size (inb_o q s b)) (fun _ => rfl)
abbrev mSl (q : Fin 4) : Memref sig .tc .vmem S1x8x128 .f32 :=
  mm.slice (Rect.unit (s := S4x8x128) ![q.val, 0, 0] S1x8x128.size (inb_m q)) (fun _ => rfl)

/-- The credit of a transfer. -/
def NN : T → ℕ
  | .inl _ => (oSl 0 0 0).view.dmaCredit
  | .inr _ => (mSl 0).view.dmaCredit

theorem NN_pos (t : T) : 0 < NN t := by
  rcases t with t | g
  · exact View.dmaCredit_pos _ (by decide)
  · exact View.dmaCredit_pos _ (by decide)

/-- The block transfer `t` of sender `c` moves, on device `d`, at the values it moves. -/
def slotV (c d : Dev nD) : T → sProp 𝕄
  | .inl (b, h, s) => oB d (ck b h c) s b (acc m b (ck b h c) s (min h.val 3))
  | .inr g => mB d (ck 0 g c) (mxv m (ck 0 g c))
/-- A share of the sender's own block: what a send lends, and what the sender keeps meanwhile. -/
def slotQ (u : PosShare TreeShare) (c : Dev nD) : T → sProp 𝕄
  | .inl (b, h, s) => oBQ u c (ck b h c) s b (acc m b (ck b h c) s (min h.val 3))
  | .inr g => mBQ u c (ck 0 g c) (mxv m (ck 0 g c))
/-- The same block at any values. -/
def slotE (c d : Dev nD) : T → sProp 𝕄
  | .inl (b, h, s) => oE (F := F) d (ck b h c) s b
  | .inr g => mE (F := F) d (ck 0 g c)
/-- The block of the sender's that comes with transfer `t` for the receiver to write into later. -/
def gift (c : Dev nD) : T → sProp 𝕄
  | .inl (b, h, s) =>
    if b = 0 then (if 2 ≤ h.val ∧ h.val ≤ 4 then oE (F := F) c (ck 1 (h.val - 2) c) s 1 else iprop(emp))
    else (if 1 ≤ h.val ∧ h.val ≤ 3 then oE (F := F) c (ck 0 (h.val - 1) c) s 0 else iprop(emp))
  | .inr _ => iprop(emp)

instance (c d : Dev nD) (t : T) : BI.Storable (upEmb : UEmb _ 𝕄) (slotV m c d t) := by
  rcases t with ⟨b, h, s⟩ | g <;> (unfold slotV; infer_instance)
instance (u : PosShare TreeShare) (c : Dev nD) (t : T) : BI.Storable (upEmb : UEmb _ 𝕄) (slotQ m u c t) := by
  rcases t with ⟨b, h, s⟩ | g <;> (unfold slotQ; infer_instance)
instance (c d : Dev nD) (t : T) : BI.Storable (upEmb : UEmb _ 𝕄) (slotE (F := F) c d t) := by
  rcases t with ⟨b, h, s⟩ | g <;> (unfold slotE; infer_instance)
instance (c : Dev nD) (t : T) : BI.Storable (upEmb : UEmb _ 𝕄) (gift (F := F) c t) := by
  rcases t with ⟨b, h, s⟩ | g
  · unfold gift; dsimp only; (repeat' split) <;> infer_instance
  · unfold gift; infer_instance

/-! ## The schedule -/

/-- What the unit from the next device (`true`) and from the one before (`false`) hands `c`: that device's blocks the first
    three hops of `c` towards it write, -/
def barPay (c : Dev nD) : Bool → sProp 𝕄
  | true => iprop((bigSep Finset.univ fun p : Fin 3 × Fin 2 => oE (F := F) (nxt c) (ck 0 p.1 c) p.2 0) ∗ bigSep Finset.univ fun g : Fin 3 => mE (F := F) (nxt c) (ck 0 g c))
  | false => bigSep Finset.univ fun p : Fin 3 × Fin 2 => oE (F := F) (prv c) (ck 1 p.1 c) p.2 1

/-- what the end of transfer `t` hands the sender (`false`) and the receiver (`true`). -/
def xferPay (c : Dev nD) : Bool × T → sProp 𝕄
  | (false, t) => slotQ m fullShare.left c t
  | (true, t) => iprop(slotV m (src t c) c t ∗ gift (F := F) (src t c) t)

instance (c : Dev nD) (d : Bool) : BI.Storable (upEmb : UEmb _ 𝕄) (barPay (F := F) c d) := by
  cases d <;> (unfold barPay; infer_instance)
instance (c : Dev nD) (t : Bool × T) : BI.Storable (upEmb : UEmb _ 𝕄) (xferPay m c t) := by
  rcases t with ⟨_ | _, t⟩ <;> (unfold xferPay; infer_instance)

def amt : SemLoc sig → ℕ
  | .reg _ => 1
  | .dma q => match dec q with | some (_, t) => NN t | none => 1
theorem amt_pos (sm : SemLoc sig) : 0 < amt sm := by
  unfold amt
  split
  · exact Nat.one_pos
  · split
    · exact NN_pos _
    · exact Nat.one_pos

def pay (c : Dev nD) (sm : SemLoc sig) (d : Bool) : sProp 𝕄 :=
  match sm with
  | .reg _ => barPay (F := F) c d
  | .dma q => match dec q with | some t => xferPay m c t | none => iprop(emp)
instance (c : Dev nD) (sm : SemLoc sig) (d : Bool) : BI.Storable (upEmb : UEmb _ 𝕄) (pay m c sm d) := by
  unfold pay
  split
  · infer_instance
  · split <;> infer_instance

def dut (g : GSem nD τ sig) : Finset Bool :=
  if g.1.2 = .tc then (match g.2 with
    | .reg q => if q = barS then Finset.univ else ∅
    | .dma q => if (dec q).isSome then {false} else ∅) else ∅

/-- One round on each cell: the barrier's two units, a transfer's credit. -/
def rd : Rounds.Schedule (GSem nD τ sig) Bool 𝕄 where
  duties g r := if r = 0 then dut g else ∅
  unitless _ := False
  amount g _ _ := amt g.2
  payload g _ d := pay m g.1.1 g.2 d
  amount_pos g _ _ _ := amt_pos g.2

instance rd_payload_storable (g : GSem nD τ sig) (r : ℕ) (d : Bool) : BI.Storable (upEmb : UEmb _ 𝕄) ((rd m).payload g r d) :=
  (inferInstance : BI.Storable (upEmb : UEmb _ 𝕄) (pay m g.1.1 g.2 d))

section Tables
variable (c : Dev nD) (t : T)

theorem duties_bar : (rd m).duties (barCell c) 0 = Finset.univ := by
  show (if 0 = 0 then dut (barCell c) else ∅) = _
  rw [if_pos rfl]; unfold dut; rw [if_pos rfl]; exact if_pos rfl
theorem duties_send : (rd m).duties (sendCell c t) 0 = {false} := by
  show (if 0 = 0 then dut (sendCell c t) else ∅) = _
  rw [if_pos rfl]; unfold dut; rw [if_pos rfl]; dsimp only; rw [dec_send]; rfl
theorem duties_recv : (rd m).duties (recvCell c t) 0 = {false} := by
  show (if 0 = 0 then dut (recvCell c t) else ∅) = _
  rw [if_pos rfl]; unfold dut; rw [if_pos rfl]; dsimp only; rw [dec_recv]; rfl
theorem duties_later (g : GSem nD τ sig) : ∀ r, 1 ≤ r → (rd m).duties g r = ∅ :=
  fun r hr => if_neg (by omega)
theorem amount_bar (d : Bool) : (rd m).amount (barCell c) 0 d = 1 := rfl
theorem amount_send (d : Bool) : (rd m).amount (sendCell c t) 0 d = NN t := by
  show amt (.dma (sendSem t)) = _
  unfold amt; dsimp only; rw [dec_send]
theorem amount_recv (d : Bool) : (rd m).amount (recvCell c t) 0 d = NN t := by
  show amt (.dma (recvSem t)) = _
  unfold amt; dsimp only; rw [dec_recv]
theorem expect_bar : (rd m).expect (barCell c) 0 = 2 := by
  unfold Schedule.expect Schedule.amountOf
  rw [duties_bar, Finset.sum_congr rfl fun d _ => amount_bar m c d, Finset.sum_const, Finset.card_univ, Fintype.card_bool, smul_eq_mul]
theorem expect_send : (rd m).expect (sendCell c t) 0 = NN t := by
  unfold Schedule.expect Schedule.amountOf; rw [duties_send, Finset.sum_singleton, amount_send]
theorem expect_recv : (rd m).expect (recvCell c t) 0 = NN t := by
  unfold Schedule.expect Schedule.amountOf; rw [duties_recv, Finset.sum_singleton, amount_recv]
theorem payload_bar (d : Bool) : (rd m).payload (barCell c) 0 d = barPay (F := F) c d := rfl
theorem payload_send (d : Bool) : (rd m).payload (sendCell c t) 0 d = slotQ m fullShare.left c t := by
  show pay m c (.dma (sendSem t)) d = _
  unfold pay; dsimp only; rw [dec_send]; rfl
theorem payload_recv (d : Bool) : (rd m).payload (recvCell c t) 0 d = iprop(slotV m (src t c) c t ∗ gift (F := F) (src t c) t) := by
  show pay m c (.dma (recvSem t)) d = _
  unfold pay; dsimp only; rw [dec_recv]; rfl
theorem rest_bar : bigSep ((rd m).duties (barCell c) 0 \ ∅) (fun d => (rd m).payload (barCell c) 0 d)
    = iprop(barPay (F := F) c false ∗ barPay (F := F) c true) := by
  rw [Finset.sdiff_empty, duties_bar, bigSep_univ_eq_bigSepL [false, true] (by decide) (by decide), bigSepL_cons_cons, bigSepL_singleton,
    payload_bar, payload_bar]
  rfl
theorem rest_send : bigSep ((rd m).duties (sendCell c t) 0 \ ∅) (fun d => (rd m).payload (sendCell c t) 0 d) = slotQ m fullShare.left c t := by
  rw [Finset.sdiff_empty, duties_send, bigSep_singleton, payload_send]
theorem rest_recv : bigSep ((rd m).duties (recvCell c t) 0 \ ∅) (fun d => (rd m).payload (recvCell c t) 0 d)
    = iprop(slotV m (src t c) c t ∗ gift (F := F) (src t c) t) := by
  rw [Finset.sdiff_empty, duties_recv, bigSep_singleton, payload_recv]
end Tables

/-! ## What each device owes, and the levels -/

/-- The transfers in the order every device issues them. -/
def ord : List T :=
  [hop 0 0 0, hop 1 0 0, hop 0 0 1, hop 1 0 1,
   hop 0 1 0, hop 0 1 1, hop 1 1 0, hop 1 1 1,
   hop 0 2 0, hop 0 2 1, hop 1 2 0, hop 1 2 1,
   hop 0 3 0, hop 0 3 1, hop 1 3 0, hop 1 3 1,
   sca 0, hop 0 4 0, sca 1, hop 0 4 1, hop 1 4 0, hop 1 4 1,
   hop 0 5 0, sca 2, hop 0 5 1, hop 1 5 0, hop 1 5 1]

def pos (t : T) : ℕ := ord.findIdx fun t' => decide (t' = t)

theorem le_pos : ∀ n < 28, ∀ t ∈ ord.drop n, n ≤ pos t := by decide +kernel
theorem pos_lt : ∀ t : T, pos t < ord.length := by decide +kernel
theorem mem_ord (t : T) : t ∈ ord := by
  obtain ⟨t', h, e⟩ := List.findIdx_lt_length.mp (pos_lt t)
  exact of_decide_eq_true e ▸ h
theorem nodup_ord : ord.Nodup := by decide +kernel

/-- What `c` owes for the transfers of a list: each one's credit on the receiver's cell. -/
def owedL (c : Dev nD) : List T → CellTallies nD τ sig Unit
  | [] => 0
  | t :: l => owedL c l + tallyAt (recvCell (dst t c) t) () (NN t)

/-- At launch `c` owes every transfer and a unit to either neighbour's barrier. -/
def O₀ (c : Dev nD) : CellTallies nD τ sig Unit :=
  owedL c ord + tallyAt (barCell (nxt c)) () 1 + tallyAt (barCell (prv c)) () 1

def L (g : GSem nD τ sig) : Finset Unit := if g.1.2 = .tc then {()} else ∅
/-- Barrier cells at 1, the receive cell of the `i`-th transfer at `2 + i`, everything else at 0. -/
def lvs : SemLoc sig → ℕ
  | .reg q => if q = barS then 1 else 0
  | .dma q => match dec q with | some (true, t) => 2 + pos t | _ => 0
def lv (g : GSem nD τ sig) (_ : Unit) : ℕ := lvs g.2

theorem L_of_ne (g : GSem nD τ sig) (h : g.1.2 ≠ .tc) : L g = ∅ := if_neg h
theorem L_tc (c : Dev nD) (sm : SemLoc sig) : L ((c : Thread nD τ), sm) = {()} := if_pos rfl
theorem lvs_recv (t : T) : lvs (.dma (recvSem t)) = 2 + pos t := by unfold lvs; dsimp only; rw [dec_recv]
theorem lvs_send (t : T) : lvs (.dma (sendSem t)) = 0 := by unfold lvs; dsimp only; rw [dec_send]
theorem lvs_bar : lvs (.reg barS) = 1 := by unfold lvs; exact if_pos rfl

theorem owedL_pos {c : Dev nD} {l : List T} {g : GSem nD τ sig} {u : Unit} (h : 0 < owedL c l g u) :
    ∃ t ∈ l, g = recvCell (dst t c) t := by
  induction l with
  | nil => exact absurd h (Nat.lt_irrefl 0)
  | cons t l ih =>
    unfold owedL at h
    rw [Pi.add_apply, Finsupp.add_apply, tallyAt_apply] at h
    by_cases hg : g = recvCell (dst t c) t
    · exact ⟨t, List.mem_cons_self, hg⟩
    · rw [if_neg (fun h' => hg h'.1), Nat.add_zero] at h
      obtain ⟨t', ht', e⟩ := ih h
      exact ⟨t', List.mem_cons_of_mem _ ht', e⟩

theorem O₀_pos {c : Dev nD} {g : GSem nD τ sig} {u : Unit} (h : 0 < O₀ c g u) :
    (∃ t, g = recvCell (dst t c) t) ∨ g = barCell (nxt c) ∨ g = barCell (prv c) := by
  unfold O₀ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1)] at h
  rw [Nat.add_zero] at h
  obtain ⟨t, _, e⟩ := owedL_pos h
  exact hn.1 ⟨t, e⟩

/-- A wait on a cell below every transfer still to be issued. -/
theorem mayWait_of (c : Dev nD) (sm : SemLoc sig) (n : ℕ) (hn : n < 28) (h : lvs sm < 2 + n) :
    (levAts L lv : sProp 𝕄) ⊢ MayWait (c : Thread nD τ) sm () (owedL c (ord.drop n)) :=
  MayOwe.of_cut (L := L) (lev := lv) (1 + n) (fun p hp => by rw [Finset.mem_singleton.mp hp, L_tc]; exact Finset.mem_singleton_self _)
    (fun g u hg => by obtain ⟨t, _, rfl⟩ := owedL_pos hg; exact Finset.mem_singleton_self _)
    (fun p hp => by rw [Finset.mem_singleton.mp hp]; show lvs sm ≤ 1 + n; omega)
    (fun g u hg => by
      obtain ⟨t, ht, rfl⟩ := owedL_pos hg
      show 1 + n < lvs (.dma (recvSem t))
      rw [lvs_recv]
      have := le_pos n hn t ht
      omega)

/-- A wait on a level-0 cell, at launch. -/
theorem mayWait_start (c : Dev nD) (sm : SemLoc sig) (h : lvs sm = 0) :
    (levAts L lv : sProp 𝕄) ⊢ MayWait (c : Thread nD τ) sm () (O₀ c) :=
  MayOwe.of_cut (L := L) (lev := lv) 0 (fun p hp => by rw [Finset.mem_singleton.mp hp, L_tc]; exact Finset.mem_singleton_self _)
    (fun g u hg => by rcases O₀_pos hg with ⟨t, rfl⟩ | rfl | rfl <;> exact Finset.mem_singleton_self _)
    (fun p hp => by rw [Finset.mem_singleton.mp hp]; show lvs sm ≤ 0; omega)
    (fun g u hg => by
      rcases O₀_pos hg with ⟨t, rfl⟩ | rfl | rfl
      · show 0 < lvs (.dma (recvSem t)); rw [lvs_recv]; omega
      · show 0 < lvs (.reg barS); rw [lvs_bar]; decide
      · show 0 < lvs (.reg barS); rw [lvs_bar]; decide)

end Cert.KernelProof
-- ==== Proof.Grid.lean ====
/-
  Grid: a block owned outright is the same as its tiles owned outright.

  The tiles have size `sz`, tile `i` lies `k i` tiles from the block's corner along each axis, and the block is `n` tiles
  long: every position below `n` is taken once.
-/
module

public import proofs.«01_k».proof.Proof.Blocks

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

section Sep
variable {ι : Type} {S : Finset ι}

theorem sepMono {Φ Ψ : ι → sProp 𝕄} (h : ∀ i ∈ S, Φ i ⊢ Ψ i) : bigSep S Φ ⊢ bigSep S Ψ := BI.bigSep_mono h
theorem sepElim [DecidableEq ι] {Φ : ι → sProp 𝕄} {i : ι} (h : i ∈ S) : bigSep S Φ ⊢ Φ i := BI.bigSep_elim h

theorem bigSep_pure_sep [DecidableEq ι] (P : ι → Prop) (X : ι → sProp 𝕄) :
    bigSep S (fun i => iprop(⌜P i⌝ ∗ X i)) ⊢ iprop(⌜∀ i ∈ S, P i⌝ ∗ bigSep S X) := by
  have h : bigSep S (fun i => iprop(⌜P i⌝ ∗ X i)) ⊢ (⌜∀ i ∈ S, P i⌝ : sProp 𝕄) := by
    iintro H %i %hi
    ihave H' := (sepElim (Φ := fun i => iprop(⌜P i⌝ ∗ X i)) hi) $$ H
    icases H' with ⟨%h, -⟩
    ipureintro; exact h
  iintro H
  ihave H := (persistent_entails_right h) $$ H
  icases H with ⟨%h, H⟩
  isplitr; · ipureintro; exact h
  iapply (sepMono (Φ := fun i => iprop(⌜P i⌝ ∗ X i)) fun i _ => (sep_elim_right : iprop(⌜P i⌝ ∗ X i) ⊢ X i))
  iexact H

end Sep

/-- Tiles `ι` of a block: their places, from the block's corner. -/
structure Tiling {r : ℕ} (ι : Type) (off size : Fin r → ℕ) (sz : Fin r → ℕ) (toff : ι → Fin r → ℕ) where
  n : Fin r → ℕ
  k : ι → Fin r → ℕ
  size_eq : ∀ a, size a = n a * sz a
  off_eq : ∀ i a, toff i a = off a + k i a * sz a
  lt : ∀ i a, k i a < n a
  inj : ∀ i i', (∀ a, k i a = k i' a) → i = i'
  surj : ∀ κ : Fin r → ℕ, (∀ a, κ a < n a) → ∃ i, ∀ a, k i a = κ a

section
variable {s : Shape} {ι : Type} {off size : Fin s.rank → ℕ} {sz : Fin s.rank → ℕ} {toff : ι → Fin s.rank → ℕ}
  {inb : ∀ a, off a + size a ≤ s.size a} {tinb : ∀ i a, toff i a + sz a ≤ s.size a}
  (G : Tiling ι off size sz toff)
include G

/-- The place in the block of an element of a tile. -/
def Tiling.at (i : ι) (j : (Rect.unit (toff i) sz (tinb i)).shape.Idx) : (Rect.unit off size inb).shape.Idx :=
  fun a => ⟨G.k i a * sz a + (j a).val, by
    show _ < size a
    rw [G.size_eq]
    have hj : (j a).val < sz a := (j a).isLt
    calc G.k i a * sz a + (j a).val < G.k i a * sz a + sz a := by omega
      _ = (G.k i a + 1) * sz a := by rw [Nat.add_mul, Nat.one_mul]
      _ ≤ G.n a * sz a := Nat.mul_le_mul_right _ (G.lt i a)⟩

theorem Tiling.emb_at (i : ι) (j : (Rect.unit (toff i) sz (tinb i)).shape.Idx) :
    (Rect.unit off size inb).emb (G.at (inb := inb) i j) = (Rect.unit (toff i) sz (tinb i)).emb j :=
  funext fun a => Fin.ext (by
    show off a + 1 * (G.k i a * sz a + (j a).val) = toff i a + 1 * (j a).val
    rw [G.off_eq]; omega)

theorem Tiling.disj (i i' : ι) (j : (Rect.unit (toff i) sz (tinb i)).shape.Idx) (j' : (Rect.unit (toff i') sz (tinb i')).shape.Idx)
    (h : (Rect.unit (toff i) sz (tinb i)).emb j = (Rect.unit (toff i') sz (tinb i')).emb j') : i = i' :=
  G.inj i i' fun a => by
    have e : toff i a + 1 * (j a).val = toff i' a + 1 * (j' a).val := congrArg (fun x : s.Idx => (x a).val) h
    rw [G.off_eq, G.off_eq] at e
    have hj : (j a).val < sz a := (j a).isLt
    have hj' : (j' a).val < sz a := (j' a).isLt
    have h0 : 0 < sz a := by omega
    have e' : G.k i a * sz a + (j a).val = G.k i' a * sz a + (j' a).val := by omega
    have := congrArg (· / sz a) e'
    simp only [Nat.mul_comm _ (sz a), Nat.mul_add_div h0, Nat.div_eq_of_lt hj, Nat.div_eq_of_lt hj', Nat.add_zero] at this
    exact this

theorem Tiling.cover (x : (Rect.unit off size inb).shape.Idx) : ∃ i, ∃ j : (Rect.unit (toff i) sz (tinb i)).shape.Idx, G.at (inb := inb) i j = x := by
  have hx : ∀ a, (x a).val < G.n a * sz a := fun a => by
    have h : (x a).val < size a := (x a).isLt
    rwa [G.size_eq] at h
  have h0 : ∀ a, 0 < sz a := fun a => by
    rcases Nat.eq_zero_or_pos (sz a) with h | h
    · have := hx a; rw [h, Nat.mul_zero] at this; omega
    · exact h
  obtain ⟨i, hi⟩ := G.surj (fun a => (x a).val / sz a) fun a => Nat.div_lt_of_lt_mul (by rw [Nat.mul_comm]; exact hx a)
  refine ⟨i, fun a => ⟨(x a).val % sz a, Nat.mod_lt _ (h0 a)⟩, funext fun a => Fin.ext ?_⟩
  show G.k i a * sz a + (x a).val % sz a = (x a).val
  rw [hi, Nat.mul_comm]; exact Nat.div_add_mod _ _

variable [Fintype ι] (c : Dev nD) {cs : Space} {e : EltTy} (M : Memref sig .tc cs s e)

theorem Tiling.set_disj (i i' : ι) (h : i ≠ i') :
    Disjoint (M.access (Rect.unit (toff i) sz (tinb i))).set (M.access (Rect.unit (toff i') sz (tinb i'))).set := by
  rw [Finset.disjoint_left]
  intro x hx hx'
  obtain ⟨j, _, ej⟩ := Finset.mem_map.mp hx
  obtain ⟨j', _, ej'⟩ := Finset.mem_map.mp hx'
  exact h (G.disj i i' j j' (M.view.emb.injective (ej.trans ej'.symm)))

theorem Tiling.set_union :
    (Finset.univ.biUnion fun i => (M.access (Rect.unit (toff i) sz (tinb i))).set) = (M.access (Rect.unit off size inb)).set := by
  ext x
  rw [Finset.mem_biUnion]
  constructor
  · rintro ⟨i, _, hx⟩
    obtain ⟨j, _, rfl⟩ := Finset.mem_map.mp hx
    have := (M.access (Rect.unit off size inb)).emb_mem_set (G.at i j)
    have e : (M.access (Rect.unit off size inb)).emb (G.at i j) = (M.access (Rect.unit (toff i) sz (tinb i))).emb j :=
      congrArg M.view.emb (G.emb_at i j)
    rwa [e] at this
  · intro hx
    obtain ⟨y, _, rfl⟩ := Finset.mem_map.mp hx
    obtain ⟨i, j, rfl⟩ := G.cover (tinb := tinb) y
    refine ⟨i, Finset.mem_univ _, ?_⟩
    have e : (M.access (Rect.unit off size inb)).emb (G.at i j) = (M.access (Rect.unit (toff i) sz (tinb i))).emb j :=
      congrArg M.view.emb (G.emb_at i j)
    rw [e]
    exact View.emb_mem_set _ _

theorem Tiling.read_at (f : Buf (Elt F) (M.view.loc (c : Thread nD τ))) (i : ι) (j : (Rect.unit (toff i) sz (tinb i)).shape.Idx) :
    (M.access (Rect.unit off size inb)).read (Elt F) f (G.at i j) = (M.access (Rect.unit (toff i) sz (tinb i))).read (Elt F) f j := by
  have e : (M.access (Rect.unit off size inb)).emb (G.at i j) = (M.access (Rect.unit (toff i) sz (tinb i))).emb j :=
    congrArg M.view.emb (G.emb_at i j)
  unfold View.read
  rw [e]

/-- A block gives its tiles, -/
theorem Tiling.split {v : (Rect.unit off size inb).shape.Idx → Elt F e} :
    blk c M off size inb v ⊢ (bigSep Finset.univ fun i => blk c M (toff i) sz (tinb i) (fun j => v (G.at i j)) : sProp 𝕄) := by
  unfold blk
  iintro ⟨%f, %hf, H⟩
  have e : ((M.access (Rect.unit off size inb)).loc (c : Thread nD τ) ↦[(M.access (Rect.unit off size inb)).set]{fullShare} f : sProp 𝕄)
      = bigSep Finset.univ fun i => (M.view.loc (c : Thread nD τ) ↦[(M.access (Rect.unit (toff i) sz (tinb i))).set]{fullShare} f) := by
    rw [← G.set_union (tinb := tinb) (inb := inb) M]
    exact pointsTo_biUnion (ℓ := M.view.loc (c : Thread nD τ)) Finset.univ _ (fun i _ i' _ h => G.set_disj M i i' h)
  ihave H' := (Entails.of_eq e) $$ H
  iapply (sepMono (S := Finset.univ) (fun i _ => ?_)) $$ H'
  iintro H
  iexists f
  isplitr
  · ipureintro; funext j; rw [← hf]; exact (G.read_at c M f i j).symm
  iexact H

/-- and its tiles give the block, reading what they read. -/
theorem Tiling.join [DecidableEq ι] [Nonempty ι] {w : ∀ i, (Rect.unit (toff i) sz (tinb i)).shape.Idx → Elt F e} :
    (bigSep Finset.univ fun i => blk c M (toff i) sz (tinb i) (w i) : sProp 𝕄)
      ⊢ iprop(∃ v, ⌜∀ i j, v (G.at i j) = w i j⌝ ∗ blk c M off size inb v) := by
  unfold blk
  by_cases hne : Nonempty (Buf (Elt F) (M.view.loc (c : Thread nD τ)))
  swap
  · obtain ⟨i⟩ := ‹Nonempty ι›
    refine (sepElim (Finset.mem_univ i)).trans ?_
    iintro ⟨%f, -⟩
    exact absurd ⟨f⟩ hne
  refine (Idealize.SL.BI.bigSep_exists_pi Finset.univ (fun i (f : Buf (Elt F) (M.view.loc (c : Thread nD τ))) =>
    (iprop(⌜(M.access (Rect.unit (toff i) sz (tinb i))).read (Elt F) f = w i⌝
      ∗ (M.view.loc (c : Thread nD τ) ↦[(M.access (Rect.unit (toff i) sz (tinb i))).set]{fullShare} f)) : sProp 𝕄))).trans ?_
  iintro ⟨%fs, H⟩
  ihave H := (bigSep_pure_sep _ _) $$ H
  icases H with ⟨%hfs, H⟩
  ihave H := (pointsTo_biUnion_join (ℓ := M.view.loc (c : Thread nD τ)) Finset.univ (fun i => (M.access (Rect.unit (toff i) sz (tinb i))).set) fs hne.some
    (fun i _ i' _ h => G.set_disj M i i' h)) $$ H
  icases H with ⟨%g, %hg, H⟩
  rw [G.set_union (tinb := tinb) (inb := inb) M]
  iexists (M.access (Rect.unit off size inb)).read (Elt F) g
  isplitr
  · ipureintro
    intro i j
    rw [G.read_at c M g i j, ← hfs i (Finset.mem_univ i)]
    unfold View.read
    rw [hg i (Finset.mem_univ _) _ (View.emb_mem_set _ _)]
  iexists g
  isplitr; · ipureintro; rfl
  iexact H

end

end Cert.KernelProof
-- ==== Proof.Steps.lean ====
/-
  Steps: the rules of the body's operations.

  What a device holds for a transfer goes `Tk` (to be issued), `Fl` (under way), `Rv` (its own send ended), `Dn` (its own
  receive ended too). `ow c n` is what `c` owes after its first `n` transfers.
-/
module

public import proofs.«01_k».proof.Proof.Protocol
public import proofs.«01_k».proof.Proof.Grid

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What is owed, and the transfers' states -/

/-- `c` owes its transfers from the `n`-th on. -/
def ow (c : Dev nD) (n : ℕ) : sProp 𝕄 := iprop(levAts L lv ∗ ∃ W, owes (c : Thread nD τ) (owedL c (ord.drop n)) W)

def Tk (c : Dev nD) (t : T) : sProp 𝕄 :=
  iprop(∃ κ₁ κ₂ κ₃, cellInv ER (rd m) κ₁ (sendCell c t) ∗ cellInv ER (rd m) κ₂ (recvCell (dst t c) t) ∗ cellInv ER (rd m) κ₃ (recvCell c t)
    ∗ atPos ER (sendCell c t) 0 ∅ 0 ∗ atPos ER (recvCell c t) 0 ∅ 0
    ∗ reached ER (sendCell c t) 0 ∗ reached ER (recvCell (dst t c) t) 0
    ∗ dutyTok ER (sendCell c t) 0 false ∗ dutyTok ER (recvCell (dst t c) t) 0 false
    ∗ cred (tallyAt (recvCell c t) () (NN t)))
def Fl (c : Dev nD) (t : T) : sProp 𝕄 :=
  iprop(∃ κ₁ κ₃, cellInv ER (rd m) κ₁ (sendCell c t) ∗ cellInv ER (rd m) κ₃ (recvCell c t)
    ∗ atPos ER (sendCell c t) 0 ∅ 0 ∗ atPos ER (recvCell c t) 0 ∅ 0
    ∗ cred (tallyAt (sendCell c t) () (NN t)) ∗ cred (tallyAt (recvCell c t) () (NN t)) ∗ slotQ m fullShare.right c t)
def Rv (c : Dev nD) (t : T) : sProp 𝕄 :=
  iprop(∃ κ₃, cellInv ER (rd m) κ₃ (recvCell c t) ∗ atPos ER (recvCell c t) 0 ∅ 0 ∗ cred (tallyAt (recvCell c t) () (NN t))
    ∗ semVal (sendCell c t) 0)
def Dn (c : Dev nD) (t : T) : sProp 𝕄 := iprop(semVal (sendCell c t) 0 ∗ semVal (recvCell c t) 0)

section Send
variable {α : Type} (c : Dev nD)

/-- The issue of a hop of the sums. -/
theorem send_hop {Q : α → sProp 𝕄} (b : Fin 2) (h : Fin 6) (s : Fin 2) (n : ℕ) (hn : ord.drop n = hop b h s :: ord.drop (n + 1)) {j : ℕ} (hj : min h.val 3 = j)
    {off : Fin 2 → ℕ} (hoff : off = ![1024 * (ck b h c).val + 512 * s.val, 1024 * b.val])
    {inb : ∀ a, off a + S512x1024.size a ≤ S4096x2048.size a}
    {dv : Dev nD} (hdv : dv = dst (hop b h s) c) {ss rs : DmaSem sig} (hss : ss = sendSem (hop b h s)) (hrs : rs = recvSem (hop b h s))
    {hsc : (oM.slice (Rect.unit (s := S4096x2048) off S512x1024.size inb) (fun _ => rfl)).view.ref.isScScratch = false}
    {h₁ : (oM.slice (Rect.unit (s := S4096x2048) off S512x1024.size inb) (fun _ => rfl)).view.WordExact}
    {h₂ : (oM.slice (Rect.unit (s := S4096x2048) off S512x1024.size inb) (fun _ => rfl)).view.WordExact}
    {h₃ : DmaTarget.Typed (nD := nD) (τ := τ) (p := .tc) .vmem (.dma rs) (.remote (Dev.tc dv : Thread nD τ) (oM.slice (Rect.unit (s := S4096x2048) off S512x1024.size inb) (fun _ => rfl)) (.dma ss) hsc)}
    {k : PUnit → Prog (TpuEff nD τ sig (Elt F) Λ₀ .tc) α} :
    oB c (ck b h c) s b (acc m b (ck b h c) s j) ⊢ iprop(oE (F := F) (dst (hop b h s) c) (ck b h c) s b -∗ gift (F := F) c (hop b h s) -∗ Tk m c (hop b h s) -∗ ow c n
      -∗ (Fl m c (hop b h s) -∗ ow c (n + 1) -∗ wpc c (k ⟨⟩) Q)
      -∗ wpc c (.op (.enqueueDma (oM.slice (Rect.unit (s := S4096x2048) off S512x1024.size inb) (fun _ => rfl))
          (.remote (Dev.tc dv : Thread nD τ) (oM.slice (Rect.unit (s := S4096x2048) off S512x1024.size inb) (fun _ => rfl)) (.dma ss) hsc)
          (.dma rs) h₁ h₂ h₃) k) Q) := by
  subst hoff hdv hss hrs hj
  iintro Hs
  ihave Hs := (show oB c (ck b h c) s b (acc m b (ck b h c) s (min h.val 3)) ⊢ iprop(oBQ fullShare.left c (ck b h c) s b (acc m b (ck b h c) s (min h.val 3)) ∗ slotQ m fullShare.right c (hop b h s)) from blk_halves c) $$ Hs
  unfold oBQ blkQ oE oB blk Tk ow
  icases Hs with ⟨⟨%fs, %hfs, Hs⟩, Hr⟩
  iintro ⟨%w, %fd, %hfd, Hd⟩ Hg ⟨%κ₁, %κ₂, %κ₃, #I₁, #I₂, #I₃, Ha₁, Ha₃, Hr₁, Hr₂, Ht₁, Ht₂, Hc⟩ ⟨#Hl, %W, HO⟩ Hk
  iapply (Rounds.wp_send_pointsTo_with 𝒱₀ ER (rd m) (c : Thread nD τ) none (c' := (dst (hop b h s) c : Thread nD τ))
    (src := oSl (ck b h c) s b) (dst := oSl (ck b h c) s b) (fs := fs) (κ₁ := κ₁) (κ₂ := κ₂)
    (r₁ := 0) (r₂ := 0) (d₁ := false) (d₂ := false) (fd := fd) (F := gift (F := F) c (hop b h s)) (O₀ := owedL c (ord.drop n))
    (by rw [duties_send]; exact Finset.mem_singleton_self _) (by rw [duties_recv]; exact Finset.mem_singleton_self _)
    () () (NN (hop b h s)) rfl (amount_send m c (hop b h s) false) (amount_recv m _ (hop b h s) false) (owedL c (ord.drop (n + 1))) (by rw [hn]; rfl) (W := W)
    (by
      rw [payload_send]; show _ ⊢ oBQ fullShare.left c (ck b h c) s b _
      unfold oBQ blkQ
      iintro H; iexists fs
      isplitr; · ipureintro; exact hfs
      iexact H)
    (by
      rw [payload_recv, src_dst]
      refine sep_mono_left ?_
      show _ ⊢ oB (dst (hop b h s) c) (ck b h c) s b _
      unfold oB blk
      iintro H; iexists _
      isplitr
      rotate_left
      · iexact H
      ipureintro; rw [← hfs]; exact View.read_write_univ _ _)) $$ [Hs Hd Hg HO Hr₁ Hr₂ Ht₁ Ht₂]
  · isplitr; · iexact I₁
    isplitr; · iexact I₂
    isplitl [Hs]; · iexact Hs
    isplitl [Hd Hg]
    · isplitl [Hd]; · iexact Hd
      iexact Hg
    isplitl [HO]; · iexact HO
    isplitl [Ht₁]; · iexact Ht₁
    isplitl [Hr₁]; · iexact Hr₁
    isplitl [Ht₂]; · iexact Ht₂
    iexact Hr₂
  iintro ⟨Hc₁, HO⟩
  iapply Hk $$ [Ha₁ Ha₃ Hc Hc₁ Hr] [HO]
  · unfold Fl
    iexists κ₁, κ₃
    isplitr; · iexact I₁
    isplitr; · iexact I₃
    isplitl [Ha₁]; · iexact Ha₁
    isplitl [Ha₃]; · iexact Ha₃
    isplitl [Hc₁]; · iexact Hc₁
    isplitl [Hc]; · iexact Hc
    iexact Hr
  isplitr; · iexact Hl
  iexists W
  iexact HO

/-- The issue of a hop of the maxima. -/
theorem send_sca {Q : α → sProp 𝕄} (g : Fin 3) (n : ℕ) (hn : ord.drop n = sca g :: ord.drop (n + 1))
    {off : Fin 3 → ℕ} (hoff : off = ![(ck 0 g c).val, 0, 0])
    {inb : ∀ a, off a + S1x8x128.size a ≤ S4x8x128.size a}
    {dv : Dev nD} (hdv : dv = nxt c) {ss rs : DmaSem sig} (hss : ss = sendSem (sca g)) (hrs : rs = recvSem (sca g))
    {hsc : (mm.slice (Rect.unit (s := S4x8x128) off S1x8x128.size inb) (fun _ => rfl)).view.ref.isScScratch = false}
    {h₁ : (mm.slice (Rect.unit (s := S4x8x128) off S1x8x128.size inb) (fun _ => rfl)).view.WordExact}
    {h₂ : (mm.slice (Rect.unit (s := S4x8x128) off S1x8x128.size inb) (fun _ => rfl)).view.WordExact}
    {h₃ : DmaTarget.Typed (nD := nD) (τ := τ) (p := .tc) .vmem (.dma rs) (.remote (Dev.tc dv : Thread nD τ) (mm.slice (Rect.unit (s := S4x8x128) off S1x8x128.size inb) (fun _ => rfl)) (.dma ss) hsc)}
    {k : PUnit → Prog (TpuEff nD τ sig (Elt F) Λ₀ .tc) α} :
    mB c (ck 0 g c) (mxv m (ck 0 g c)) ⊢ iprop(mE (F := F) (nxt c) (ck 0 g c) -∗ Tk m c (sca g) -∗ ow c n
      -∗ (Fl m c (sca g) -∗ ow c (n + 1) -∗ wpc c (k ⟨⟩) Q)
      -∗ wpc c (.op (.enqueueDma (mm.slice (Rect.unit (s := S4x8x128) off S1x8x128.size inb) (fun _ => rfl))
          (.remote (Dev.tc dv : Thread nD τ) (mm.slice (Rect.unit (s := S4x8x128) off S1x8x128.size inb) (fun _ => rfl)) (.dma ss) hsc)
          (.dma rs) h₁ h₂ h₃) k) Q) := by
  subst hoff hdv hss hrs
  iintro Hs
  ihave Hs := (show mB c (ck 0 g c) (mxv m (ck 0 g c)) ⊢ iprop(mBQ fullShare.left c (ck 0 g c) (mxv m (ck 0 g c)) ∗ slotQ m fullShare.right c (sca g)) from blk_halves c) $$ Hs
  unfold mBQ blkQ mE mB blk Tk ow
  icases Hs with ⟨⟨%fs, %hfs, Hs⟩, Hr⟩
  iintro ⟨%w, %fd, %hfd, Hd⟩ ⟨%κ₁, %κ₂, %κ₃, #I₁, #I₂, #I₃, Ha₁, Ha₃, Hr₁, Hr₂, Ht₁, Ht₂, Hc⟩ ⟨#Hl, %W, HO⟩ Hk
  iapply (Rounds.wp_send_pointsTo_with 𝒱₀ ER (rd m) (c : Thread nD τ) none (c' := (nxt c : Thread nD τ))
    (src := mSl (ck 0 g c)) (dst := mSl (ck 0 g c)) (fs := fs) (κ₁ := κ₁) (κ₂ := κ₂)
    (r₁ := 0) (r₂ := 0) (d₁ := false) (d₂ := false) (fd := fd) (F := gift (F := F) c (sca g)) (O₀ := owedL c (ord.drop n))
    (by rw [duties_send]; exact Finset.mem_singleton_self _) (by rw [duties_recv]; exact Finset.mem_singleton_self _)
    () () (NN (sca g)) rfl (amount_send m c (sca g) false) (amount_recv m _ (sca g) false) (owedL c (ord.drop (n + 1))) (by rw [hn]; rfl) (W := W)
    (by
      rw [payload_send]; show _ ⊢ mBQ fullShare.left c (ck 0 g c) _
      unfold mBQ blkQ
      iintro H; iexists fs
      isplitr; · ipureintro; exact hfs
      iexact H)
    (by
      rw [payload_recv, show src (sca g) (nxt c) = c from prv_nxt c]
      refine sep_mono_left ?_
      show _ ⊢ mB (nxt c) (ck 0 g c) _
      unfold mB blk
      iintro H; iexists _
      isplitr
      rotate_left
      · iexact H
      ipureintro; rw [← hfs]; exact View.read_write_univ _ _)) $$ [Hs Hd HO Hr₁ Hr₂ Ht₁ Ht₂]
  · isplitr; · iexact I₁
    isplitr; · iexact I₂
    isplitl [Hs]; · iexact Hs
    isplitl [Hd]
    · isplitl [Hd]; · iexact Hd
      unfold gift; iempintro
    isplitl [HO]; · iexact HO
    isplitl [Ht₁]; · iexact Ht₁
    isplitl [Hr₁]; · iexact Hr₁
    isplitl [Ht₂]; · iexact Ht₂
    iexact Hr₂
  iintro ⟨Hc₁, HO⟩
  iapply Hk $$ [Ha₁ Ha₃ Hc Hc₁ Hr] [HO]
  · unfold Fl
    iexists κ₁, κ₃
    isplitr; · iexact I₁
    isplitr; · iexact I₃
    isplitl [Ha₁]; · iexact Ha₁
    isplitl [Ha₃]; · iexact Ha₃
    isplitl [Hc₁]; · iexact Hc₁
    isplitl [Hc]; · iexact Hc
    iexact Hr
  isplitr; · iexact Hl
  iexists W
  iexact HO

end Send

/-! ## Waits -/

section Wait
variable {α : Type} (c : Dev nD)

/-- The share lent and the share kept are the block. -/
theorem slot_join (t : T) : slotQ m fullShare.left c t ⊢ iprop(slotQ m fullShare.right c t -∗ slotV m c c t) := by
  rcases t with ⟨b, h, s⟩ | g
  · exact halves_blk c
  · exact halves_blk c

/-- A load of a block of the sums while it is being sent. -/
theorem ld_fl {Q : α → sProp 𝕄} (b : Fin 2) (h : Fin 6) (s : Fin 2) {k' j : ℕ} (hk : h.val = k') (hj : min h.val 3 = j) {off : Fin 2 → ℕ} (hoff : off = ![1024 * (ck b k' c).val + 512 * s.val, 1024 * b.val])
    {inb : ∀ a, off a + S512x1024.size a ≤ S4096x2048.size a} {hl : oM.view.LoadsAt (Rect.unit (s := S4096x2048) off S512x1024.size inb).toLoadRect}
    {k : Vec F S512x1024 .f32 → Prog (TpuEff nD τ sig (Elt F) Λ₀ .tc) α} :
    Fl m c (hop b h s) ⊢ iprop((Fl m c (hop b h s) -∗ wpc c (k (acc m b (ck b k' c) s j)) Q)
      -∗ wpc c (.op (.load oM (Rect.unit (s := S4096x2048) off S512x1024.size inb).toLoadRect hl) k) Q) := by
  subst hk hj
  unfold Fl
  iintro ⟨%κ₁, %κ₃, #I₁, #I₃, Ha₁, Ha₃, Hc₁, Hc, Hr⟩ Hk
  ihave Hr := (show slotQ m fullShare.right c (hop b h s) ⊢ blkQ fullShare.right c oM ![1024 * (ck b h c).val + 512 * s.val, 1024 * b.val] S512x1024.size (inb_o (ck b h c) s b) (acc m b (ck b h c) s (min h.val 3)) from Entails.refl _) $$ Hr
  iapply (ld_blkQ c hoff) $$ Hr
  iintro Hr
  iapply Hk
  iexists κ₁, κ₃
  isplitr; · iexact I₁
  isplitr; · iexact I₃
  isplitl [Ha₁]; · iexact Ha₁
  isplitl [Ha₃]; · iexact Ha₃
  isplitl [Hc₁]; · iexact Hc₁
  isplitl [Hc]; · iexact Hc
  iapply (show blkQ fullShare.right c oM ![1024 * (ck b h c).val + 512 * s.val, 1024 * b.val] S512x1024.size (inb_o (ck b h c) s b) (acc m b (ck b h c) s (min h.val 3)) ⊢ slotQ m fullShare.right c (hop b h s) from Entails.refl _) $$ Hr

/-- The wait of a sender for the end of its own send. -/
theorem wait_send {Q : α → sProp 𝕄} (t : T) (n : ℕ) (hn : n < 28) {cs cs' : Space} {s s' : Shape} {e e' : EltTy}
    {src : Memref sig .tc cs s e} {dst : Memref sig .tc cs' s' e'} (hN : dst.view.dmaCredit = NN t) {sem : DmaSem sig} (hsem : sem = sendSem t)
    {h₁ : src.view.WordExact} {h₂ : dst.view.WordExact} {k : PUnit → Prog (TpuEff nD τ sig (Elt F) Λ₀ .tc) α} :
    Fl m c t ⊢ iprop(ow c n -∗ (Rv m c t -∗ slotV m c c t -∗ ow c n -∗ wpc c (k ⟨⟩) Q)
      -∗ wpc c (.op (.waitDma2 sem src dst h₁ h₂) k) Q) := by
  subst hsem
  unfold Fl ow
  iintro ⟨%κ₁, %κ₃, #I₁, #I₃, Ha₁, Ha₃, Hc₁, Hc, Hr⟩ ⟨#Hl, %W, HO⟩ Hk
  iapply (Rounds.wp_wait_rest_token 𝒱₀ ER (rd m) (c : Thread nD τ) none (κ := κ₁)
      (wpE_waitDma2_eq 𝒱₀ (c : Thread nD τ) none Set.univ) (Set.mem_univ _) () (O := owedL c (ord.drop n)) (W := W) (R := 0) (m := 0) (T := ∅)
      (by rw [Nat.zero_add, expect_send]; exact hN)) $$ [Hc₁ HO Ha₁]
  · rw [hN]
    isplitr; · iexact I₁
    isplitl [Hc₁]; · iexact Hc₁
    isplitl [HO]; · iexact HO
    isplitr; · iapply (mayWait_of c _ n hn (by rw [lvs_send]; omega)); iexact Hl
    iexact Ha₁
  iintro ⟨HO, Ha₁, -, Hp⟩
  imod (Rounds.cell_close ER (rd m) (Set.mem_univ κ₁) (fun h => h) (R := 0 + 1) (duties_later m (sendCell c t))) $$ [Ha₁] with Hz
  · isplitr; · iexact I₁
    iexact Ha₁
  ihave Hp := (Entails.of_eq (rest_send m c t)) $$ Hp
  ihave Hp := (slot_join m c t) $$ Hp Hr
  iapply Hk $$ [Ha₃ Hc Hz] [Hp] [HO]
  · unfold Rv
    iexists κ₃
    isplitr; · iexact I₃
    isplitl [Ha₃]; · iexact Ha₃
    isplitl [Hc]; · iexact Hc
    iexact Hz
  · iexact Hp
  isplitr; · iexact Hl
  iexists _
  iexact HO

/-- The wait of a receiver for the end of a transfer to it. -/
theorem wait_recv {Q : α → sProp 𝕄} (t : T) (n : ℕ) (hn : n < 28) (hp : pos t < n) {cs cs' : Space} {s s' : Shape} {e e' : EltTy}
    {sr : Memref sig .tc cs s e} {ds : Memref sig .tc cs' s' e'} (hN : ds.view.dmaCredit = NN t) {sem : DmaSem sig} (hsem : sem = recvSem t)
    {h₁ : sr.view.WordExact} {h₂ : ds.view.WordExact} {k : PUnit → Prog (TpuEff nD τ sig (Elt F) Λ₀ .tc) α} :
    Rv m c t ⊢ iprop(ow c n -∗ (Dn c t -∗ slotV m (src t c) c t -∗ gift (F := F) (src t c) t -∗ ow c n -∗ wpc c (k ⟨⟩) Q)
      -∗ wpc c (.op (.waitDma2 sem sr ds h₁ h₂) k) Q) := by
  subst hsem
  unfold Rv ow
  iintro ⟨%κ₃, #I₃, Ha₃, Hc, Hz⟩ ⟨#Hl, %W, HO⟩ Hk
  iapply (Rounds.wp_wait_rest_token 𝒱₀ ER (rd m) (c : Thread nD τ) none (κ := κ₃)
      (wpE_waitDma2_eq 𝒱₀ (c : Thread nD τ) none Set.univ) (Set.mem_univ _) () (O := owedL c (ord.drop n)) (W := W) (R := 0) (m := 0) (T := ∅)
      (by rw [Nat.zero_add, expect_recv]; exact hN)) $$ [Hc HO Ha₃]
  · rw [hN]
    isplitr; · iexact I₃
    isplitl [Hc]; · iexact Hc
    isplitl [HO]; · iexact HO
    isplitr; · iapply (mayWait_of c _ n hn (by rw [lvs_recv]; omega)); iexact Hl
    iexact Ha₃
  iintro ⟨HO, Ha₃, -, Hp⟩
  imod (Rounds.cell_close ER (rd m) (Set.mem_univ κ₃) (fun h => h) (R := 0 + 1) (duties_later m (recvCell c t))) $$ [Ha₃] with Hy
  · isplitr; · iexact I₃
    iexact Ha₃
  ihave Hp := (Entails.of_eq (rest_recv m c t)) $$ Hp
  icases Hp with ⟨Hp, Hg⟩
  iapply Hk $$ [Hz Hy] [Hp] [Hg] [HO]
  · unfold Dn
    isplitl [Hz] <;> iassumption
  · iexact Hp
  · iexact Hg
  isplitr; · iexact Hl
  iexists _
  iexact HO

theorem credit_o (t : Fin 2 × Fin 6 × Fin 2) {off : Fin 2 → ℕ} {inb : ∀ a, off a + S512x1024.size a ≤ S4096x2048.size a} :
    (oM.slice (Rect.unit (s := S4096x2048) off S512x1024.size inb) (fun _ => rfl)).view.dmaCredit = NN (.inl t) := rfl
theorem credit_m (g : Fin 3) {off : Fin 3 → ℕ} {inb : ∀ a, off a + S1x8x128.size a ≤ S4x8x128.size a} :
    (mm.slice (Rect.unit (s := S4x8x128) off S1x8x128.size inb) (fun _ => rfl)).view.dmaCredit = NN (.inr g) := rfl

end Wait

/-! ## What arrives, in the receiver's terms -/

section Arrive
variable (c : Dev nD)

theorem got_right (h : Fin 6) (s : Fin 2) {j k : ℕ} (hj : min h.val 3 = j) (hk : h.val + 1 = k) :
    slotV m (src (hop 0 h s) c) c (hop 0 h s) = oB c (ck 0 k c) s 0 (acc m 0 (ck 0 k c) s j) := by
  subst hj hk
  show oB c (ck 0 h (prv c)) s 0 (acc m 0 (ck 0 h (prv c)) s _) = _
  rw [ck_prv]
theorem got_left (h : Fin 6) (s : Fin 2) {j k : ℕ} (hj : min h.val 3 = j) (hk : h.val + 1 = k) :
    slotV m (src (hop 1 h s) c) c (hop 1 h s) = oB c (ck 1 k c) s 1 (acc m 1 (ck 1 k c) s j) := by
  subst hj hk
  show oB c (ck 1 h (nxt c)) s 1 (acc m 1 (ck 1 h (nxt c)) s _) = _
  rw [ck_nxt]
theorem got_sca (g : Fin 3) {k : ℕ} (hk : g.val + 1 = k) :
    slotV m (src (sca g) c) c (sca g) = mB c (ck 0 k c) (mxv m (ck 0 k c)) := by
  subst hk
  show mB c (ck 0 g (prv c)) (mxv m (ck 0 g (prv c))) = _
  rw [ck_prv]
theorem gift_hop (b : Fin 2) (h : Fin 6) (s : Fin 2) : gift (F := F) c (hop b h s)
    = if b = 0 then (if 2 ≤ h.val ∧ h.val ≤ 4 then oE (F := F) c (ck 1 (h.val - 2) c) s 1 else iprop(emp))
      else (if 1 ≤ h.val ∧ h.val ≤ 3 then oE (F := F) c (ck 0 (h.val - 1) c) s 0 else iprop(emp)) := rfl
theorem gift_right (h : Fin 6) (s : Fin 2) (h2 : 2 ≤ h.val ∧ h.val ≤ 4) {k : ℕ} (hk : h.val + 1 = k) :
    gift (F := F) (src (hop 0 h s) c) (hop 0 h s) = oE (F := F) (prv c) (ck 1 k c) s 1 := by
  subst hk
  show gift (F := F) (prv c) (hop 0 h s) = _
  rw [gift_hop, if_pos rfl, if_pos h2, ck_one_prv, show h.val - 2 + 3 = h.val + 1 by omega]
theorem gift_left (h : Fin 6) (s : Fin 2) (h2 : 1 ≤ h.val ∧ h.val ≤ 3) {k : ℕ} (hk : h.val + 2 = k) :
    gift (F := F) (src (hop 1 h s) c) (hop 1 h s) = oE (F := F) (nxt c) (ck 0 k c) s 0 := by
  subst hk
  show gift (F := F) (nxt c) (hop 1 h s) = _
  rw [gift_hop, if_neg (by decide), if_pos h2, ck_zero_nxt, show h.val - 1 + 3 = h.val + 2 by omega]
theorem give_right (h : Fin 6) (s : Fin 2) (h2 : 2 ≤ h.val ∧ h.val ≤ 4) {k : ℕ} (hk : h.val - 2 = k) :
    gift (F := F) c (hop 0 h s) = oE (F := F) c (ck 1 k c) s 1 := by
  subst hk
  rw [gift_hop, if_pos rfl, if_pos h2]
theorem give_left (h : Fin 6) (s : Fin 2) (h2 : 1 ≤ h.val ∧ h.val ≤ 3) {k : ℕ} (hk : h.val - 1 = k) :
    gift (F := F) c (hop 1 h s) = oE (F := F) c (ck 0 k c) s 0 := by
  subst hk
  rw [gift_hop, if_neg (by decide), if_pos h2]
theorem sent_hop (b : Fin 2) (h : Fin 6) (s : Fin 2) {j : ℕ} (hj : min h.val 3 = j) :
    slotV m c c (hop b h s) = oB c (ck b h c) s b (acc m b (ck b h c) s j) := by subst hj; rfl
/-- One more device's partial product. -/
theorem acc_next (b : Fin 2) (h : ℕ) (s : Fin 2) :
    k0_pay6 (acc m b (ck b (h + 1) c) s h) (part m c (ck b (h + 1) c) s b) = acc m b (ck b (h + 1) c) s (h + 1) := by
  show _ = k0_pay6 _ (part m (dv b (h + 1) (ck b (h + 1) c)) _ s b)
  rw [dv_ck]

end Arrive

/-! ## The barrier -/

/-- Before its two signals, before the second, and before the wait. -/
def Bk (c : Dev nD) (i : ℕ) : sProp 𝕄 :=
  iprop(∃ κ κ₁ κ₂, levAts L lv ∗ cellInv ER (rd m) κ (barCell c) ∗ cellInv ER (rd m) κ₁ (barCell (prv c)) ∗ cellInv ER (rd m) κ₂ (barCell (nxt c))
    ∗ atPos ER (barCell c) 0 ∅ 0 ∗ cred (tallyAt (barCell c) () 2)
    ∗ (if i = 0 then iprop(reached ER (barCell (prv c)) 0 ∗ dutyTok ER (barCell (prv c)) 0 true) else iprop(emp))
    ∗ (if i ≤ 1 then iprop(reached ER (barCell (nxt c)) 0 ∗ dutyTok ER (barCell (nxt c)) 0 false) else iprop(emp))
    ∗ ∃ W, owes (c : Thread nD τ) (if i = 0 then O₀ c else if i = 1 then owedL c ord + tallyAt (barCell (nxt c)) () 1 else owedL c ord) W)

section Barrier
variable {α : Type} (c : Dev nD)

theorem signal_prv {Q : α → sProp 𝕄} {d : Dev nD} (hd : d = prv c) {k : PUnit → Prog (TpuEff nD τ sig (Elt F) Λ₀ .tc) α} :
    Bk m c 0 ⊢ iprop(barPay (F := F) (prv c) true -∗ (Bk m c 1 -∗ wpc c (k ⟨⟩) Q)
      -∗ wpc c (.op (.semSignal (d : Thread nD τ) barS 1) k) Q) := by
  subst hd
  unfold Bk
  simp only [if_pos]
  iintro ⟨%κ, %κ₁, %κ₂, #Hl, #I, #I₁, #I₂, Ha, Hc, ⟨#Hr₁, Ht₁⟩, H₂, %W, HO⟩ Hp Hk
  iapply (Rounds.wp_signal 𝒱₀ ER (rd m) (c : Thread nD τ) none (dst := (prv c : Thread nD τ)) (κ := κ₁)
      (d := true) (by rw [duties_bar]; exact Finset.mem_univ _) (amount_bar m (prv c) true) () (owedL c ord + tallyAt (barCell (nxt c)) () 1) rfl)
    $$ [HO Ht₁ Hp]
  · isplitr; · iexact I₁
    isplitl [HO]; · iexact HO
    isplitl [Ht₁]; · iexact Ht₁
    isplitl [Hp]; · rw [payload_bar]; iexact Hp
    iexact Hr₁
  iintro HO
  iapply Hk
  iexists κ, κ₁, κ₂
  isplitr; · iexact Hl
  isplitr; · iexact I
  isplitr; · iexact I₁
  isplitr; · iexact I₂
  isplitl [Ha]; · iexact Ha
  isplitl [Hc]; · iexact Hc
  isplitr; · rw [if_neg Nat.one_ne_zero]; iempintro
  isplitl [H₂]; · iexact H₂
  iexists W
  iexact HO

theorem signal_nxt {Q : α → sProp 𝕄} {d : Dev nD} (hd : d = nxt c) {k : PUnit → Prog (TpuEff nD τ sig (Elt F) Λ₀ .tc) α} :
    Bk m c 1 ⊢ iprop(barPay (F := F) (nxt c) false -∗ (Bk m c 2 -∗ wpc c (k ⟨⟩) Q)
      -∗ wpc c (.op (.semSignal (d : Thread nD τ) barS 1) k) Q) := by
  subst hd
  unfold Bk
  rw [if_neg Nat.one_ne_zero, if_pos (le_refl 1), if_neg Nat.one_ne_zero, if_pos rfl]
  iintro ⟨%κ, %κ₁, %κ₂, #Hl, #I, #I₁, #I₂, Ha, Hc, H₁, ⟨#Hr₂, Ht₂⟩, %W, HO⟩ Hp Hk
  iapply (Rounds.wp_signal 𝒱₀ ER (rd m) (c : Thread nD τ) none (dst := (nxt c : Thread nD τ)) (κ := κ₂)
      (d := false) (by rw [duties_bar]; exact Finset.mem_univ _) (amount_bar m (nxt c) false) () (owedL c ord) rfl)
    $$ [HO Ht₂ Hp]
  · isplitr; · iexact I₂
    isplitl [HO]; · iexact HO
    isplitl [Ht₂]; · iexact Ht₂
    isplitl [Hp]; · rw [payload_bar]; iexact Hp
    iexact Hr₂
  iintro HO
  iapply Hk
  iexists κ, κ₁, κ₂
  isplitr; · iexact Hl
  isplitr; · iexact I
  isplitr; · iexact I₁
  isplitr; · iexact I₂
  isplitl [Ha]; · iexact Ha
  isplitl [Hc]; · iexact Hc
  isplitr; · rw [if_neg (by decide)]; iempintro
  isplitr; · rw [if_neg (by decide)]; iempintro
  iexists W
  rw [if_neg (by decide), if_neg (by decide)]
  iexact HO

theorem wait_bar {Q : α → sProp 𝕄} {k : PUnit → Prog (TpuEff nD τ sig (Elt F) Λ₀ .tc) α} :
    Bk m c 2 ⊢ iprop((semVal (barCell c) 0 -∗ barPay (F := F) c false -∗ barPay (F := F) c true -∗ ow c 0 -∗ wpc c (k ⟨⟩) Q)
      -∗ wpc c (.op (.semWait barS 2) k) Q) := by
  unfold Bk ow
  rw [if_neg (by decide), if_neg (by decide), if_neg (by decide), if_neg (by decide)]
  iintro ⟨%κ, %κ₁, %κ₂, #Hl, #I, #I₁, #I₂, Ha, Hc, -, -, %W, HO⟩ Hk
  iapply (Rounds.wp_wait_rest_token 𝒱₀ ER (rd m) (c : Thread nD τ) none (κ := κ)
      (wpE_semWait_eq 𝒱₀ (c : Thread nD τ) none Set.univ) (Set.mem_univ _) () (O := owedL c ord) (W := W) (R := 0) (m := 0) (T := ∅)
      (by rw [expect_bar])) $$ [Hc HO Ha]
  · isplitr; · iexact I
    isplitl [Hc]; · iexact Hc
    isplitl [HO]; · iexact HO
    isplitr; · iapply (mayWait_of c (.reg barS) 0 (by decide) (by rw [lvs_bar]; decide)); iexact Hl
    iexact Ha
  iintro ⟨HO, Ha, -, Hp⟩
  imod (Rounds.cell_close ER (rd m) (Set.mem_univ κ) (fun h => h) (R := 0 + 1) (duties_later m (barCell c))) $$ [Ha] with Hz
  · isplitr; · iexact I
    iexact Ha
  ihave Hp := (Entails.of_eq (rest_bar m c)) $$ Hp
  icases Hp with ⟨Hf, Ht⟩
  iapply Hk $$ [Hz] [Hf] [Ht] [HO]
  · iexact Hz
  · iexact Hf
  · iexact Ht
  isplitr; · iexact Hl
  iexists _
  iexact HO

end Barrier

/-! ## The copies of `x` -/

theorem lvs_x (k : Fin 2) : lvs (.dma (xsem k)) = 0 := by
  have : dec (xsem k) = none := by revert k; decide
  unfold lvs; dsimp only; rw [this]

theorem end_x {α : Type} {Q : α → sProp 𝕄} (c : Dev nD) (k : Fin 2) (n : ℕ) (hn : n < 28)
    {off : Fin 3 → ℕ} (hoff : off = ![k.val, 0, 0]) {inb : ∀ a, off a + S1x512x1024.size a ≤ S2x512x1024.size a}
    {sem : DmaSem sig} (hsem : sem = xsem k) {v : Vec F S1x512x1024 .f32} {src : Memref sig .tc .hbm S512x1024 .f32} {h₁ : src.view.WordExact}
    {h₂ : ((xb.slice (Rect.unit (s := S2x512x1024) off S1x512x1024.size inb) (fun _ => rfl)).squeeze S512x1024 squeezes_S1x512x1024_S512x1024).view.WordExact}
    {kk : PUnit → Prog (TpuEff nD τ sig (Elt F) Λ₀ .tc) α} :
    XF m c k v ⊢ iprop(ow c n -∗ (XR m c k v -∗ ow c n -∗ wpc c (kk ⟨⟩) Q)
      -∗ wpc c (.op (.waitDma2 sem src ((xb.slice (Rect.unit (s := S2x512x1024) off S1x512x1024.size inb) (fun _ => rfl)).squeeze S512x1024 squeezes_S1x512x1024_S512x1024) h₁ h₂) kk) Q) := by
  unfold ow
  iintro HF ⟨#Hl, %W, HO⟩ Hk
  iapply (wait_x m c k hoff hsem) $$ [HF HO]
  · isplitl [HF]; · iexact HF
    isplitl [HO]; · iexact HO
    iapply (mayWait_of c _ n hn (by rw [lvs_x]; omega)); iexact Hl
  iintro ⟨HX, HO⟩
  iapply Hk $$ [HX] [HO]
  · iexact HX
  isplitr; · iexact Hl
  iexists _
  iexact HO

/-! ## Loads and stores of the blocks -/

/-- A quarter of a chunk: 256 rows of it, in column half `b`. -/
theorem inb_q (q : Fin 4) (s r b : Fin 2) : ∀ a, (![1024 * q.val + 512 * s.val + 256 * r.val, 1024 * b.val] : Fin 2 → ℕ) a + S256x1024.size a ≤ S4096x2048.size a := by
  revert q s r b; decide
def qB (c : Dev nD) (q : Fin 4) (s r b : Fin 2) (v : Vec F S256x1024 .f32) : sProp 𝕄 :=
  blk c oM ![1024 * q.val + 512 * s.val + 256 * r.val, 1024 * b.val] S256x1024.size (inb_q q s r b) v

theorem inb_r (r : Fin 2) : ∀ a, (![256 * r.val, 0] : Fin 2 → ℕ) a + S256x1024.size a ≤ S512x1024.size a := by revert r; decide
/-- Rows `256 r …` of 512. -/
def rowHalf (r : Fin 2) (v : Vec F S512x1024 .f32) : Vec F S256x1024 .f32 :=
  fun j => v ((Rect.unit (s := S512x1024) ![256 * r.val, 0] S256x1024.size (inb_r r)).emb j)

section Mem
variable {α : Type} (c : Dev nD)

theorem ld_o {Q : α → sProp 𝕄} (q : Fin 4) (s b : Fin 2) {v : Vec F S512x1024 .f32} {off : Fin 2 → ℕ} (hoff : off = ![1024 * q.val + 512 * s.val, 1024 * b.val])
    {inb : ∀ a, off a + S512x1024.size a ≤ S4096x2048.size a} {hl : oM.view.LoadsAt (Rect.unit (s := S4096x2048) off S512x1024.size inb).toLoadRect}
    {k : Vec F S512x1024 .f32 → Prog (TpuEff nD τ sig (Elt F) Λ₀ .tc) α} :
    oB c q s b v ⊢ iprop((oB c q s b v -∗ wpc c (k v) Q) -∗ wpc c (.op (.load oM (Rect.unit (s := S4096x2048) off S512x1024.size inb).toLoadRect hl) k) Q) :=
  ld_blk c hoff
theorem st_o {Q : α → sProp 𝕄} (q : Fin 4) (s b : Fin 2) {v : Vec F S512x1024 .f32} (w' : Vec F S512x1024 .f32) {w : Vec F S512x1024 .f32} (hw : w = w') {off : Fin 2 → ℕ} (hoff : off = ![1024 * q.val + 512 * s.val, 1024 * b.val])
    {inb : ∀ a, off a + S512x1024.size a ≤ S4096x2048.size a}
    {hx : (oM.access (Rect.unit (s := S4096x2048) off S512x1024.size inb)).Stores Finset.univ} {hm : (Finset.univ : Finset (Rect.unit (s := S4096x2048) off S512x1024.size inb).shape.Idx) = Finset.univ ∨ ∀ a, (Rect.unit (s := S4096x2048) off S512x1024.size inb).stride a = 1}
    {k : PUnit → Prog (TpuEff nD τ sig (Elt F) Λ₀ .tc) α} :
    oB c q s b v ⊢ iprop((oB c q s b w' -∗ wpc c (k ⟨⟩) Q) -∗ wpc c (.op (.store oM (Rect.unit (s := S4096x2048) off S512x1024.size inb) w Finset.univ hx hm) k) Q) := by
  subst hw; exact st_blk c hoff
theorem ld_p {Q : α → sProp 𝕄} (b s : Fin 2) {v : Vec F S1x512x1024 .f32} {off : Fin 3 → ℕ} (hoff : off = ![b.val, 512 * s.val, 0])
    {inb : ∀ a, off a + S1x512x1024.size a ≤ S2x1024x1024.size a} {hl : pm.view.LoadsAt (Rect.unit (s := S2x1024x1024) off S1x512x1024.size inb).toLoadRect}
    {k : Vec F S1x512x1024 .f32 → Prog (TpuEff nD τ sig (Elt F) Λ₀ .tc) α} :
    pB c b s v ⊢ iprop((pB c b s v -∗ wpc c (k v) Q) -∗ wpc c (.op (.load pm (Rect.unit (s := S2x1024x1024) off S1x512x1024.size inb).toLoadRect hl) k) Q) :=
  ld_blk c hoff
theorem st_p {Q : α → sProp 𝕄} (b s : Fin 2) {v : Vec F S1x512x1024 .f32} (w' : Vec F S1x512x1024 .f32) {w : Vec F S1x512x1024 .f32} (hw : w = w') {off : Fin 3 → ℕ} (hoff : off = ![b.val, 512 * s.val, 0])
    {inb : ∀ a, off a + S1x512x1024.size a ≤ S2x1024x1024.size a}
    {hx : (pm.access (Rect.unit (s := S2x1024x1024) off S1x512x1024.size inb)).Stores Finset.univ} {hm : (Finset.univ : Finset (Rect.unit (s := S2x1024x1024) off S1x512x1024.size inb).shape.Idx) = Finset.univ ∨ ∀ a, (Rect.unit (s := S2x1024x1024) off S1x512x1024.size inb).stride a = 1}
    {k : PUnit → Prog (TpuEff nD τ sig (Elt F) Λ₀ .tc) α} :
    pB c b s v ⊢ iprop((pB c b s w' -∗ wpc c (k ⟨⟩) Q) -∗ wpc c (.op (.store pm (Rect.unit (s := S2x1024x1024) off S1x512x1024.size inb) w Finset.univ hx hm) k) Q) := by
  subst hw; exact st_blk c hoff
theorem ld_q {Q : α → sProp 𝕄} (q : Fin 4) (s r b : Fin 2) {v : Vec F S256x1024 .f32} {off : Fin 2 → ℕ} (hoff : off = ![1024 * q.val + 512 * s.val + 256 * r.val, 1024 * b.val])
    {inb : ∀ a, off a + S256x1024.size a ≤ S4096x2048.size a} {hl : oM.view.LoadsAt (Rect.unit (s := S4096x2048) off S256x1024.size inb).toLoadRect}
    {k : Vec F S256x1024 .f32 → Prog (TpuEff nD τ sig (Elt F) Λ₀ .tc) α} :
    qB c q s r b v ⊢ iprop((qB c q s r b v -∗ wpc c (k v) Q) -∗ wpc c (.op (.load oM (Rect.unit (s := S4096x2048) off S256x1024.size inb).toLoadRect hl) k) Q) :=
  ld_blk c hoff
theorem st_q {Q : α → sProp 𝕄} (q : Fin 4) (s r b : Fin 2) {v : Vec F S256x1024 .f32} (w' : Vec F S256x1024 .f32) {w : Vec F S256x1024 .f32} (hw : w = w') {off : Fin 2 → ℕ} (hoff : off = ![1024 * q.val + 512 * s.val + 256 * r.val, 1024 * b.val])
    {inb : ∀ a, off a + S256x1024.size a ≤ S4096x2048.size a}
    {hx : (oM.access (Rect.unit (s := S4096x2048) off S256x1024.size inb)).Stores Finset.univ} {hm : (Finset.univ : Finset (Rect.unit (s := S4096x2048) off S256x1024.size inb).shape.Idx) = Finset.univ ∨ ∀ a, (Rect.unit (s := S4096x2048) off S256x1024.size inb).stride a = 1}
    {k : PUnit → Prog (TpuEff nD τ sig (Elt F) Λ₀ .tc) α} :
    qB c q s r b v ⊢ iprop((qB c q s r b w' -∗ wpc c (k ⟨⟩) Q) -∗ wpc c (.op (.store oM (Rect.unit (s := S4096x2048) off S256x1024.size inb) w Finset.univ hx hm) k) Q) := by
  subst hw; exact st_blk c hoff
theorem ld_m {Q : α → sProp 𝕄} (q : Fin 4) {v : Vec F S1x8x128 .f32} {off : Fin 3 → ℕ} (hoff : off = ![q.val, 0, 0])
    {inb : ∀ a, off a + S1x8x128.size a ≤ S4x8x128.size a} {hl : mm.view.LoadsAt (Rect.unit (s := S4x8x128) off S1x8x128.size inb).toLoadRect}
    {k : Vec F S1x8x128 .f32 → Prog (TpuEff nD τ sig (Elt F) Λ₀ .tc) α} :
    mB c q v ⊢ iprop((mB c q v -∗ wpc c (k v) Q) -∗ wpc c (.op (.load mm (Rect.unit (s := S4x8x128) off S1x8x128.size inb).toLoadRect hl) k) Q) :=
  ld_blk c hoff
theorem st_m {Q : α → sProp 𝕄} (q : Fin 4) {v : Vec F S1x8x128 .f32} (w' : Vec F S1x8x128 .f32) {w : Vec F S1x8x128 .f32} (hw : w = w') {off : Fin 3 → ℕ} (hoff : off = ![q.val, 0, 0])
    {inb : ∀ a, off a + S1x8x128.size a ≤ S4x8x128.size a}
    {hx : (mm.access (Rect.unit (s := S4x8x128) off S1x8x128.size inb)).Stores Finset.univ} {hm : (Finset.univ : Finset (Rect.unit (s := S4x8x128) off S1x8x128.size inb).shape.Idx) = Finset.univ ∨ ∀ a, (Rect.unit (s := S4x8x128) off S1x8x128.size inb).stride a = 1}
    {k : PUnit → Prog (TpuEff nD τ sig (Elt F) Λ₀ .tc) α} :
    mB c q v ⊢ iprop((mB c q w' -∗ wpc c (k ⟨⟩) Q) -∗ wpc c (.op (.store mm (Rect.unit (s := S4x8x128) off S1x8x128.size inb) w Finset.univ hx hm) k) Q) := by
  subst hw; exact st_blk c hoff

/-- The staged weights, held whole. -/
def wP : sProp 𝕄 := (((c : Thread nD τ).loc cc0_stg0_0) ↦{fullShare} wst m c)

/-- A load of a column half of the weights, -/
theorem ld_wh {Q : α → sProp 𝕄} (b : Fin 2) {off : Fin 2 → ℕ} (hoff : off = ![0, 1024 * b.val])
    {inb : ∀ a, off a + S1024x1024.size a ≤ S1024x2048.size a} {hl : wM.view.LoadsAt (Rect.unit (s := S1024x2048) off S1024x1024.size inb).toLoadRect}
    {k : Vec F S1024x1024 .f32 → Prog (TpuEff nD τ sig (Elt F) Λ₀ .tc) α} :
    wP m c ⊢ iprop((wP m c -∗ wpc c (k (wh m c b)) Q) -∗ wpc c (.op (.load wM (Rect.unit (s := S1024x2048) off S1024x1024.size inb).toLoadRect hl) k) Q) := by
  subst hoff
  unfold wP
  exact wp_load_rect 𝒱₀ (c : Thread nD τ) none Set.univ (m := wM) (r := Rect.unit (s := S1024x2048) ![0, 1024 * b.val] S1024x1024.size inb) (f := wst m c) (Finset.subset_univ _)
/-- and of all of them. -/
theorem ld_w {Q : α → sProp 𝕄} {inb : ∀ a, (![0, 0] : Fin 2 → ℕ) a + S1024x2048.size a ≤ S1024x2048.size a} {hl : wM.view.LoadsAt (Rect.unit (s := S1024x2048) ![0, 0] S1024x2048.size inb).toLoadRect}
    {k : Vec F S1024x2048 .f32 → Prog (TpuEff nD τ sig (Elt F) Λ₀ .tc) α} :
    wP m c ⊢ iprop((wP m c -∗ wpc c (k (wst m c)) Q) -∗ wpc c (.op (.load wM (Rect.unit (s := S1024x2048) ![0, 0] S1024x2048.size inb).toLoadRect hl) k) Q) := by
  unfold wP
  have h : (wM.access (Rect.unit (s := S1024x2048) ![0, 0] S1024x2048.size inb)).read (Elt F) (wst m c) = wst m c :=
    Memref.readAt_unit_zero (Elt F) cc0_stg0_0 (funext fun a => by fin_cases a <;> rfl) inb (wst m c)
  iintro H Hk
  have h' := wp_load_rect (defs := defs₀) (Γ := PendingWaitsCtx.empty) (q := fullShare) (Q := Q) (k := k) (hl := hl) 𝒱₀ (c : Thread nD τ) none Set.univ (m := wM) (r := Rect.unit (s := S1024x2048) ![0, 0] S1024x2048.size inb) (S := Finset.univ) (f := wst m c) (Finset.subset_univ _)
  rw [h] at h'
  iapply h' $$ H
  iexact Hk

end Mem
end Cert.KernelProof
-- ==== Proof.Usual.lean ====
/-
  Usual: the rules in the forms the body uses them, the cutting of its blocks, and the printed offsets.
-/
module

public import proofs.«01_k».proof.Proof.Steps

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Sends and receptions, in their usual forms -/

theorem oB_E (c : Dev nD) (q : Fin 4) (s b : Fin 2) (v : Vec F S512x1024 .f32) : oB c q s b v ⊢ oE c q s b := by
  unfold oE; iintro H; iexists v; iexact H
theorem mk_right (c : Dev nD) (h : Fin 6) (s : Fin 2) (h2 : 2 ≤ h.val ∧ h.val ≤ 4) {k : ℕ} (hk : h.val - 2 = k) {v : Vec F S512x1024 .f32} :
    oB c (ck 1 k c) s 1 v ⊢ gift c (hop 0 h s) := by
  rw [give_right c h s h2 hk]; exact oB_E c _ s 1 v
theorem mk_left (c : Dev nD) (h : Fin 6) (s : Fin 2) (h2 : 1 ≤ h.val ∧ h.val ≤ 3) {k : ℕ} (hk : h.val - 1 = k) {v : Vec F S512x1024 .f32} :
    oB c (ck 0 k c) s 0 v ⊢ gift c (hop 1 h s) := by
  rw [give_left c h s h2 hk]; exact oB_E c _ s 0 v
theorem none_right (c : Dev nD) (h : Fin 6) (s : Fin 2) (h2 : ¬ (2 ≤ h.val ∧ h.val ≤ 4)) : (gift c (hop 0 h s) : sProp 𝕄) = iprop(emp) := by
  rw [gift_hop, if_pos rfl, if_neg h2]
theorem none_left (c : Dev nD) (h : Fin 6) (s : Fin 2) (h2 : ¬ (1 ≤ h.val ∧ h.val ≤ 3)) : (gift c (hop 1 h s) : sProp 𝕄) = iprop(emp) := by
  rw [gift_hop, if_neg (by decide), if_neg h2]

section Usual
variable {α : Type} (c : Dev nD)

/-- A send with nothing given beside the block. -/
theorem send_plain {Q : α → sProp 𝕄} (b : Fin 2) (h : Fin 6) (s : Fin 2) (k' j n n' : ℕ) {d : Dev nD} (hd : dst (hop b h s) c = d) (hn' : n + 1 = n') (hg : (gift c (hop b h s) : sProp 𝕄) = iprop(emp))
    (hk : h.val = k') (hn : ord.drop n = hop b h s :: ord.drop (n + 1)) (hj : min h.val 3 = j)
    {off : Fin 2 → ℕ} (hoff : off = ![1024 * (ck b k' c).val + 512 * s.val, 1024 * b.val])
    {inb : ∀ a, off a + S512x1024.size a ≤ S4096x2048.size a}
    {dv : Dev nD} (hdv : dv = d) {ss rs : DmaSem sig} (hss : ss = sendSem (hop b h s)) (hrs : rs = recvSem (hop b h s))
    {hsc : (oM.slice (Rect.unit (s := S4096x2048) off S512x1024.size inb) (fun _ => rfl)).view.ref.isScScratch = false}
    {h₁ : (oM.slice (Rect.unit (s := S4096x2048) off S512x1024.size inb) (fun _ => rfl)).view.WordExact}
    {h₂ : (oM.slice (Rect.unit (s := S4096x2048) off S512x1024.size inb) (fun _ => rfl)).view.WordExact}
    {h₃ : DmaTarget.Typed (nD := nD) (τ := τ) (p := .tc) .vmem (.dma rs) (.remote (Dev.tc dv : Thread nD τ) (oM.slice (Rect.unit (s := S4096x2048) off S512x1024.size inb) (fun _ => rfl)) (.dma ss) hsc)}
    {k : PUnit → Prog (TpuEff nD τ sig (Elt F) Λ₀ .tc) α} :
    oB c (ck b k' c) s b (acc m b (ck b k' c) s j) ⊢ iprop(oE (F := F) d (ck b k' c) s b -∗ Tk m c (hop b h s) -∗ ow c n
      -∗ (Fl m c (hop b h s) -∗ ow c n' -∗ wpc c (k ⟨⟩) Q)
      -∗ wpc c (.op (.enqueueDma (oM.slice (Rect.unit (s := S4096x2048) off S512x1024.size inb) (fun _ => rfl))
          (.remote (Dev.tc dv : Thread nD τ) (oM.slice (Rect.unit (s := S4096x2048) off S512x1024.size inb) (fun _ => rfl)) (.dma ss) hsc)
          (.dma rs) h₁ h₂ h₃) k) Q) := by
  subst hk hd hn'
  have H := send_hop m c (Q := Q) b h s n hn hj hoff hdv hss hrs (hsc := hsc) (h₁ := h₁) (h₂ := h₂) (h₃ := h₃) (k := k)
  rw [hg] at H
  iintro Ho Hd Ht How Hk
  iapply H $$ Ho Hd [] Ht How Hk
  iempintro

/-- A send with a block of one's own given. -/
theorem send_gift {Q : α → sProp 𝕄} (b : Fin 2) (h : Fin 6) (s : Fin 2) (k' j n n' : ℕ) {d : Dev nD} (hd : dst (hop b h s) c = d) (hn' : n + 1 = n') {G : sProp 𝕄} (hg : G ⊢ gift c (hop b h s))
    (hk : h.val = k') (hn : ord.drop n = hop b h s :: ord.drop (n + 1)) (hj : min h.val 3 = j)
    {off : Fin 2 → ℕ} (hoff : off = ![1024 * (ck b k' c).val + 512 * s.val, 1024 * b.val])
    {inb : ∀ a, off a + S512x1024.size a ≤ S4096x2048.size a}
    {dv : Dev nD} (hdv : dv = d) {ss rs : DmaSem sig} (hss : ss = sendSem (hop b h s)) (hrs : rs = recvSem (hop b h s))
    {hsc : (oM.slice (Rect.unit (s := S4096x2048) off S512x1024.size inb) (fun _ => rfl)).view.ref.isScScratch = false}
    {h₁ : (oM.slice (Rect.unit (s := S4096x2048) off S512x1024.size inb) (fun _ => rfl)).view.WordExact}
    {h₂ : (oM.slice (Rect.unit (s := S4096x2048) off S512x1024.size inb) (fun _ => rfl)).view.WordExact}
    {h₃ : DmaTarget.Typed (nD := nD) (τ := τ) (p := .tc) .vmem (.dma rs) (.remote (Dev.tc dv : Thread nD τ) (oM.slice (Rect.unit (s := S4096x2048) off S512x1024.size inb) (fun _ => rfl)) (.dma ss) hsc)}
    {k : PUnit → Prog (TpuEff nD τ sig (Elt F) Λ₀ .tc) α} :
    oB c (ck b k' c) s b (acc m b (ck b k' c) s j) ⊢ iprop(oE (F := F) d (ck b k' c) s b -∗ G -∗ Tk m c (hop b h s) -∗ ow c n
      -∗ (Fl m c (hop b h s) -∗ ow c n' -∗ wpc c (k ⟨⟩) Q)
      -∗ wpc c (.op (.enqueueDma (oM.slice (Rect.unit (s := S4096x2048) off S512x1024.size inb) (fun _ => rfl))
          (.remote (Dev.tc dv : Thread nD τ) (oM.slice (Rect.unit (s := S4096x2048) off S512x1024.size inb) (fun _ => rfl)) (.dma ss) hsc)
          (.dma rs) h₁ h₂ h₃) k) Q) := by
  subst hk hd hn'
  iintro Ho Hd HG Ht How Hk
  ihave HG := hg $$ HG
  iapply (send_hop m c b h s n hn hj hoff hdv hss hrs) $$ Ho Hd HG Ht How Hk

/-- The sender's wait of a hop. -/
theorem sent {Q : α → sProp 𝕄} (b : Fin 2) (h : Fin 6) (s : Fin 2) (k' j n : ℕ) (hn : n < 28) (hk : h.val = k') (hj : min h.val 3 = j)
    {off off' : Fin 2 → ℕ} {inb : ∀ a, off a + S512x1024.size a ≤ S4096x2048.size a} {inb' : ∀ a, off' a + S512x1024.size a ≤ S4096x2048.size a}
    {sem : DmaSem sig} (hsem : sem = sendSem (hop b h s))
    {h₁ : (oM.slice (Rect.unit (s := S4096x2048) off S512x1024.size inb) (fun _ => rfl)).view.WordExact}
    {h₂ : (oM.slice (Rect.unit (s := S4096x2048) off' S512x1024.size inb') (fun _ => rfl)).view.WordExact}
    {k : PUnit → Prog (TpuEff nD τ sig (Elt F) Λ₀ .tc) α} :
    Fl m c (hop b h s) ⊢ iprop(ow c n -∗ (Rv m c (hop b h s) -∗ oB c (ck b k' c) s b (acc m b (ck b k' c) s j) -∗ ow c n -∗ wpc c (k ⟨⟩) Q)
      -∗ wpc c (.op (.waitDma2 sem (oM.slice (Rect.unit (s := S4096x2048) off S512x1024.size inb) (fun _ => rfl))
          (oM.slice (Rect.unit (s := S4096x2048) off' S512x1024.size inb') (fun _ => rfl)) h₁ h₂) k) Q) := by
  subst hk
  rw [← sent_hop m c b h s hj]
  exact wait_send m c (hop b h s) n hn (credit_o (b, h, s)) hsem

/-- The receiver's, for the ring to the right with nothing given: the block is that of hop `h`, at this device. -/
theorem recv_plain {Q : α → sProp 𝕄} (b : Fin 2) (h : Fin 6) (s : Fin 2) (k' j n : ℕ) (hn : n < 28) (hp : pos (hop b h s) < n)
    (hg : ∀ d : Dev nD, (gift d (hop b h s) : sProp 𝕄) = iprop(emp)) (hj : min h.val 3 = j) (hk : h.val + 1 = k')
    {off off' : Fin 2 → ℕ} {inb : ∀ a, off a + S512x1024.size a ≤ S4096x2048.size a} {inb' : ∀ a, off' a + S512x1024.size a ≤ S4096x2048.size a}
    {sem : DmaSem sig} (hsem : sem = recvSem (hop b h s))
    {h₁ : (oM.slice (Rect.unit (s := S4096x2048) off S512x1024.size inb) (fun _ => rfl)).view.WordExact}
    {h₂ : (oM.slice (Rect.unit (s := S4096x2048) off' S512x1024.size inb') (fun _ => rfl)).view.WordExact}
    {k : PUnit → Prog (TpuEff nD τ sig (Elt F) Λ₀ .tc) α} :
    Rv m c (hop b h s) ⊢ iprop(ow c n -∗ (Dn c (hop b h s) -∗ oB c (ck b k' c) s b (acc m b (ck b k' c) s j) -∗ ow c n -∗ wpc c (k ⟨⟩) Q)
      -∗ wpc c (.op (.waitDma2 sem (oM.slice (Rect.unit (s := S4096x2048) off S512x1024.size inb) (fun _ => rfl))
          (oM.slice (Rect.unit (s := S4096x2048) off' S512x1024.size inb') (fun _ => rfl)) h₁ h₂) k) Q) := by
  have H := wait_recv m c (Q := Q) (hop b h s) n hn hp (credit_o (b, h, s) (inb := inb')) hsem (h₁ := h₁) (h₂ := h₂) (k := k)
  have e : slotV m (src (hop b h s) c) c (hop b h s) = oB c (ck b k' c) s b (acc m b (ck b k' c) s j) := by
    rcases (show ∀ b : Fin 2, b = 0 ∨ b = 1 by decide) b with rfl | rfl
    · exact got_right m c h s hj hk
    · exact got_left m c h s hj hk
  rw [e, hg] at H
  iintro Hf How Hk
  iapply H $$ Hf How
  iintro Hd Ho - How
  iapply Hk $$ Hd Ho How

/-- The receiver's where a block of the sender's comes along. -/
theorem recv_gift {Q : α → sProp 𝕄} (b : Fin 2) (h : Fin 6) (s : Fin 2) (k' j n : ℕ) (hn : n < 28) (hp : pos (hop b h s) < n)
    {G : sProp 𝕄} (hg : gift (src (hop b h s) c) (hop b h s) = G) (hj : min h.val 3 = j) (hk : h.val + 1 = k')
    {off off' : Fin 2 → ℕ} {inb : ∀ a, off a + S512x1024.size a ≤ S4096x2048.size a} {inb' : ∀ a, off' a + S512x1024.size a ≤ S4096x2048.size a}
    {sem : DmaSem sig} (hsem : sem = recvSem (hop b h s))
    {h₁ : (oM.slice (Rect.unit (s := S4096x2048) off S512x1024.size inb) (fun _ => rfl)).view.WordExact}
    {h₂ : (oM.slice (Rect.unit (s := S4096x2048) off' S512x1024.size inb') (fun _ => rfl)).view.WordExact}
    {k : PUnit → Prog (TpuEff nD τ sig (Elt F) Λ₀ .tc) α} :
    Rv m c (hop b h s) ⊢ iprop(ow c n -∗ (Dn c (hop b h s) -∗ oB c (ck b k' c) s b (acc m b (ck b k' c) s j) -∗ G -∗ ow c n -∗ wpc c (k ⟨⟩) Q)
      -∗ wpc c (.op (.waitDma2 sem (oM.slice (Rect.unit (s := S4096x2048) off S512x1024.size inb) (fun _ => rfl))
          (oM.slice (Rect.unit (s := S4096x2048) off' S512x1024.size inb') (fun _ => rfl)) h₁ h₂) k) Q) := by
  have H := wait_recv m c (Q := Q) (hop b h s) n hn hp (credit_o (b, h, s) (inb := inb')) hsem (h₁ := h₁) (h₂ := h₂) (k := k)
  have e : slotV m (src (hop b h s) c) c (hop b h s) = oB c (ck b k' c) s b (acc m b (ck b k' c) s j) := by
    rcases (show ∀ b : Fin 2, b = 0 ∨ b = 1 by decide) b with rfl | rfl
    · exact got_right m c h s hj hk
    · exact got_left m c h s hj hk
  rw [e, hg] at H
  exact H

/-- The waits of the maxima. -/
theorem sent_sca {Q : α → sProp 𝕄} (g : Fin 3) (k' n : ℕ) (hn : n < 28) (hk : g.val = k')
    {off off' : Fin 3 → ℕ} {inb : ∀ a, off a + S1x8x128.size a ≤ S4x8x128.size a} {inb' : ∀ a, off' a + S1x8x128.size a ≤ S4x8x128.size a}
    {sem : DmaSem sig} (hsem : sem = sendSem (sca g))
    {h₁ : (mm.slice (Rect.unit (s := S4x8x128) off S1x8x128.size inb) (fun _ => rfl)).view.WordExact}
    {h₂ : (mm.slice (Rect.unit (s := S4x8x128) off' S1x8x128.size inb') (fun _ => rfl)).view.WordExact}
    {k : PUnit → Prog (TpuEff nD τ sig (Elt F) Λ₀ .tc) α} :
    Fl m c (sca g) ⊢ iprop(ow c n -∗ (Rv m c (sca g) -∗ mB c (ck 0 k' c) (mxv m (ck 0 k' c)) -∗ ow c n -∗ wpc c (k ⟨⟩) Q)
      -∗ wpc c (.op (.waitDma2 sem (mm.slice (Rect.unit (s := S4x8x128) off S1x8x128.size inb) (fun _ => rfl))
          (mm.slice (Rect.unit (s := S4x8x128) off' S1x8x128.size inb') (fun _ => rfl)) h₁ h₂) k) Q) := by
  subst hk
  exact wait_send m c (sca g) n hn (credit_m g) hsem
theorem recv_sca {Q : α → sProp 𝕄} (g : Fin 3) (k' n : ℕ) (hn : n < 28) (hp : pos (sca g) < n) (hk : g.val + 1 = k')
    {off off' : Fin 3 → ℕ} {inb : ∀ a, off a + S1x8x128.size a ≤ S4x8x128.size a} {inb' : ∀ a, off' a + S1x8x128.size a ≤ S4x8x128.size a}
    {sem : DmaSem sig} (hsem : sem = recvSem (sca g))
    {h₁ : (mm.slice (Rect.unit (s := S4x8x128) off S1x8x128.size inb) (fun _ => rfl)).view.WordExact}
    {h₂ : (mm.slice (Rect.unit (s := S4x8x128) off' S1x8x128.size inb') (fun _ => rfl)).view.WordExact}
    {k : PUnit → Prog (TpuEff nD τ sig (Elt F) Λ₀ .tc) α} :
    Rv m c (sca g) ⊢ iprop(ow c n -∗ (Dn c (sca g) -∗ mB c (ck 0 k' c) (mxv m (ck 0 k' c)) -∗ ow c n -∗ wpc c (k ⟨⟩) Q)
      -∗ wpc c (.op (.waitDma2 sem (mm.slice (Rect.unit (s := S4x8x128) off S1x8x128.size inb) (fun _ => rfl))
          (mm.slice (Rect.unit (s := S4x8x128) off' S1x8x128.size inb') (fun _ => rfl)) h₁ h₂) k) Q) := by
  have H := wait_recv m c (Q := Q) (sca g) n hn hp (credit_m g (inb := inb')) hsem (h₁ := h₁) (h₂ := h₂) (k := k)
  rw [got_sca m c g hk] at H
  iintro Hf How Hk
  iapply H $$ Hf How
  iintro Hd Ho - How
  iapply Hk $$ Hd Ho How

/-- The send of the maxima, by the row's number on the way. -/
theorem send_mx {Q : α → sProp 𝕄} (g : Fin 3) (k' n n' : ℕ) (hn' : n + 1 = n') (hk : g.val = k') (hn : ord.drop n = sca g :: ord.drop (n + 1))
    {off : Fin 3 → ℕ} (hoff : off = ![(ck 0 k' c).val, 0, 0])
    {inb : ∀ a, off a + S1x8x128.size a ≤ S4x8x128.size a}
    {dv : Dev nD} (hdv : dv = nxt c) {ss rs : DmaSem sig} (hss : ss = sendSem (sca g)) (hrs : rs = recvSem (sca g))
    {hsc : (mm.slice (Rect.unit (s := S4x8x128) off S1x8x128.size inb) (fun _ => rfl)).view.ref.isScScratch = false}
    {h₁ : (mm.slice (Rect.unit (s := S4x8x128) off S1x8x128.size inb) (fun _ => rfl)).view.WordExact}
    {h₂ : (mm.slice (Rect.unit (s := S4x8x128) off S1x8x128.size inb) (fun _ => rfl)).view.WordExact}
    {h₃ : DmaTarget.Typed (nD := nD) (τ := τ) (p := .tc) .vmem (.dma rs) (.remote (Dev.tc dv : Thread nD τ) (mm.slice (Rect.unit (s := S4x8x128) off S1x8x128.size inb) (fun _ => rfl)) (.dma ss) hsc)}
    {k : PUnit → Prog (TpuEff nD τ sig (Elt F) Λ₀ .tc) α} :
    mB c (ck 0 k' c) (mxv m (ck 0 k' c)) ⊢ iprop(mE (F := F) (nxt c) (ck 0 k' c) -∗ Tk m c (sca g) -∗ ow c n
      -∗ (Fl m c (sca g) -∗ ow c n' -∗ wpc c (k ⟨⟩) Q)
      -∗ wpc c (.op (.enqueueDma (mm.slice (Rect.unit (s := S4x8x128) off S1x8x128.size inb) (fun _ => rfl))
          (.remote (Dev.tc dv : Thread nD τ) (mm.slice (Rect.unit (s := S4x8x128) off S1x8x128.size inb) (fun _ => rfl)) (.dma ss) hsc)
          (.dma rs) h₁ h₂ h₃) k) Q) := by
  subst hk hn'
  exact send_sca m c g n hn hoff hdv hss hrs

end Usual

/-! ## Blocks cut and joined -/

/-- 512 rows of `out`, the whole width. -/
theorem inb_wide (q : Fin 4) (s : Fin 2) : ∀ a, (![1024 * q.val + 512 * s.val, 0] : Fin 2 → ℕ) a + S512x2048.size a ≤ S4096x2048.size a := by
  revert q s; decide
def wideT (q : Fin 4) (s : Fin 2) : Tiling (Fin 2) (![1024 * q.val + 512 * s.val, 0] : Fin 2 → ℕ) S512x2048.size S512x1024.size
    (fun b => ![1024 * q.val + 512 * s.val, 1024 * b.val]) where
  n := ![1, 2]
  k b := ![0, b.val]
  size_eq := by decide
  off_eq b a := by revert q s b a; decide
  lt := by decide
  inj := by decide
  surj t h := ⟨⟨t 1, h 1⟩, fun a => by
    have h0 : t 0 < 1 := h 0
    fin_cases a
    · show 0 = t 0; omega
    · rfl⟩

/-- Two halves of 256 rows. -/
def rowT (q : Fin 4) (s b : Fin 2) : Tiling (Fin 2) (![1024 * q.val + 512 * s.val, 1024 * b.val] : Fin 2 → ℕ) S512x1024.size S256x1024.size
    (fun r => ![1024 * q.val + 512 * s.val + 256 * r.val, 1024 * b.val]) where
  n := ![2, 1]
  k r := ![r.val, 0]
  size_eq := by decide
  off_eq r a := by revert q s b r a; decide
  lt := by decide
  inj := by decide
  surj t h := ⟨⟨t 0, h 0⟩, fun a => by
    have h1 : t 1 < 1 := h 1
    fin_cases a
    · rfl
    · show 0 = t 1; omega⟩

/-- The rows of the maxima. -/
theorem inb_mw : ∀ a, (![0, 0, 0] : Fin 3 → ℕ) a + S4x8x128.size a ≤ S4x8x128.size a := by decide
def mxT : Tiling (Fin 4) (![0, 0, 0] : Fin 3 → ℕ) S4x8x128.size S1x8x128.size (fun q => ![q.val, 0, 0]) where
  n := ![4, 1, 1]
  k q := ![q.val, 0, 0]
  size_eq := by decide
  off_eq := by decide
  lt := by decide
  inj := by decide
  surj t h := ⟨⟨t 0, h 0⟩, fun a => by
    have h1 : t 1 < 1 := h 1
    have h2 : t 2 < 1 := h 2
    fin_cases a
    · rfl
    · show 0 = t 1; omega
    · show 0 = t 2; omega⟩

theorem two (Φ : Fin 2 → sProp 𝕄) : bigSep Finset.univ Φ = iprop(Φ 0 ∗ Φ 1) := bigSep_fin_two Φ

/-- A sub-block gives its two halves of rows. -/
theorem split_rows (c : Dev nD) (q : Fin 4) (s b : Fin 2) (v : Vec F S512x1024 .f32) :
    oB c q s b v ⊢ iprop(qB c q s 0 b (rowHalf 0 v) ∗ qB c q s 1 b (rowHalf 1 v)) := by
  have h : oB c q s b v ⊢ bigSep Finset.univ fun r : Fin 2 => qB c q s r b (fun j => v ((rowT q s b).at (s := S4096x2048) (size := S512x1024.size) (sz := S256x1024.size) (tinb := fun r => inb_q q s r b) (inb := inb_o q s b) r j)) :=
    (rowT q s b).split (s := S4096x2048) (size := S512x1024.size) (sz := S256x1024.size) (tinb := fun r => inb_q q s r b) c oM (inb := inb_o q s b) (v := v)
  have e : ∀ r : Fin 2, (fun j => v ((rowT q s b).at (s := S4096x2048) (size := S512x1024.size) (sz := S256x1024.size) (tinb := fun r => inb_q q s r b) (inb := inb_o q s b) r j)) = rowHalf r v := fun r => by
    funext j
    refine congrArg v (funext fun a => Fin.ext ?_)
    show (rowT q s b).k r a * S256x1024.size a + (j a).val = (![256 * r.val, 0] : Fin 2 → ℕ) a + 1 * (j a).val
    have : (rowT q s b).k r a * S256x1024.size a = (![256 * r.val, 0] : Fin 2 → ℕ) a :=
      (show ∀ (r a : Fin 2), (![r.val, 0] : Fin 2 → ℕ) a * S256x1024.size a = (![256 * r.val, 0] : Fin 2 → ℕ) a by decide) r a
    omega
  have h := h.trans (Entails.of_eq (congrArg (bigSep Finset.univ) (funext fun r => congrArg (qB c q s r b) (e r))))
  rw [two] at h
  exact h

/-- Both column halves of 512 rows are loaded and written at once, with this device's own product. -/
theorem ldst_wide {α : Type} {Q : α → sProp 𝕄} (c : Dev nD) (s : Fin 2) {off : Fin 2 → ℕ} (hoff : off = ![1024 * c.val + 512 * s.val, 0])
    {inb : ∀ a, off a + S512x2048.size a ≤ S4096x2048.size a} {w : Vec F S512x2048 .f32} (hw : w = own m c s)
    {hl : oM.view.LoadsAt (Rect.unit (s := S4096x2048) off S512x2048.size inb).toLoadRect}
    {hx : (oM.access (Rect.unit (s := S4096x2048) off S512x2048.size inb)).Stores Finset.univ} {hm : (Finset.univ : Finset (Rect.unit (s := S4096x2048) off S512x2048.size inb).shape.Idx) = Finset.univ ∨ ∀ a, (Rect.unit (s := S4096x2048) off S512x2048.size inb).stride a = 1}
    {k : PUnit → Prog (TpuEff nD τ sig (Elt F) Λ₀ .tc) α} :
    oE (F := F) c (ck 0 0 c) s 0 ⊢ iprop(oE (F := F) c (ck 1 0 c) s 1
      -∗ (oB c (ck 0 0 c) s 0 (acc m 0 (ck 0 0 c) s 0) -∗ oB c (ck 1 0 c) s 1 (acc m 1 (ck 1 0 c) s 0) -∗ wpc c (k ⟨⟩) Q)
      -∗ wpc c (.op (.load oM (Rect.unit (s := S4096x2048) off S512x2048.size inb).toLoadRect hl)
          fun _ => .op (.store oM (Rect.unit (s := S4096x2048) off S512x2048.size inb) w Finset.univ hx hm) k) Q) := by
  have e0 : ck 0 0 c = c := fwd_zero c
  have e1 : ck 1 0 c = c := fwd_zero c
  rw [e0, e1]
  have hs : blk c oM ![1024 * c.val + 512 * s.val, 0] S512x2048.size (inb_wide c s) w ⊢ bigSep Finset.univ fun b : Fin 2 => oB c c s b (fun j => w ((wideT c s).at (s := S4096x2048) (size := S512x2048.size) (sz := S512x1024.size) (tinb := fun b => inb_o c s b) (inb := inb_wide c s) b j)) :=
    (wideT c s).split (s := S4096x2048) (size := S512x2048.size) (sz := S512x1024.size) (tinb := fun b => inb_o c s b) c oM (inb := inb_wide c s) (v := w)
  have e : ∀ b : Fin 2, (fun j => w ((wideT c s).at (s := S4096x2048) (size := S512x2048.size) (sz := S512x1024.size) (tinb := fun b => inb_o c s b) (inb := inb_wide c s) b j)) = acc m b c s 0 := fun b => by
    subst hw
    funext j
    refine congrArg (own m c s) (funext fun a => Fin.ext ?_)
    show (wideT c s).k b a * S512x1024.size a + (j a).val = (![0, 1024 * b.val] : Fin 2 → ℕ) a + 1 * (j a).val
    have : (wideT c s).k b a * S512x1024.size a = (![0, 1024 * b.val] : Fin 2 → ℕ) a :=
      (show ∀ (b a : Fin 2), (![0, b.val] : Fin 2 → ℕ) a * S512x1024.size a = (![0, 1024 * b.val] : Fin 2 → ℕ) a by decide) b a
    omega
  have hs := hs.trans (Entails.of_eq (congrArg (bigSep Finset.univ) (funext fun b => congrArg (oB c c s b) (e b))))
  rw [two] at hs
  unfold oE
  iintro ⟨%v₀, H₀⟩ ⟨%v₁, H₁⟩ Hk
  ihave H := ((wideT c s).join (F := F) (s := S4096x2048) (size := S512x2048.size) (sz := S512x1024.size) (tinb := fun b => inb_o c s b) c oM (inb := inb_wide c s) (w := fun b => if b = 0 then v₀ else v₁)) $$ [H₀ H₁]
  · rw [two]
    unfold oB
    isplitl [H₀]
    · iexact H₀
    iexact H₁
  icases H with ⟨%v, -, H⟩
  iapply (ldst_blk c hoff) $$ H
  iintro H
  ihave H := hs $$ H
  icases H with ⟨H₀, H₁⟩
  iapply Hk $$ H₀ H₁

/-- All four chunks, from any one on. -/
theorem by_ck (b : Fin 2) (c : Dev nD) (Φ : Fin 4 → sProp 𝕄) :
    bigSep Finset.univ Φ = iprop(Φ (ck b 0 c) ∗ Φ (ck b 1 c) ∗ Φ (ck b 2 c) ∗ Φ (ck b 3 c)) := by
  rw [bigSep_univ_eq_bigSepL [ck b 0 c, ck b 1 c, ck b 2 c, ck b 3 c] (by revert b c; decide) (by revert b c; decide)]
  rfl

/-- The maxima of all devices. -/
def mxs : Vec F S4x8x128 .f32 := fun i => mxv m (i 0) fun a => ⟨if a.val = 0 then 0 else (i a).val, by
  revert a; show ∀ a : Fin 3, _; intro a
  have h1 : (i 1).val < 8 := (i 1).isLt
  have h2 : (i 2).val < 128 := (i 2).isLt
  fin_cases a
  · exact Nat.one_pos
  · exact h1
  · exact h2⟩

/-- The load of all the maxima. -/
theorem ld_mx {α : Type} {Q : α → sProp 𝕄} (c : Dev nD) {off : Fin 3 → ℕ} (hoff : off = ![0, 0, 0])
    {inb : ∀ a, off a + S4x8x128.size a ≤ S4x8x128.size a} {hl : mm.view.LoadsAt (Rect.unit (s := S4x8x128) off S4x8x128.size inb).toLoadRect}
    {k : Vec F S4x8x128 .f32 → Prog (TpuEff nD τ sig (Elt F) Λ₀ .tc) α} :
    mB c (ck 0 0 c) (mxv m (ck 0 0 c)) ⊢ iprop(mB c (ck 0 1 c) (mxv m (ck 0 1 c)) -∗ mB c (ck 0 2 c) (mxv m (ck 0 2 c)) -∗ mB c (ck 0 3 c) (mxv m (ck 0 3 c))
      -∗ (blk c mm ![0, 0, 0] S4x8x128.size inb_mw (mxs m) -∗ wpc c (k (mxs m)) Q)
      -∗ wpc c (.op (.load mm (Rect.unit (s := S4x8x128) off S4x8x128.size inb).toLoadRect hl) k) Q) := by
  unfold mB
  iintro H₀ H₁ H₂ H₃ Hk
  ihave H := (mxT.join (F := F) (s := S4x8x128) (size := S4x8x128.size) (sz := S1x8x128.size) (tinb := inb_m) c mm (inb := inb_mw) (w := fun q => mxv m q)) $$ [H₀ H₁ H₂ H₃]
  · rw [by_ck 0 c]
    isplitl [H₀]; · iexact H₀
    isplitl [H₁]; · iexact H₁
    isplitl [H₂]; · iexact H₂
    iexact H₃
  icases H with ⟨%v, %hv, H⟩
  have e : v = mxs m := funext fun i => by
    obtain ⟨q, j, rfl⟩ := mxT.cover (tinb := inb_m) (inb := inb_mw) i
    rw [hv]
    have e0 : (mxT.at (tinb := inb_m) (inb := inb_mw) q j) 0 = q := Fin.ext (by
      show q.val * 1 + (j 0).val = q.val
      have : (j 0).val < 1 := (j 0).isLt
      omega)
    unfold mxs
    rw [e0]
    refine congrArg (mxv m q) (funext fun a => Fin.ext ?_)
    revert a; show ∀ a : Fin 3, _; intro a
    have : (j 0).val < 1 := (j 0).isLt
    fin_cases a
    · show (j 0).val = 0; omega
    · show (j 1).val = 0 * 8 + (j 1).val; omega
    · show (j 2).val = 0 * 128 + (j 2).val; omega
  subst e
  iapply (ld_blk c hoff) $$ H
  iexact Hk

/-! ## The printed offsets and devices -/

theorem o1 : ∀ (c : Dev nD) (s : Fin 2), k0_off1 c (BitVec.ofNat 32 (512 * s.val)) = ![1024 * c.val + 512 * s.val, 0] := by decide +kernel
theorem o2 : ∀ (c : Dev nD) (s : Fin 2), k0_off2 c (BitVec.ofNat 32 (512 * s.val)) = ![1024 * c.val + 512 * s.val, 0] := by decide +kernel
theorem o3 : ∀ (c : Dev nD) (s : Fin 2), k0_off3 c (BitVec.ofNat 32 (512 * s.val)) = ![1024 * (ck 0 0 c).val + 512 * s.val, 1024 * (0 : Fin 2).val] := by decide +kernel
theorem o4 : ∀ (c : Dev nD) (s : Fin 2), k0_off4 c (BitVec.ofNat 32 (512 * s.val)) = ![1024 * (ck 1 0 c).val + 512 * s.val, 1024 * (1 : Fin 2).val] := by decide +kernel
theorem o5 : ∀ (c : Dev nD) (h : Fin 3) (s : Fin 2), k0_off5 c (BitVec.ofNat 32 h.val) (BitVec.ofNat 32 (512 * s.val)) = ![1024 * (ck 0 (h.val + 1) c).val + 512 * s.val, 0] := by decide +kernel
theorem o6 : ∀ (c : Dev nD) (h : Fin 3) (s : Fin 2), k0_off6 c (BitVec.ofNat 32 h.val) (BitVec.ofNat 32 (512 * s.val)) = ![1024 * (ck 1 (h.val + 1) c).val + 512 * s.val, 0] := by decide +kernel
theorem o7 : ∀ (c : Dev nD) (h : Fin 3) (s : Fin 2), k0_off7 c (BitVec.ofNat 32 h.val) (BitVec.ofNat 32 (512 * s.val)) = ![1024 * (ck 0 (h.val + 1) c).val + 512 * s.val, 1024 * (0 : Fin 2).val] := by decide +kernel
theorem o8 : ∀ (c : Dev nD) (h : Fin 3) (s : Fin 2), k0_off8 c (BitVec.ofNat 32 h.val) (BitVec.ofNat 32 (512 * s.val)) = ![1024 * (ck 0 (h.val + 1) c).val + 512 * s.val, 1024 * (0 : Fin 2).val] := by decide +kernel
theorem o9 : ∀ (c : Dev nD) (h : Fin 3) (s : Fin 2), k0_off9 c (BitVec.ofNat 32 h.val) (BitVec.ofNat 32 (512 * s.val)) = ![1024 * (ck 1 (h.val + 1) c).val + 512 * s.val, 1024 * (1 : Fin 2).val] := by decide +kernel
theorem o10 : ∀ (c : Dev nD) (h : Fin 3) (s : Fin 2), k0_off10 c (BitVec.ofNat 32 h.val) (BitVec.ofNat 32 (512 * s.val)) = ![1024 * (ck 1 (h.val + 1) c).val + 512 * s.val, 1024 * (1 : Fin 2).val] := by decide +kernel
theorem o11 : ∀ (c : Dev nD) (s : Fin 2), k0_off11 c (BitVec.ofNat 32 (512 * s.val)) = ![1024 * (ck 0 3 c).val + 512 * s.val, 1024 * (0 : Fin 2).val] := by decide +kernel
theorem o12 : ∀ (c : Dev nD) (s : Fin 2), k0_off12 c (BitVec.ofNat 32 (512 * s.val)) = ![1024 * (ck 1 3 c).val + 512 * s.val, 1024 * (1 : Fin 2).val] := by decide +kernel
theorem o13 : ∀ c : Dev nD, k0_off13 c = ![(ck 0 0 c).val, 0, 0] := by decide +kernel
theorem o14 : ∀ (c : Dev nD) (g : Fin 3), k0_off14 c (BitVec.ofNat 32 g.val) = ![(ck 0 g.val c).val, 0, 0] := by decide +kernel
theorem o15 : ∀ (c : Dev nD) (h : Fin 3) (s : Fin 2), k0_off15 c (BitVec.ofNat 32 h.val) (BitVec.ofNat 32 (512 * s.val)) = ![1024 * (ck 0 (h.val + 4) c).val + 512 * s.val, 1024 * (0 : Fin 2).val] := by decide +kernel
theorem o16 : ∀ (c : Dev nD) (h : Fin 3) (s : Fin 2), k0_off16 c (BitVec.ofNat 32 h.val) (BitVec.ofNat 32 (512 * s.val)) = ![1024 * (ck 1 (h.val + 4) c).val + 512 * s.val, 1024 * (1 : Fin 2).val] := by decide +kernel
theorem o17 : ∀ (c : Dev nD) (s r : Fin 2), k0_off17 c (BitVec.ofNat 32 (512 * s.val + 256 * r.val)) = ![1024 * (ck 0 3 c).val + 512 * s.val + 256 * r.val, 1024 * (0 : Fin 2).val] := by decide +kernel
theorem o18 : ∀ (c : Dev nD) (s r : Fin 2), k0_off18 c (BitVec.ofNat 32 (512 * s.val + 256 * r.val)) = ![1024 * (ck 0 4 c).val + 512 * s.val + 256 * r.val, 1024 * (0 : Fin 2).val] := by decide +kernel
theorem o19 : ∀ (c : Dev nD) (s r : Fin 2), k0_off19 c (BitVec.ofNat 32 (512 * s.val + 256 * r.val)) = ![1024 * (ck 1 3 c).val + 512 * s.val + 256 * r.val, 1024 * (1 : Fin 2).val] := by decide +kernel
theorem o20 : ∀ (c : Dev nD) (s r : Fin 2), k0_off20 c (BitVec.ofNat 32 (512 * s.val + 256 * r.val)) = ![1024 * (ck 1 4 c).val + 512 * s.val + 256 * r.val, 1024 * (1 : Fin 2).val] := by decide +kernel
theorem o21 : ∀ (c : Dev nD) (h s r : Fin 2), k0_off21 c (BitVec.ofNat 32 (1 + h.val)) (BitVec.ofNat 32 (512 * s.val + 256 * r.val)) = ![1024 * (ck 0 (h.val + 5) c).val + 512 * s.val + 256 * r.val, 1024 * (0 : Fin 2).val] := by decide +kernel
theorem o22 : ∀ (c : Dev nD) (h s r : Fin 2), k0_off22 c (BitVec.ofNat 32 (1 + h.val)) (BitVec.ofNat 32 (512 * s.val + 256 * r.val)) = ![1024 * (ck 1 (h.val + 5) c).val + 512 * s.val + 256 * r.val, 1024 * (1 : Fin 2).val] := by decide +kernel

/-- A printed device is the next, or the one before. -/
theorem dv_eq {x k : ℕ} {c : Dev nD} {h : x < nD} (e : x = (c.val + k) % 4) : (⟨x, h⟩ : Dev nD) = fwd c k := Fin.ext e

/-- A finished step of the sums: sub-block `(b, k, s)` with `j + 1` devices' products. -/
abbrev sO (c : Dev nD) (b : Fin 2) (k : ℕ) (s : Fin 2) (j : ℕ) : sProp 𝕄 := oB c (ck b k c) s b (acc m b (ck b k c) s j)
/-- This device's product for it. -/
abbrev sP (c : Dev nD) (b : Fin 2) (k : ℕ) (s : Fin 2) : sProp 𝕄 := pB c b s (part m c (ck b k c) s b)

/-! ## Running a printed part -/

/-- The end of a part. -/
theorem fin {α : Type} {Q : α → sProp 𝕄} (c : Dev nD) {a : α} : Q a ⊢ wpc c (.ret a) Q := by
  iintro H
  unfold wpc; rw [Idealize.SL.Sem.wp_ret]
  imodintro
  iexact H

/-- A printed part at the body's arguments. -/
abbrev at0 {R : Type*} (f : ∀ (arg0 : Memref sig .tc .hbm S4096x1024 .f32) (_ : arg0.IsWhole) (arg1 : Memref sig .tc .vmem S1024x2048 .f32) (_ : arg1.IsWhole)
    (arg2 : Memref sig .tc .vmem S4096x2048 .f32) (_ : arg2.IsWhole) (arg3 : Memref sig .tc .vmem S2x512x1024 .f32) (_ : arg3.IsWhole)
    (arg4 : Memref sig .tc .vmem S2x1024x1024 .f32) (_ : arg4.IsWhole) (arg5 : Memref sig .tc .vmem S4x8x128 .f32) (_ : arg5.IsWhole)
    (_ : DmaSems sig S2) (_ _ _ _ : DmaSems sig S12) (_ _ : DmaSems sig S3), R) : R :=
  f xA (Memref.isWhole_whole _) wM (Memref.isWhole_whole _) oM (Memref.isWhole_whole _) xb (Memref.isWhole_whole _) pm (Memref.isWhole_whole _) mm (Memref.isWhole_whole _)
    cc0_scratch3 cc0_scratch4 cc0_scratch5 cc0_scratch6 cc0_scratch7 cc0_scratch8 cc0_scratch9

/-! ## Runs of operations -/

section Runs
variable {α : Type} (c : Dev nD)

/-- One more device's product is added to a sub-block. -/
theorem add_step {Q : α → sProp 𝕄} (b : Fin 2) (j k' : ℕ) (s : Fin 2) (hk : j + 1 = k') {off : Fin 2 → ℕ} (hoff : off = ![1024 * (ck b k' c).val + 512 * s.val, 1024 * b.val])
    {offp : Fin 3 → ℕ} (hoffp : offp = ![b.val, 512 * s.val, 0])
    {f : Vec F S512x1024 .f32 → Vec F S1x512x1024 .f32 → Vec F S512x1024 .f32} (hf : ∀ v w, f v w = k0_pay6 v w)
    {inb : ∀ a, off a + S512x1024.size a ≤ S4096x2048.size a} {inbp : ∀ a, offp a + S1x512x1024.size a ≤ S2x1024x1024.size a}
    {hl hl' : oM.view.LoadsAt (Rect.unit (s := S4096x2048) off S512x1024.size inb).toLoadRect}
    {hp : pm.view.LoadsAt (Rect.unit (s := S2x1024x1024) offp S1x512x1024.size inbp).toLoadRect}
    {hx : (oM.access (Rect.unit (s := S4096x2048) off S512x1024.size inb)).Stores Finset.univ} {hm : (Finset.univ : Finset (Rect.unit (s := S4096x2048) off S512x1024.size inb).shape.Idx) = Finset.univ ∨ ∀ a, (Rect.unit (s := S4096x2048) off S512x1024.size inb).stride a = 1}
    {k : PUnit → Prog (TpuEff nD τ sig (Elt F) Λ₀ .tc) α} :
    sO m c b k' s j ⊢ iprop(sP m c b k' s -∗ (sO m c b k' s k' -∗ sP m c b k' s -∗ wpc c (k ⟨⟩) Q)
      -∗ wpc c (.op (.load oM (Rect.unit (s := S4096x2048) off S512x1024.size inb).toLoadRect hl) fun v =>
          .op (.load pm (Rect.unit (s := S2x1024x1024) offp S1x512x1024.size inbp).toLoadRect hp) fun w =>
          .op (.load oM (Rect.unit (s := S4096x2048) off S512x1024.size inb).toLoadRect hl') fun _ =>
          .op (.store oM (Rect.unit (s := S4096x2048) off S512x1024.size inb) (f v w) Finset.univ hx hm) k) Q) := by
  subst hk
  iintro B P K
  iapply (ld_o c (ck b (j + 1) c) s b hoff) $$ B
  iintro B
  iapply (ld_p c b s hoffp) $$ P
  iintro P
  iapply (ld_o c (ck b (j + 1) c) s b hoff) $$ B
  iintro B
  iapply (st_o c (ck b (j + 1) c) s b (acc m b (ck b (j + 1) c) s (j + 1)) ((hf _ _).trans (acc_next m c b j s)) hoff) $$ B
  iintro B
  iapply K $$ B P

/-- The rows of `x` have come, and this device's product for a sub-block is stored. -/
theorem part_step {Q : α → sProp 𝕄} (b : Fin 2) (k' : ℕ) (s : Fin 2) (n : ℕ) (hn : n < 28) {v₀ : Vec F S1x512x1024 .f32}
    {off : Fin 3 → ℕ} (hoff : off = ![s.val, 0, 0]) {sem : DmaSem sig} (hsem : sem = xsem s)
    {offw : Fin 2 → ℕ} (hoffw : offw = ![0, 1024 * b.val]) {offp : Fin 3 → ℕ} (hoffp : offp = ![b.val, 512 * s.val, 0])
    {f : Vec F S1x512x1024 .f32 → Vec F S1024x1024 .f32 → Vec F S1x512x1024 .f32} (hf : ∀ v w, f v w = k0_pay4 v w)
    {inb : ∀ a, off a + S1x512x1024.size a ≤ S2x512x1024.size a} {inbw : ∀ a, offw a + S1024x1024.size a ≤ S1024x2048.size a}
    {inbp : ∀ a, offp a + S1x512x1024.size a ≤ S2x1024x1024.size a}
    {src : Memref sig .tc .hbm S512x1024 .f32} {h₁ : src.view.WordExact}
    {h₂ : ((xb.slice (Rect.unit (s := S2x512x1024) off S1x512x1024.size inb) (fun _ => rfl)).squeeze S512x1024 squeezes_S1x512x1024_S512x1024).view.WordExact}
    {hl : xb.view.LoadsAt (Rect.unit (s := S2x512x1024) off S1x512x1024.size inb).toLoadRect}
    {hw : wM.view.LoadsAt (Rect.unit (s := S1024x2048) offw S1024x1024.size inbw).toLoadRect}
    {hp : pm.view.LoadsAt (Rect.unit (s := S2x1024x1024) offp S1x512x1024.size inbp).toLoadRect}
    {hx : (pm.access (Rect.unit (s := S2x1024x1024) offp S1x512x1024.size inbp)).Stores Finset.univ} {hm : (Finset.univ : Finset (Rect.unit (s := S2x1024x1024) offp S1x512x1024.size inbp).shape.Idx) = Finset.univ ∨ ∀ a, (Rect.unit (s := S2x1024x1024) offp S1x512x1024.size inbp).stride a = 1}
    {k : PUnit → Prog (TpuEff nD τ sig (Elt F) Λ₀ .tc) α} :
    XF m c s (x3 m c (ck b k' c) s) ⊢ iprop(ow c n -∗ wP m c -∗ pB c b s v₀
      -∗ (XR m c s (x3 m c (ck b k' c) s) -∗ ow c n -∗ wP m c -∗ sP m c b k' s -∗ wpc c (k ⟨⟩) Q)
      -∗ wpc c (.op (.waitDma2 sem src ((xb.slice (Rect.unit (s := S2x512x1024) off S1x512x1024.size inb) (fun _ => rfl)).squeeze S512x1024 squeezes_S1x512x1024_S512x1024) h₁ h₂) fun _ =>
          .op (.load xb (Rect.unit (s := S2x512x1024) off S1x512x1024.size inb).toLoadRect hl) fun v =>
          .op (.load wM (Rect.unit (s := S1024x2048) offw S1024x1024.size inbw).toLoadRect hw) fun w =>
          .op (.load pm (Rect.unit (s := S2x1024x1024) offp S1x512x1024.size inbp).toLoadRect hp) fun _ =>
          .op (.store pm (Rect.unit (s := S2x1024x1024) offp S1x512x1024.size inbp) (f v w) Finset.univ hx hm) k) Q) := by
  iintro X O W P K
  iapply (end_x m c s n hn hoff hsem) $$ X O
  iintro X O
  iapply (ld_x m c s hoff) $$ X
  iintro X
  iapply (ld_wh m c b hoffw) $$ W
  iintro W
  iapply (ld_p c b s hoffp) $$ P
  iintro P
  iapply (st_p c b s (part m c (ck b k' c) s b) (hf _ _) hoffp) $$ P
  iintro P
  iapply K $$ X O W P

/-- The scale of the quantiser. -/
abbrev scl : F .f32 := k0_pay38 (mxs m)

/-- 256 rows of the sums of all devices, before and after they are quantised. -/
abbrev qS (b : Fin 2) (k : ℕ) (s r : Fin 2) : sProp 𝕄 := qB c (ck b k c) s r b (rowHalf r (acc m b (ck b k c) s 3))
abbrev qD (b : Fin 2) (k : ℕ) (s r : Fin 2) : sProp 𝕄 := qB c (ck b k c) s r b (k0_pay1 (scl m) (rowHalf r (acc m b (ck b k c) s 3)))

/-- 256 rows are quantised in place. -/
theorem quant_step {Q : α → sProp 𝕄} (b : Fin 2) (k' : ℕ) (s r : Fin 2) {off : Fin 2 → ℕ}
    (hoff : off = ![1024 * (ck b k' c).val + 512 * s.val + 256 * r.val, 1024 * b.val])
    {f : Vec F S256x1024 .f32 → Vec F S256x1024 .f32} (hf : ∀ v, f v = k0_pay1 (scl m) v)
    {inb : ∀ a, off a + S256x1024.size a ≤ S4096x2048.size a}
    {hl hl' : oM.view.LoadsAt (Rect.unit (s := S4096x2048) off S256x1024.size inb).toLoadRect}
    {hx : (oM.access (Rect.unit (s := S4096x2048) off S256x1024.size inb)).Stores Finset.univ} {hm : (Finset.univ : Finset (Rect.unit (s := S4096x2048) off S256x1024.size inb).shape.Idx) = Finset.univ ∨ ∀ a, (Rect.unit (s := S4096x2048) off S256x1024.size inb).stride a = 1}
    {k : PUnit → Prog (TpuEff nD τ sig (Elt F) Λ₀ .tc) α} :
    qS m c b k' s r ⊢ iprop((qD m c b k' s r -∗ wpc c (k ⟨⟩) Q)
      -∗ wpc c (.op (.load oM (Rect.unit (s := S4096x2048) off S256x1024.size inb).toLoadRect hl) fun v =>
          .op (.load oM (Rect.unit (s := S4096x2048) off S256x1024.size inb).toLoadRect hl') fun _ =>
          .op (.store oM (Rect.unit (s := S4096x2048) off S256x1024.size inb) (f v) Finset.univ hx hm) k) Q) := by
  iintro B K
  iapply (ld_q c (ck b k' c) s r b hoff) $$ B
  iintro B
  iapply (ld_q c (ck b k' c) s r b hoff) $$ B
  iintro B
  iapply (st_q c (ck b k' c) s r b (k0_pay1 (scl m) (rowHalf r (acc m b (ck b k' c) s 3))) (hf _) hoff) $$ B
  iexact K
/-- The latter half of it, where the values to store are at hand. -/
theorem quant_end {Q : α → sProp 𝕄} (b : Fin 2) (k' : ℕ) (s r : Fin 2) {off : Fin 2 → ℕ}
    (hoff : off = ![1024 * (ck b k' c).val + 512 * s.val + 256 * r.val, 1024 * b.val])
    {w : Vec F S256x1024 .f32} (hw : w = k0_pay1 (scl m) (rowHalf r (acc m b (ck b k' c) s 3)))
    {inb : ∀ a, off a + S256x1024.size a ≤ S4096x2048.size a}
    {hl : oM.view.LoadsAt (Rect.unit (s := S4096x2048) off S256x1024.size inb).toLoadRect}
    {hx : (oM.access (Rect.unit (s := S4096x2048) off S256x1024.size inb)).Stores Finset.univ} {hm : (Finset.univ : Finset (Rect.unit (s := S4096x2048) off S256x1024.size inb).shape.Idx) = Finset.univ ∨ ∀ a, (Rect.unit (s := S4096x2048) off S256x1024.size inb).stride a = 1}
    {k : PUnit → Prog (TpuEff nD τ sig (Elt F) Λ₀ .tc) α} :
    qS m c b k' s r ⊢ iprop((qD m c b k' s r -∗ wpc c (k ⟨⟩) Q)
      -∗ wpc c (.op (.load oM (Rect.unit (s := S4096x2048) off S256x1024.size inb).toLoadRect hl) fun _ =>
          .op (.store oM (Rect.unit (s := S4096x2048) off S256x1024.size inb) w Finset.univ hx hm) k) Q) := by
  iintro B K
  iapply (ld_q c (ck b k' c) s r b hoff) $$ B
  iintro B
  iapply (st_q c (ck b k' c) s r b _ hw hoff) $$ B
  iexact K

end Runs

/-! ## What the barrier brings -/

/-- The next device's blocks, without the first; and the one before's. -/
def barNxt (c : Dev nD) : sProp 𝕄 := iprop(oE (nxt c) (ck 0 0 c) 1 0 ∗ oE (nxt c) (ck 0 1 c) 0 0 ∗ oE (nxt c) (ck 0 1 c) 1 0 ∗ oE (nxt c) (ck 0 2 c) 0 0 ∗ oE (nxt c) (ck 0 2 c) 1 0
  ∗ mE (nxt c) (ck 0 0 c) ∗ mE (nxt c) (ck 0 1 c) ∗ mE (nxt c) (ck 0 2 c))
def barPrv (c : Dev nD) : sProp 𝕄 := iprop(oE (prv c) (ck 1 0 c) 0 1 ∗ oE (prv c) (ck 1 0 c) 1 1 ∗ oE (prv c) (ck 1 1 c) 0 1 ∗ oE (prv c) (ck 1 1 c) 1 1 ∗ oE (prv c) (ck 1 2 c) 0 1 ∗ oE (prv c) (ck 1 2 c) 1 1)

theorem six (Φ : Fin 3 × Fin 2 → sProp 𝕄) : bigSep Finset.univ Φ = iprop(Φ (0, 0) ∗ Φ (0, 1) ∗ Φ (1, 0) ∗ Φ (1, 1) ∗ Φ (2, 0) ∗ Φ (2, 1)) := by
  rw [bigSep_univ_eq_bigSepL [((0, 0) : Fin 3 × Fin 2), (0, 1), (1, 0), (1, 1), (2, 0), (2, 1)] (by decide) (by decide)]; rfl
theorem three (Φ : Fin 3 → sProp 𝕄) : bigSep Finset.univ Φ = iprop(Φ 0 ∗ Φ 1 ∗ Φ 2) := by
  rw [bigSep_univ_eq_bigSepL [(0 : Fin 3), 1, 2] (by decide) (by decide)]; rfl

theorem bar_true (c : Dev nD) : barPay (F := F) c true ⊢ iprop(oE (nxt c) (ck 0 0 c) 0 0 ∗ barNxt c) := by
  unfold barPay barNxt
  dsimp only
  rw [six, three]
  iintro ⟨⟨H₀, H₁, H₂, H₃, H₄, H₅⟩, M₀, M₁, M₂⟩
  isplitl [H₀]; · iexact H₀
  isplitl [H₁]; · iexact H₁
  isplitl [H₂]; · iexact H₂
  isplitl [H₃]; · iexact H₃
  isplitl [H₄]; · iexact H₄
  isplitl [H₅]; · iexact H₅
  isplitl [M₀]; · iexact M₀
  isplitl [M₁]; · iexact M₁
  iexact M₂
theorem bar_false (c : Dev nD) : barPay (F := F) c false ⊢ barPrv c := by
  unfold barPay barPrv
  dsimp only
  rw [six]
  exact Entails.refl _

end Cert.KernelProof
-- ==== Proof.PartsA.lean ====
module

public import proofs.«01_k».proof.Proof.Usual

@[expose] public section

set_option maxRecDepth 65536

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! The first hop: the barrier, the device's own product, and the sends up to the second hop. -/

theorem part1 {Q : (Σ' (d0 : Dev nD) (v2 : BitVec 32) (v5 : BitVec 32) (v7 : BitVec 32), Sems sig S_) → sProp 𝕄} (c : Dev nD) {v₀ v₁ : Vec F S1x512x1024 .f32} :
    XR m c 0 v₀ ⊢ iprop(XR m c 1 v₁ -∗ Bk m c 0 -∗ barPay (prv c) true -∗ barPay (nxt c) false
      -∗ (∀ a b d, XF m c 0 (x3 m c c 0) -∗ XF m c 1 (x3 m c c 1) -∗ Bk m c 2 -∗ Q ⟨c, a, b, d, SemArray.scalar (sig.barrier 0 rfl)⟩)
      -∗ wpc c (at0 k0_part1) Q) := by
  iintro X₀ X₁ B P N K
  simp only [at0, k0_part1_eq_skeleton, k0_part1_skel, Prog.lift, Prog.bind_op, Prog.bind_ret, Prog.pure_eq_ret, semSignalWord]
  unfold wpc
  rw [wp_deviceId]
  iapply (dma_x m c 0 c 0 (o1 c 0) rfl rfl) $$ X₀
  iintro X₀
  iapply (dma_x m c 1 c 1 (o1 c 1) rfl rfl) $$ X₁
  iintro X₁
  iapply (signal_prv m c (dv_eq (k0_dev1_eq c))) $$ B P
  iintro B
  iapply (signal_nxt m c (dv_eq (k0_dev2_eq c))) $$ B N
  iintro B
  iapply (fin c)
  iapply K $$ X₀ X₁ B

theorem part2 {Q : BitVec 32 → sProp 𝕄} (c : Dev nD) (w₁ w₂ : BitVec 32) :
    Bk m c 2 ⊢ iprop(XF m c 0 (x3 m c c 0) -∗ wP m c -∗ oE c (ck 0 0 c) 0 0 -∗ oE c (ck 1 0 c) 0 1 -∗ Tk m c (hop 0 0 0)
      -∗ (∀ w, semVal (barCell c) 0 -∗ barNxt c -∗ barPrv c -∗ XR m c 0 (x3 m c c 0) -∗ wP m c -∗ sO m c 1 0 0 0 -∗ Fl m c (hop 0 0 0) -∗ ow c 1 -∗ Q w)
      -∗ wpc c (at0 k0_part2 c w₁ w₂ (SemArray.scalar (sig.barrier 0 rfl))) Q) := by
  iintro B X W E₀ E₁ T K
  simp only [at0, k0_part2_eq_skeleton, k0_part2_skel, Prog.lift, Prog.bind_op, Prog.bind_ret, Prog.pure_eq_ret, semWaitWord]
  iapply (wait_bar m c) $$ B
  iintro S P N O
  ihave P := (bar_false c) $$ P
  ihave N := (bar_true c) $$ N
  icases N with ⟨D, N⟩
  iapply (end_x m c 0 0 (by decide) rfl rfl) $$ X O
  iintro X O
  iapply (ld_x m c 0 rfl) $$ X
  iintro X
  iapply (ld_w m c) $$ W
  iintro W
  iapply (ldst_wide m c 0 (o2 c 0) rfl) $$ E₀ E₁
  iintro B₀ B₁
  iapply (send_plain m c 0 0 0 0 0 0 1 (d := nxt c) rfl rfl (none_right c _ _ (by decide)) rfl rfl rfl (o3 c 0) (dv_eq (k0_dev3_eq c)) rfl rfl) $$ B₀ D T O
  iintro F₀ O
  iapply (fin c)
  iapply K $$ S N P X W B₁ F₀ O

theorem part3 {Q : BitVec 32 → sProp 𝕄} (c : Dev nD) (w₁ w₂ w₃ w₄ : BitVec 32) :
    sO m c 1 0 0 0 ⊢ iprop(oE (prv c) (ck 1 0 c) 0 1 -∗ Tk m c (hop 1 0 0) -∗ ow c 1 -∗ XF m c 1 (x3 m c c 1) -∗ wP m c -∗ oE c (ck 0 0 c) 1 0 -∗ oE c (ck 1 0 c) 1 1
      -∗ (∀ w, Fl m c (hop 1 0 0) -∗ ow c 2 -∗ XR m c 1 (x3 m c c 1) -∗ wP m c -∗ sO m c 0 0 1 0 -∗ sO m c 1 0 1 0 -∗ Q w)
      -∗ wpc c (at0 k0_part3 c w₁ w₂ w₃ w₄) Q) := by
  iintro B D T O X W E₀ E₁ K
  simp only [at0, k0_part3_eq_skeleton, k0_part3_skel, Prog.lift, Prog.bind_op, Prog.bind_ret, Prog.pure_eq_ret]
  iapply (send_plain m c 1 0 0 0 0 1 2 (d := prv c) rfl rfl (none_left c _ _ (by decide)) rfl rfl rfl (o4 c 0) (dv_eq (k0_dev4_eq c)) rfl rfl) $$ B D T O
  iintro F₀ O
  iapply (end_x m c 1 2 (by decide) rfl rfl) $$ X O
  iintro X O
  iapply (ld_x m c 1 rfl) $$ X
  iintro X
  iapply (ld_w m c) $$ W
  iintro W
  iapply (ldst_wide m c 1 (o2 c 1) rfl) $$ E₀ E₁
  iintro B₀ B₁
  iapply (fin c)
  iapply K $$ F₀ O X W B₀ B₁

theorem part4 {Q : (Σ' (v106 : BitVec 32), BitVec 32) → sProp 𝕄} (c : Dev nD) (w₁ w₂ w₃ : BitVec 32) :
    sO m c 0 0 1 0 ⊢ iprop(oE (nxt c) (ck 0 0 c) 1 0 -∗ Tk m c (hop 0 0 1) -∗ sO m c 1 0 1 0 -∗ oE (prv c) (ck 1 0 c) 1 1 -∗ Tk m c (hop 1 0 1) -∗ ow c 2
      -∗ (∀ a b, Fl m c (hop 0 0 1) -∗ Fl m c (hop 1 0 1) -∗ ow c 4 -∗ Q ⟨a, b⟩)
      -∗ wpc c (at0 k0_part4 c w₁ w₂ w₃) Q) := by
  iintro B D T B' D' T' O K
  simp only [at0, k0_part4_eq_skeleton, k0_part4_skel, Prog.lift, Prog.bind_op, Prog.bind_ret, Prog.pure_eq_ret]
  iapply (send_plain m c 0 0 1 0 0 2 3 (d := nxt c) rfl rfl (none_right c _ _ (by decide)) rfl rfl rfl (o3 c 1) (dv_eq (k0_dev5_eq c)) rfl rfl) $$ B D T O
  iintro F₀ O
  iapply (send_plain m c 1 0 1 0 0 3 4 (d := prv c) rfl rfl (none_left c _ _ (by decide)) rfl rfl rfl (o4 c 1) (dv_eq (k0_dev6_eq c)) rfl rfl) $$ B' D' T' O
  iintro F₁ O
  iapply (fin c)
  iapply K $$ F₀ F₁ O

theorem part5 {Q : PUnit → sProp 𝕄} (c : Dev nD) (w₁ w₂ : BitVec 32) {v₀ v₁ v₂ : Vec F S1x512x1024 .f32} :
    XR m c 0 v₀ ⊢ iprop(XR m c 1 v₁ -∗ ow c 4 -∗ wP m c -∗ pB c 0 0 v₂
      -∗ (XR m c 0 (x3 m c (ck 0 1 c) 0) -∗ XF m c 1 (x3 m c (ck 0 1 c) 1) -∗ ow c 4 -∗ wP m c -∗ sP m c 0 1 0 -∗ Q ⟨⟩)
      -∗ wpc c (at0 k0_part5 c w₁ w₂) Q) := by
  iintro X₀ X₁ O W P K
  simp only [at0, k0_part5_eq_skeleton, k0_part5_skel, Prog.lift, Prog.bind_op, Prog.bind_ret, Prog.pure_eq_ret]
  iapply (dma_x m c 0 (ck 0 1 c) 0 (o5 c 0 0) rfl rfl) $$ X₀
  iintro X₀
  iapply (dma_x m c 1 (ck 0 1 c) 1 (o5 c 0 1) rfl rfl) $$ X₁
  iintro X₁
  iapply (part_step m c 0 1 0 4 (by decide) rfl rfl rfl rfl (f := k0_pay4) (fun _ _ => rfl)) $$ X₀ O W P
  iintro X₀ O W P
  iapply (fin c)
  iapply K $$ X₀ X₁ O W P

theorem part6 {Q : PUnit → sProp 𝕄} (c : Dev nD) (w₁ w₂ : BitVec 32) {v₀ v₂ : Vec F S1x512x1024 .f32} :
    XR m c 0 v₀ ⊢ iprop(XF m c 1 (x3 m c (ck 0 1 c) 1) -∗ ow c 4 -∗ wP m c -∗ pB c 0 1 v₂
      -∗ (XF m c 0 (x3 m c (ck 1 1 c) 0) -∗ XF m c 1 (x3 m c (ck 1 1 c) 1) -∗ ow c 4 -∗ wP m c -∗ sP m c 0 1 1 -∗ Q ⟨⟩)
      -∗ wpc c (at0 k0_part6 c w₁ w₂) Q) := by
  iintro X₀ X₁ O W P K
  simp only [at0, k0_part6_eq_skeleton, k0_part6_skel, Prog.lift, Prog.bind_op, Prog.bind_ret, Prog.pure_eq_ret]
  iapply (dma_x m c 0 (ck 1 1 c) 0 (o6 c 0 0) rfl rfl) $$ X₀
  iintro X₀
  iapply (part_step m c 0 1 1 4 (by decide) rfl rfl rfl rfl (f := k0_pay5) (fun _ _ => rfl)) $$ X₁ O W P
  iintro X₁ O W P
  iapply (dma_x m c 1 (ck 1 1 c) 1 (o6 c 0 1) rfl rfl) $$ X₁
  iintro X₁
  iapply (fin c)
  iapply K $$ X₀ X₁ O W P

theorem part7 {Q : PUnit → sProp 𝕄} (c : Dev nD) (w₁ w₂ : BitVec 32) :
    Fl m c (hop 0 0 0) ⊢ iprop(sP m c 0 1 0 -∗ oE (nxt c) (ck 0 1 c) 0 0 -∗ Tk m c (hop 0 1 0) -∗ ow c 4
      -∗ (sO m c 0 0 0 0 -∗ Dn c (hop 0 0 0) -∗ sP m c 0 1 0 -∗ Fl m c (hop 0 1 0) -∗ ow c 5 -∗ Q ⟨⟩)
      -∗ wpc c (at0 k0_part7 c w₁ w₂) Q) := by
  iintro F₀ P D T O K
  simp only [at0, k0_part7_eq_skeleton, k0_part7_skel, Prog.lift, Prog.bind_op, Prog.bind_ret, Prog.pure_eq_ret]
  iapply (sent m c 0 0 0 0 0 4 (by decide) rfl rfl rfl) $$ F₀ O
  iintro R₀ B₀ O
  iapply (recv_plain m c 0 0 0 1 0 4 (by decide) (by decide) (fun d => none_right d _ _ (by decide)) rfl rfl rfl) $$ R₀ O
  iintro D₀ B₁ O
  iapply (add_step m c 0 0 1 0 rfl (o8 c 0 0) rfl (f := k0_pay6) (fun _ _ => rfl)) $$ B₁ P
  iintro B₁ P
  iapply (send_plain m c 0 1 0 1 1 4 5 (d := nxt c) rfl rfl (none_right c _ _ (by decide)) rfl rfl rfl (o7 c 0 0) (dv_eq (k0_dev7_eq c)) rfl rfl) $$ B₁ D T O
  iintro F₁ O
  iapply (fin c)
  iapply K $$ B₀ D₀ P F₁ O

theorem part8 {Q : BitVec 32 → sProp 𝕄} (c : Dev nD) (w₁ w₂ : BitVec 32) {v₂ : Vec F S1x512x1024 .f32} :
    XF m c 0 (x3 m c (ck 1 1 c) 0) ⊢ iprop(ow c 5 -∗ wP m c -∗ pB c 1 0 v₂ -∗ Fl m c (hop 0 0 1)
      -∗ (∀ w, XR m c 0 (x3 m c (ck 1 1 c) 0) -∗ ow c 5 -∗ wP m c -∗ sP m c 1 1 0 -∗ sO m c 0 0 1 0 -∗ Dn c (hop 0 0 1) -∗ sO m c 0 1 1 0 -∗ Q w)
      -∗ wpc c (at0 k0_part8 c w₁ w₂) Q) := by
  iintro X O W P F₀ K
  simp only [at0, k0_part8_eq_skeleton, k0_part8_skel, Prog.lift, Prog.bind_op, Prog.bind_ret, Prog.pure_eq_ret]
  iapply (part_step m c 1 1 0 5 (by decide) rfl rfl rfl rfl (f := k0_pay7) (fun _ _ => rfl)) $$ X O W P
  iintro X O W P
  iapply (sent m c 0 0 1 0 0 5 (by decide) rfl rfl rfl) $$ F₀ O
  iintro R₀ B₀ O
  iapply (recv_plain m c 0 0 1 1 0 5 (by decide) (by decide) (fun d => none_right d _ _ (by decide)) rfl rfl rfl) $$ R₀ O
  iintro D₀ B₁ O
  iapply (fin c)
  iapply K $$ X O W P B₀ D₀ B₁

theorem part9 {Q : (Σ' (v255 : FVec F S512x1024 .f32) (v257 : FVec F S1024x1024 .f32), FVec F S512x1024 .f32) → sProp 𝕄} (c : Dev nD) (w₁ w₂ w₃ : BitVec 32) :
    sO m c 0 1 1 0 ⊢ iprop(sP m c 0 1 1 -∗ oE (nxt c) (ck 0 1 c) 1 0 -∗ Tk m c (hop 0 1 1) -∗ ow c 5 -∗ XF m c 1 (x3 m c (ck 1 1 c) 1) -∗ wP m c
      -∗ (sP m c 0 1 1 -∗ Fl m c (hop 0 1 1) -∗ ow c 6 -∗ XR m c 1 (x3 m c (ck 1 1 c) 1) -∗ wP m c
        -∗ Q ⟨k0_pay9 (x3 m c (ck 1 1 c) 1), k0_pay10 (wh m c 1), constant S512x1024 .f32 0x00000000#32⟩)
      -∗ wpc c (at0 k0_part9 c w₁ w₂ w₃) Q) := by
  iintro B P D T O X W K
  simp only [at0, k0_part9_eq_skeleton, k0_part9_skel, Prog.lift, Prog.bind_op, Prog.bind_ret, Prog.pure_eq_ret]
  iapply (add_step m c 0 0 1 1 rfl (o8 c 0 1) rfl (f := k0_pay8) (fun _ _ => rfl)) $$ B P
  iintro B P
  iapply (send_plain m c 0 1 1 1 1 5 6 (d := nxt c) rfl rfl (none_right c _ _ (by decide)) rfl rfl rfl (o7 c 0 1) (dv_eq (k0_dev8_eq c)) rfl rfl) $$ B D T O
  iintro F₁ O
  iapply (end_x m c 1 6 (by decide) rfl rfl) $$ X O
  iintro X O
  iapply (ld_x m c 1 rfl) $$ X
  iintro X
  iapply (ld_wh m c 1 rfl) $$ W
  iintro W
  iapply (fin c)
  iapply K $$ P F₁ O X W

theorem part10 {Q : (Σ' (v286 : BitVec 32), BitVec 32) → sProp 𝕄} (c : Dev nD) (w₁ w₂ : BitVec 32) {v₂ : Vec F S1x512x1024 .f32} :
    pB c 1 1 v₂ ⊢ iprop(Fl m c (hop 1 0 0) -∗ ow c 6 -∗ sP m c 1 1 0
      -∗ (∀ a b, sP m c 1 1 1 -∗ sO m c 1 0 0 0 -∗ Dn c (hop 1 0 0) -∗ sO m c 1 1 0 1 -∗ ow c 6 -∗ sP m c 1 1 0 -∗ Q ⟨a, b⟩)
      -∗ wpc c (at0 k0_part10 c w₁ w₂ (k0_pay9 (x3 m c (ck 1 1 c) 1)) (k0_pay10 (wh m c 1)) (constant S512x1024 .f32 0x00000000#32)) Q) := by
  iintro P₁ F₀ O P K
  simp only [at0, k0_part10_eq_skeleton, k0_part10_skel, Prog.lift, Prog.bind_op, Prog.bind_ret, Prog.pure_eq_ret]
  iapply (ld_p c 1 1 rfl) $$ P₁
  iintro P₁
  iapply (st_p c 1 1 (part m c (ck 1 1 c) 1 1) rfl rfl) $$ P₁
  iintro P₁
  iapply (sent m c 1 0 0 0 0 6 (by decide) rfl rfl rfl) $$ F₀ O
  iintro R₀ B₀ O
  iapply (recv_plain m c 1 0 0 1 0 6 (by decide) (by decide) (fun d => none_left d _ _ (by decide)) rfl rfl rfl) $$ R₀ O
  iintro D₀ B₁ O
  iapply (add_step m c 1 0 1 0 rfl (o10 c 0 0) rfl (f := k0_pay12) (fun _ _ => rfl)) $$ B₁ P
  iintro B₁ P
  iapply (fin c)
  iapply K $$ P₁ B₀ D₀ B₁ O P

theorem part11 {Q : (Σ' (v313 : BitVec 32), FVec F S512x1024 .f32) → sProp 𝕄} (c : Dev nD) (w₁ w₂ w₃ w₄ : BitVec 32) :
    sO m c 1 1 0 1 ⊢ iprop(oE (prv c) (ck 1 1 c) 0 1 -∗ sO m c 0 0 0 0 -∗ Tk m c (hop 1 1 0) -∗ ow c 6 -∗ Fl m c (hop 1 0 1)
      -∗ (∀ a, Fl m c (hop 1 1 0) -∗ ow c 7 -∗ sO m c 1 0 1 0 -∗ Dn c (hop 1 0 1) -∗ sO m c 1 1 1 0 -∗ Q ⟨a, k0_pay13 (acc m 1 (ck 1 1 c) 1 0)⟩)
      -∗ wpc c (at0 k0_part11 c w₁ w₂ w₃ w₄) Q) := by
  iintro B D G T O F₀ K
  simp only [at0, k0_part11_eq_skeleton, k0_part11_skel, Prog.lift, Prog.bind_op, Prog.bind_ret, Prog.pure_eq_ret]
  iapply (send_gift m c 1 1 0 1 1 6 7 (d := prv c) rfl rfl (mk_left c 1 0 (by decide) (k := 0) rfl) rfl rfl rfl (o9 c 0 0) (dv_eq (k0_dev9_eq c)) rfl rfl) $$ B D G T O
  iintro F₁ O
  iapply (sent m c 1 0 1 0 0 7 (by decide) rfl rfl rfl) $$ F₀ O
  iintro R₀ B₀ O
  iapply (recv_plain m c 1 0 1 1 0 7 (by decide) (by decide) (fun d => none_left d _ _ (by decide)) rfl rfl rfl) $$ R₀ O
  iintro D₀ B₁ O
  iapply (ld_o c (ck 1 1 c) 1 1 (o10 c 0 1)) $$ B₁
  iintro B₁
  iapply (fin c)
  iapply K $$ F₁ O B₀ D₀ B₁

theorem part12 {Q : (Σ' (v337 : BitVec 32), BitVec 32) → sProp 𝕄} (c : Dev nD) (w₁ w₂ w₃ w₄ : BitVec 32) :
    sO m c 1 1 1 0 ⊢ iprop(sP m c 1 1 1 -∗ oE (prv c) (ck 1 1 c) 1 1 -∗ sO m c 0 0 1 0 -∗ Tk m c (hop 1 1 1) -∗ ow c 7
      -∗ (∀ a b, sP m c 1 1 1 -∗ Fl m c (hop 1 1 1) -∗ ow c 8 -∗ Q ⟨a, b⟩)
      -∗ wpc c (at0 k0_part12 c w₁ w₂ w₃ w₄ (k0_pay13 (acc m 1 (ck 1 1 c) 1 0))) Q) := by
  iintro B P D G T O K
  simp only [at0, k0_part12_eq_skeleton, k0_part12_skel, Prog.lift, Prog.bind_op, Prog.bind_ret, Prog.pure_eq_ret]
  iapply (ld_p c 1 1 rfl) $$ P
  iintro P
  iapply (ld_o c (ck 1 1 c) 1 1 (o10 c 0 1)) $$ B
  iintro B
  iapply (st_o c (ck 1 1 c) 1 1 (acc m 1 (ck 1 1 c) 1 1) (acc_next m c 1 0 1) (o10 c 0 1)) $$ B
  iintro B
  iapply (send_gift m c 1 1 1 1 1 7 8 (d := prv c) rfl rfl (mk_left c 1 1 (by decide) (k := 0) rfl) rfl rfl rfl (o9 c 0 1) (dv_eq (k0_dev10_eq c)) rfl rfl) $$ B D G T O
  iintro F₁ O
  iapply (fin c)
  iapply K $$ P F₁ O

end Cert.KernelProof
-- ==== Proof.PartsB.lean ====
module

public import proofs.«01_k».proof.Proof.Usual

@[expose] public section

set_option maxRecDepth 65536

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! The second and the third hop. -/

theorem part13 {Q : PUnit → sProp 𝕄} (c : Dev nD) (w₁ w₂ : BitVec 32) {v₀ v₁ v₂ : Vec F S1x512x1024 .f32} :
    XR m c 0 v₀ ⊢ iprop(XR m c 1 v₁ -∗ ow c 8 -∗ wP m c -∗ pB c 0 0 v₂
      -∗ (XF m c 0 (x3 m c (ck 1 2 c) 0) -∗ XF m c 1 (x3 m c (ck 0 2 c) 1) -∗ ow c 8 -∗ wP m c -∗ sP m c 0 2 0 -∗ Q ⟨⟩)
      -∗ wpc c (at0 k0_part13 c w₁ w₂) Q) := by
  iintro X₀ X₁ O W P K
  simp only [at0, k0_part13_eq_skeleton, k0_part13_skel, Prog.lift, Prog.bind_op, Prog.bind_ret, Prog.pure_eq_ret]
  iapply (dma_x m c 0 (ck 0 2 c) 0 (o5 c 1 0) rfl rfl) $$ X₀
  iintro X₀
  iapply (dma_x m c 1 (ck 0 2 c) 1 (o5 c 1 1) rfl rfl) $$ X₁
  iintro X₁
  iapply (part_step m c 0 2 0 8 (by decide) rfl rfl rfl rfl (f := k0_pay15) (fun _ _ => rfl)) $$ X₀ O W P
  iintro X₀ O W P
  iapply (dma_x m c 0 (ck 1 2 c) 0 (o6 c 1 0) rfl rfl) $$ X₀
  iintro X₀
  iapply (fin c)
  iapply K $$ X₀ X₁ O W P

theorem part14 {Q : PUnit → sProp 𝕄} (c : Dev nD) (w₁ w₂ : BitVec 32) {v₂ : Vec F S1x512x1024 .f32} :
    XF m c 1 (x3 m c (ck 0 2 c) 1) ⊢ iprop(ow c 8 -∗ wP m c -∗ pB c 0 1 v₂
      -∗ (XF m c 1 (x3 m c (ck 1 2 c) 1) -∗ ow c 8 -∗ wP m c -∗ sP m c 0 2 1 -∗ Q ⟨⟩)
      -∗ wpc c (at0 k0_part14 c w₁ w₂) Q) := by
  iintro X₁ O W P K
  simp only [at0, k0_part14_eq_skeleton, k0_part14_skel, Prog.lift, Prog.bind_op, Prog.bind_ret, Prog.pure_eq_ret]
  iapply (part_step m c 0 2 1 8 (by decide) rfl rfl rfl rfl (f := k0_pay16) (fun _ _ => rfl)) $$ X₁ O W P
  iintro X₁ O W P
  iapply (dma_x m c 1 (ck 1 2 c) 1 (o6 c 1 1) rfl rfl) $$ X₁
  iintro X₁
  iapply (fin c)
  iapply K $$ X₁ O W P

theorem part15 {Q : PUnit → sProp 𝕄} (c : Dev nD) (w₁ w₂ : BitVec 32) :
    Fl m c (hop 0 1 0) ⊢ iprop(sP m c 0 2 0 -∗ oE (nxt c) (ck 0 2 c) 0 0 -∗ sO m c 1 0 0 0 -∗ Tk m c (hop 0 2 0) -∗ ow c 8
      -∗ (sO m c 0 1 0 1 -∗ Dn c (hop 0 1 0) -∗ sP m c 0 2 0 -∗ Fl m c (hop 0 2 0) -∗ ow c 9 -∗ Q ⟨⟩)
      -∗ wpc c (at0 k0_part15 c w₁ w₂) Q) := by
  iintro F₀ P D G T O K
  simp only [at0, k0_part15_eq_skeleton, k0_part15_skel, Prog.lift, Prog.bind_op, Prog.bind_ret, Prog.pure_eq_ret]
  iapply (sent m c 0 1 0 1 1 8 (by decide) rfl rfl rfl) $$ F₀ O
  iintro R₀ B₀ O
  iapply (recv_plain m c 0 1 0 2 1 8 (by decide) (by decide) (fun d => none_right d _ _ (by decide)) rfl rfl rfl) $$ R₀ O
  iintro D₀ B₁ O
  iapply (add_step m c 0 1 2 0 rfl (o8 c 1 0) rfl (f := k0_pay17) (fun _ _ => rfl)) $$ B₁ P
  iintro B₁ P
  iapply (send_gift m c 0 2 0 2 2 8 9 (d := nxt c) rfl rfl (mk_right c 2 0 (by decide) (k := 0) rfl) rfl rfl rfl (o7 c 1 0) (dv_eq (k0_dev11_eq c)) rfl rfl) $$ B₁ D G T O
  iintro F₁ O
  iapply (fin c)
  iapply K $$ B₀ D₀ P F₁ O

theorem part16 {Q : BitVec 32 → sProp 𝕄} (c : Dev nD) (w₁ w₂ : BitVec 32) {v₂ : Vec F S1x512x1024 .f32} :
    XF m c 0 (x3 m c (ck 1 2 c) 0) ⊢ iprop(ow c 9 -∗ wP m c -∗ pB c 1 0 v₂ -∗ Fl m c (hop 0 1 1)
      -∗ (∀ w, XR m c 0 (x3 m c (ck 1 2 c) 0) -∗ ow c 9 -∗ wP m c -∗ sP m c 1 2 0 -∗ sO m c 0 1 1 1 -∗ Dn c (hop 0 1 1) -∗ sO m c 0 2 1 1 -∗ Q w)
      -∗ wpc c (at0 k0_part16 c w₁ w₂) Q) := by
  iintro X O W P F₀ K
  simp only [at0, k0_part16_eq_skeleton, k0_part16_skel, Prog.lift, Prog.bind_op, Prog.bind_ret, Prog.pure_eq_ret]
  iapply (part_step m c 1 2 0 9 (by decide) rfl rfl rfl rfl (f := k0_pay18) (fun _ _ => rfl)) $$ X O W P
  iintro X O W P
  iapply (sent m c 0 1 1 1 1 9 (by decide) rfl rfl rfl) $$ F₀ O
  iintro R₀ B₀ O
  iapply (recv_plain m c 0 1 1 2 1 9 (by decide) (by decide) (fun d => none_right d _ _ (by decide)) rfl rfl rfl) $$ R₀ O
  iintro D₀ B₁ O
  iapply (fin c)
  iapply K $$ X O W P B₀ D₀ B₁

theorem part17 {Q : FVec F S512x1024 .f32 → sProp 𝕄} (c : Dev nD) (w₁ w₂ w₃ : BitVec 32) :
    sO m c 0 2 1 1 ⊢ iprop(sP m c 0 2 1 -∗ oE (nxt c) (ck 0 2 c) 1 0 -∗ sO m c 1 0 1 0 -∗ Tk m c (hop 0 2 1) -∗ ow c 9 -∗ XF m c 1 (x3 m c (ck 1 2 c) 1) -∗ wP m c
      -∗ (sP m c 0 2 1 -∗ Fl m c (hop 0 2 1) -∗ ow c 10 -∗ XR m c 1 (x3 m c (ck 1 2 c) 1) -∗ wP m c
        -∗ Q (k0_pay20 (x3 m c (ck 1 2 c) 1) (wh m c 1)))
      -∗ wpc c (at0 k0_part17 c w₁ w₂ w₃) Q) := by
  iintro B P D G T O X W K
  simp only [at0, k0_part17_eq_skeleton, k0_part17_skel, Prog.lift, Prog.bind_op, Prog.bind_ret, Prog.pure_eq_ret]
  iapply (add_step m c 0 1 2 1 rfl (o8 c 1 1) rfl (f := k0_pay19) (fun _ _ => rfl)) $$ B P
  iintro B P
  iapply (send_gift m c 0 2 1 2 2 9 10 (d := nxt c) rfl rfl (mk_right c 2 1 (by decide) (k := 0) rfl) rfl rfl rfl (o7 c 1 1) (dv_eq (k0_dev12_eq c)) rfl rfl) $$ B D G T O
  iintro F₁ O
  iapply (end_x m c 1 10 (by decide) rfl rfl) $$ X O
  iintro X O
  iapply (ld_x m c 1 rfl) $$ X
  iintro X
  iapply (ld_wh m c 1 rfl) $$ W
  iintro W
  iapply (fin c)
  iapply K $$ P F₁ O X W

theorem part18 {Q : BitVec 32 → sProp 𝕄} (c : Dev nD) (w₁ w₂ : BitVec 32) {v₂ : Vec F S1x512x1024 .f32} :
    pB c 1 1 v₂ ⊢ iprop(Fl m c (hop 1 1 0) -∗ ow c 10 -∗ sP m c 1 2 0
      -∗ (∀ a, sP m c 1 2 1 -∗ sO m c 1 1 0 1 -∗ Dn c (hop 1 1 0) -∗ sO m c 1 2 0 2 -∗ oE (nxt c) (ck 0 3 c) 0 0 -∗ ow c 10 -∗ sP m c 1 2 0 -∗ Q a)
      -∗ wpc c (at0 k0_part18 c w₁ w₂ (k0_pay20 (x3 m c (ck 1 2 c) 1) (wh m c 1))) Q) := by
  iintro P₁ F₀ O P K
  simp only [at0, k0_part18_eq_skeleton, k0_part18_skel, Prog.lift, Prog.bind_op, Prog.bind_ret, Prog.pure_eq_ret]
  iapply (ld_p c 1 1 rfl) $$ P₁
  iintro P₁
  iapply (st_p c 1 1 (part m c (ck 1 2 c) 1 1) rfl rfl) $$ P₁
  iintro P₁
  iapply (sent m c 1 1 0 1 1 10 (by decide) rfl rfl rfl) $$ F₀ O
  iintro R₀ B₀ O
  iapply (recv_gift m c 1 1 0 2 1 10 (by decide) (by decide) (gift_left c 1 0 (by decide) (k := 3) rfl) rfl rfl rfl) $$ R₀ O
  iintro D₀ B₁ E O
  iapply (add_step m c 1 1 2 0 rfl (o10 c 1 0) rfl (f := k0_pay22) (fun _ _ => rfl)) $$ B₁ P
  iintro B₁ P
  iapply (fin c)
  iapply K $$ P₁ B₀ D₀ B₁ E O P

theorem part19 {Q : (Σ' (v544 : BitVec 32), FVec F S512x1024 .f32) → sProp 𝕄} (c : Dev nD) (w₁ w₂ w₃ : BitVec 32) :
    sO m c 1 2 0 2 ⊢ iprop(oE (prv c) (ck 1 2 c) 0 1 -∗ sO m c 0 1 0 1 -∗ Tk m c (hop 1 2 0) -∗ ow c 10 -∗ Fl m c (hop 1 1 1)
      -∗ (∀ a, Fl m c (hop 1 2 0) -∗ ow c 11 -∗ sO m c 1 1 1 1 -∗ Dn c (hop 1 1 1) -∗ sO m c 1 2 1 1 -∗ oE (nxt c) (ck 0 3 c) 1 0 -∗ Q ⟨a, k0_pay23 (acc m 1 (ck 1 2 c) 1 1)⟩)
      -∗ wpc c (at0 k0_part19 c w₁ w₂ w₃) Q) := by
  iintro B D G T O F₀ K
  simp only [at0, k0_part19_eq_skeleton, k0_part19_skel, Prog.lift, Prog.bind_op, Prog.bind_ret, Prog.pure_eq_ret]
  iapply (send_gift m c 1 2 0 2 2 10 11 (d := prv c) rfl rfl (mk_left c 2 0 (by decide) (k := 1) rfl) rfl rfl rfl (o9 c 1 0) (dv_eq (k0_dev13_eq c)) rfl rfl) $$ B D G T O
  iintro F₁ O
  iapply (sent m c 1 1 1 1 1 11 (by decide) rfl rfl rfl) $$ F₀ O
  iintro R₀ B₀ O
  iapply (recv_gift m c 1 1 1 2 1 11 (by decide) (by decide) (gift_left c 1 1 (by decide) (k := 3) rfl) rfl rfl rfl) $$ R₀ O
  iintro D₀ B₁ E O
  iapply (ld_o c (ck 1 2 c) 1 1 (o10 c 1 1)) $$ B₁
  iintro B₁
  iapply (fin c)
  iapply K $$ F₁ O B₀ D₀ B₁ E

theorem part20 {Q : (Σ' (v568 : BitVec 32) (v571 : BitVec 32), BitVec 32) → sProp 𝕄} (c : Dev nD) (w₁ w₂ w₃ w₄ : BitVec 32) {v₀ : Vec F S1x512x1024 .f32} :
    sO m c 1 2 1 1 ⊢ iprop(sP m c 1 2 1 -∗ oE (prv c) (ck 1 2 c) 1 1 -∗ sO m c 0 1 1 1 -∗ Tk m c (hop 1 2 1) -∗ ow c 11 -∗ XR m c 0 v₀
      -∗ (∀ a b d, sP m c 1 2 1 -∗ Fl m c (hop 1 2 1) -∗ ow c 12 -∗ XF m c 0 (x3 m c (ck 0 3 c) 0) -∗ Q ⟨a, b, d⟩)
      -∗ wpc c (at0 k0_part20 c w₁ w₂ w₃ w₄ (k0_pay23 (acc m 1 (ck 1 2 c) 1 1))) Q) := by
  iintro B P D G T O X K
  simp only [at0, k0_part20_eq_skeleton, k0_part20_skel, Prog.lift, Prog.bind_op, Prog.bind_ret, Prog.pure_eq_ret]
  iapply (ld_p c 1 1 rfl) $$ P
  iintro P
  iapply (ld_o c (ck 1 2 c) 1 1 (o10 c 1 1)) $$ B
  iintro B
  iapply (st_o c (ck 1 2 c) 1 1 (acc m 1 (ck 1 2 c) 1 2) (acc_next m c 1 1 1) (o10 c 1 1)) $$ B
  iintro B
  iapply (send_gift m c 1 2 1 2 2 11 12 (d := prv c) rfl rfl (mk_left c 2 1 (by decide) (k := 1) rfl) rfl rfl rfl (o9 c 1 1) (dv_eq (k0_dev14_eq c)) rfl rfl) $$ B D G T O
  iintro F₁ O
  iapply (dma_x m c 0 (ck 0 3 c) 0 (o5 c 2 0) rfl rfl) $$ X
  iintro X
  iapply (fin c)
  iapply K $$ P F₁ O X

theorem part21 {Q : PUnit → sProp 𝕄} (c : Dev nD) (w₁ w₂ w₃ : BitVec 32) {v₁ v₂ : Vec F S1x512x1024 .f32} :
    XF m c 0 (x3 m c (ck 0 3 c) 0) ⊢ iprop(XR m c 1 v₁ -∗ ow c 12 -∗ wP m c -∗ pB c 0 0 v₂
      -∗ (XF m c 0 (x3 m c (ck 1 3 c) 0) -∗ XF m c 1 (x3 m c (ck 0 3 c) 1) -∗ ow c 12 -∗ wP m c -∗ sP m c 0 3 0 -∗ Q ⟨⟩)
      -∗ wpc c (at0 k0_part21 c w₁ w₂ w₃) Q) := by
  iintro X₀ X₁ O W P K
  simp only [at0, k0_part21_eq_skeleton, k0_part21_skel, Prog.lift, Prog.bind_op, Prog.bind_ret, Prog.pure_eq_ret]
  iapply (dma_x m c 1 (ck 0 3 c) 1 (o5 c 2 1) rfl rfl) $$ X₁
  iintro X₁
  iapply (part_step m c 0 3 0 12 (by decide) rfl rfl rfl rfl (f := k0_pay25) (fun _ _ => rfl)) $$ X₀ O W P
  iintro X₀ O W P
  iapply (dma_x m c 0 (ck 1 3 c) 0 (o6 c 2 0) rfl rfl) $$ X₀
  iintro X₀
  iapply (fin c)
  iapply K $$ X₀ X₁ O W P

theorem part22 {Q : PUnit → sProp 𝕄} (c : Dev nD) (w₁ w₂ : BitVec 32) {v₂ : Vec F S1x512x1024 .f32} :
    XF m c 1 (x3 m c (ck 0 3 c) 1) ⊢ iprop(ow c 12 -∗ wP m c -∗ pB c 0 1 v₂ -∗ Fl m c (hop 0 2 0)
      -∗ (XF m c 1 (x3 m c (ck 1 3 c) 1) -∗ ow c 12 -∗ wP m c -∗ sP m c 0 3 1 -∗ Rv m c (hop 0 2 0) -∗ sO m c 0 2 0 2 -∗ Q ⟨⟩)
      -∗ wpc c (at0 k0_part22 c w₁ w₂) Q) := by
  iintro X₁ O W P F₀ K
  simp only [at0, k0_part22_eq_skeleton, k0_part22_skel, Prog.lift, Prog.bind_op, Prog.bind_ret, Prog.pure_eq_ret]
  iapply (part_step m c 0 3 1 12 (by decide) rfl rfl rfl rfl (f := k0_pay26) (fun _ _ => rfl)) $$ X₁ O W P
  iintro X₁ O W P
  iapply (dma_x m c 1 (ck 1 3 c) 1 (o6 c 2 1) rfl rfl) $$ X₁
  iintro X₁
  iapply (sent m c 0 2 0 2 2 12 (by decide) rfl rfl rfl) $$ F₀ O
  iintro R₀ B₀ O
  iapply (fin c)
  iapply K $$ X₁ O W P R₀ B₀

theorem part23 {Q : PUnit → sProp 𝕄} (c : Dev nD) (w₁ w₂ : BitVec 32) :
    Rv m c (hop 0 2 0) ⊢ iprop(sP m c 0 3 0 -∗ oE (nxt c) (ck 0 3 c) 0 0 -∗ sO m c 1 1 0 1 -∗ Tk m c (hop 0 3 0) -∗ ow c 12
      -∗ (Dn c (hop 0 2 0) -∗ oE (prv c) (ck 1 3 c) 0 1 -∗ sP m c 0 3 0 -∗ Fl m c (hop 0 3 0) -∗ ow c 13 -∗ Q ⟨⟩)
      -∗ wpc c (at0 k0_part23 c w₁ w₂) Q) := by
  iintro R₀ P D G T O K
  simp only [at0, k0_part23_eq_skeleton, k0_part23_skel, Prog.lift, Prog.bind_op, Prog.bind_ret, Prog.pure_eq_ret]
  iapply (recv_gift m c 0 2 0 3 2 12 (by decide) (by decide) (gift_right c 2 0 (by decide) (k := 3) rfl) rfl rfl rfl) $$ R₀ O
  iintro D₀ B₁ E O
  iapply (add_step m c 0 2 3 0 rfl (o8 c 2 0) rfl (f := k0_pay27) (fun _ _ => rfl)) $$ B₁ P
  iintro B₁ P
  iapply (send_gift m c 0 3 0 3 3 12 13 (d := nxt c) rfl rfl (mk_right c 3 0 (by decide) (k := 1) rfl) rfl rfl rfl (o7 c 2 0) (dv_eq (k0_dev15_eq c)) rfl rfl) $$ B₁ D G T O
  iintro F₁ O
  iapply (fin c)
  iapply K $$ D₀ E P F₁ O

theorem part24 {Q : BitVec 32 → sProp 𝕄} (c : Dev nD) (w₁ w₂ : BitVec 32) {v₂ : Vec F S1x512x1024 .f32} :
    XF m c 0 (x3 m c (ck 1 3 c) 0) ⊢ iprop(ow c 13 -∗ wP m c -∗ pB c 1 0 v₂ -∗ Fl m c (hop 0 2 1)
      -∗ (∀ w, XR m c 0 (x3 m c (ck 1 3 c) 0) -∗ ow c 13 -∗ wP m c -∗ sP m c 1 3 0 -∗ sO m c 0 2 1 2 -∗ Dn c (hop 0 2 1) -∗ sO m c 0 3 1 2 -∗ oE (prv c) (ck 1 3 c) 1 1 -∗ Q w)
      -∗ wpc c (at0 k0_part24 c w₁ w₂) Q) := by
  iintro X O W P F₀ K
  simp only [at0, k0_part24_eq_skeleton, k0_part24_skel, Prog.lift, Prog.bind_op, Prog.bind_ret, Prog.pure_eq_ret]
  iapply (part_step m c 1 3 0 13 (by decide) rfl rfl rfl rfl (f := k0_pay28) (fun _ _ => rfl)) $$ X O W P
  iintro X O W P
  iapply (sent m c 0 2 1 2 2 13 (by decide) rfl rfl rfl) $$ F₀ O
  iintro R₀ B₀ O
  iapply (recv_gift m c 0 2 1 3 2 13 (by decide) (by decide) (gift_right c 2 1 (by decide) (k := 3) rfl) rfl rfl rfl) $$ R₀ O
  iintro D₀ B₁ E O
  iapply (fin c)
  iapply K $$ X O W P B₀ D₀ B₁ E

theorem part25 {Q : FVec F S512x1024 .f32 → sProp 𝕄} (c : Dev nD) (w₁ w₂ w₃ : BitVec 32) :
    sO m c 0 3 1 2 ⊢ iprop(sP m c 0 3 1 -∗ oE (nxt c) (ck 0 3 c) 1 0 -∗ sO m c 1 1 1 1 -∗ Tk m c (hop 0 3 1) -∗ ow c 13 -∗ XF m c 1 (x3 m c (ck 1 3 c) 1) -∗ wP m c
      -∗ (sP m c 0 3 1 -∗ Fl m c (hop 0 3 1) -∗ ow c 14 -∗ XR m c 1 (x3 m c (ck 1 3 c) 1) -∗ wP m c
        -∗ Q (k0_pay30 (x3 m c (ck 1 3 c) 1) (wh m c 1)))
      -∗ wpc c (at0 k0_part25 c w₁ w₂ w₃) Q) := by
  iintro B P D G T O X W K
  simp only [at0, k0_part25_eq_skeleton, k0_part25_skel, Prog.lift, Prog.bind_op, Prog.bind_ret, Prog.pure_eq_ret]
  iapply (add_step m c 0 2 3 1 rfl (o8 c 2 1) rfl (f := k0_pay29) (fun _ _ => rfl)) $$ B P
  iintro B P
  iapply (send_gift m c 0 3 1 3 3 13 14 (d := nxt c) rfl rfl (mk_right c 3 1 (by decide) (k := 1) rfl) rfl rfl rfl (o7 c 2 1) (dv_eq (k0_dev16_eq c)) rfl rfl) $$ B D G T O
  iintro F₁ O
  iapply (end_x m c 1 14 (by decide) rfl rfl) $$ X O
  iintro X O
  iapply (ld_x m c 1 rfl) $$ X
  iintro X
  iapply (ld_wh m c 1 rfl) $$ W
  iintro W
  iapply (fin c)
  iapply K $$ P F₁ O X W

theorem part26 {Q : (Σ' (v750 : BitVec 32), BitVec 32) → sProp 𝕄} (c : Dev nD) (w₁ w₂ : BitVec 32) {v₂ : Vec F S1x512x1024 .f32} :
    pB c 1 1 v₂ ⊢ iprop(Fl m c (hop 1 2 0) -∗ ow c 14 -∗ sP m c 1 3 0
      -∗ (∀ a b, sP m c 1 3 1 -∗ sO m c 1 2 0 2 -∗ Dn c (hop 1 2 0) -∗ sO m c 1 3 0 3 -∗ oE (nxt c) (ck 0 4 c) 0 0 -∗ ow c 14 -∗ sP m c 1 3 0 -∗ Q ⟨a, b⟩)
      -∗ wpc c (at0 k0_part26 c w₁ w₂ (k0_pay30 (x3 m c (ck 1 3 c) 1) (wh m c 1))) Q) := by
  iintro P₁ F₀ O P K
  simp only [at0, k0_part26_eq_skeleton, k0_part26_skel, Prog.lift, Prog.bind_op, Prog.bind_ret, Prog.pure_eq_ret]
  iapply (ld_p c 1 1 rfl) $$ P₁
  iintro P₁
  iapply (st_p c 1 1 (part m c (ck 1 3 c) 1 1) rfl rfl) $$ P₁
  iintro P₁
  iapply (sent m c 1 2 0 2 2 14 (by decide) rfl rfl rfl) $$ F₀ O
  iintro R₀ B₀ O
  iapply (recv_gift m c 1 2 0 3 2 14 (by decide) (by decide) (gift_left c 2 0 (by decide) (k := 4) rfl) rfl rfl rfl) $$ R₀ O
  iintro D₀ B₁ E O
  iapply (add_step m c 1 2 3 0 rfl (o10 c 2 0) rfl (f := k0_pay32) (fun _ _ => rfl)) $$ B₁ P
  iintro B₁ P
  iapply (fin c)
  iapply K $$ P₁ B₀ D₀ B₁ E O P

theorem part27 {Q : (Σ' (v775 : BitVec 32) (v778 : FVec F S512x1024 .f32), FVec F S512x1024 .f32) → sProp 𝕄} (c : Dev nD) (w₁ w₂ w₃ w₄ : BitVec 32) :
    sO m c 1 3 0 3 ⊢ iprop(oE (prv c) (ck 1 3 c) 0 1 -∗ sO m c 0 2 0 2 -∗ Tk m c (hop 1 3 0) -∗ ow c 14 -∗ Fl m c (hop 1 2 1) -∗ sP m c 1 3 1
      -∗ (∀ a, Fl m c (hop 1 3 0) -∗ ow c 15 -∗ sO m c 1 2 1 2 -∗ Dn c (hop 1 2 1) -∗ sO m c 1 3 1 2 -∗ oE (nxt c) (ck 0 4 c) 1 0 -∗ sP m c 1 3 1
        -∗ Q ⟨a, k0_pay33 (acc m 1 (ck 1 3 c) 1 2), k0_pay34 (part m c (ck 1 3 c) 1 1)⟩)
      -∗ wpc c (at0 k0_part27 c w₁ w₂ w₃ w₄) Q) := by
  iintro B D G T O F₀ P K
  simp only [at0, k0_part27_eq_skeleton, k0_part27_skel, Prog.lift, Prog.bind_op, Prog.bind_ret, Prog.pure_eq_ret]
  iapply (send_gift m c 1 3 0 3 3 14 15 (d := prv c) rfl rfl (mk_left c 3 0 (by decide) (k := 2) rfl) rfl rfl rfl (o9 c 2 0) (dv_eq (k0_dev17_eq c)) rfl rfl) $$ B D G T O
  iintro F₁ O
  iapply (sent m c 1 2 1 2 2 15 (by decide) rfl rfl rfl) $$ F₀ O
  iintro R₀ B₀ O
  iapply (recv_gift m c 1 2 1 3 2 15 (by decide) (by decide) (gift_left c 2 1 (by decide) (k := 4) rfl) rfl rfl rfl) $$ R₀ O
  iintro D₀ B₁ E O
  iapply (ld_o c (ck 1 3 c) 1 1 (o10 c 2 1)) $$ B₁
  iintro B₁
  iapply (ld_p c 1 1 rfl) $$ P
  iintro P
  iapply (fin c)
  iapply K $$ F₁ O B₀ D₀ B₁ E P

end Cert.KernelProof
-- ==== Proof.PartsC.lean ====
module

public import proofs.«01_k».proof.Proof.Usual

@[expose] public section

set_option maxRecDepth 65536

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! The maxima, and the hops that carry the sums to all devices. -/

theorem part28 {Q : (Σ' (v797 : BitVec 32) (v800 : BitVec 32) (v810 : F .f32), Vec F S512x1024 .f32) → sProp 𝕄} (c : Dev nD) (w₁ w₂ w₃ w₄ : BitVec 32) :
    sO m c 1 3 1 2 ⊢ iprop(oE (prv c) (ck 1 3 c) 1 1 -∗ sO m c 0 2 1 2 -∗ Tk m c (hop 1 3 1) -∗ ow c 15
      -∗ Fl m c (hop 0 3 0) -∗ Fl m c (hop 1 3 0)
      -∗ (∀ a b, Fl m c (hop 1 3 1) -∗ ow c 16 -∗ Fl m c (hop 0 3 0) -∗ Fl m c (hop 1 3 0)
        -∗ Q ⟨a, b, k0_pay36 (acc m 0 (ck 0 3 c) 0 3), acc m 1 (ck 1 3 c) 0 3⟩)
      -∗ wpc c (at0 k0_part28 c w₁ w₂ w₃ w₄ (k0_pay33 (acc m 1 (ck 1 3 c) 1 2)) (k0_pay34 (part m c (ck 1 3 c) 1 1))) Q) := by
  iintro B D G T O A₀ A₁ K
  simp only [at0, k0_part28_eq_skeleton, k0_part28_skel, Prog.lift, Prog.bind_op, Prog.bind_ret, Prog.pure_eq_ret]
  iapply (ld_o c (ck 1 3 c) 1 1 (o10 c 2 1)) $$ B
  iintro B
  iapply (st_o c (ck 1 3 c) 1 1 (acc m 1 (ck 1 3 c) 1 3) (acc_next m c 1 2 1) (o10 c 2 1)) $$ B
  iintro B
  iapply (send_gift m c 1 3 1 3 3 15 16 (d := prv c) rfl rfl (mk_left c 3 1 (by decide) (k := 2) rfl) rfl rfl rfl (o9 c 2 1) (dv_eq (k0_dev18_eq c)) rfl rfl) $$ B D G T O
  iintro F₁ O
  iapply (ld_fl m c 0 3 0 (k' := 3) rfl (j := 3) rfl (o11 c 0)) $$ A₀
  iintro A₀
  iapply (ld_fl m c 1 3 0 (k' := 3) rfl (j := 3) rfl (o12 c 0)) $$ A₁
  iintro A₁
  iapply (fin c)
  iapply K $$ F₁ O A₀ A₁

/-- The row of maxima of the device's own chunk. -/
theorem mxv_own (c : Dev nD) : k0_pay37 (k0_pay36 (acc m 0 (ck 0 3 c) 0 3)) (acc m 1 (ck 1 3 c) 0 3) (acc m 0 (ck 0 3 c) 1 3) (acc m 1 (ck 1 3 c) 1 3) = mxv m (ck 0 0 c) := by
  have h : ck 0 0 c = c := by revert c; decide
  rw [h]; rfl

theorem part29 {Q : PUnit → sProp 𝕄} (c : Dev nD) (w₁ w₂ w₃ w₄ : BitVec 32) {v₀ : Vec F S1x8x128 .f32} :
    Fl m c (hop 0 3 1) ⊢ iprop(Fl m c (hop 1 3 1) -∗ mB c (ck 0 0 c) v₀
      -∗ (Fl m c (hop 0 3 1) -∗ Fl m c (hop 1 3 1) -∗ mB c (ck 0 0 c) (mxv m (ck 0 0 c)) -∗ Q ⟨⟩)
      -∗ wpc c (at0 k0_part29 c w₁ w₂ w₃ w₄ (k0_pay36 (acc m 0 (ck 0 3 c) 0 3)) (acc m 1 (ck 1 3 c) 0 3)) Q) := by
  iintro A₀ A₁ M K
  simp only [at0, k0_part29_eq_skeleton, k0_part29_skel, Prog.lift, Prog.bind_op, Prog.bind_ret, Prog.pure_eq_ret]
  iapply (ld_fl m c 0 3 1 (k' := 3) rfl (j := 3) rfl (o11 c 1)) $$ A₀
  iintro A₀
  iapply (ld_fl m c 1 3 1 (k' := 3) rfl (j := 3) rfl (o12 c 1)) $$ A₁
  iintro A₁
  iapply (ld_m c (ck 0 0 c) (o13 c)) $$ M
  iintro M
  iapply (st_m c (ck 0 0 c) (mxv m (ck 0 0 c)) (mxv_own m c) (o13 c)) $$ M
  iintro M
  iapply (fin c)
  iapply K $$ A₀ A₁ M

theorem part30 {Q : (Σ' (v859 : BitVec 32) (v861 : BitVec 32) (v880 : BitVec 32), BitVec 32) → sProp 𝕄} (c : Dev nD) (w₁ w₂ : BitVec 32) :
    mB c (ck 0 0 c) (mxv m (ck 0 0 c)) ⊢ iprop(mE (nxt c) (ck 0 0 c) -∗ Tk m c (sca 0) -∗ ow c 16 -∗ Fl m c (hop 0 3 0)
      -∗ (∀ a b d e, Fl m c (sca 0) -∗ ow c 17 -∗ sO m c 0 3 0 3 -∗ Dn c (hop 0 3 0) -∗ sO m c 0 4 0 3 -∗ oE (prv c) (ck 1 4 c) 0 1 -∗ Q ⟨a, b, d, e⟩)
      -∗ wpc c (at0 k0_part30 c w₁ w₂) Q) := by
  iintro M D T O F₀ K
  simp only [at0, k0_part30_eq_skeleton, k0_part30_skel, Prog.lift, Prog.bind_op, Prog.bind_ret, Prog.pure_eq_ret]
  iapply (send_mx m c 0 0 16 17 rfl rfl rfl (o14 c 0) (dv_eq (k0_dev19_eq c)) rfl rfl) $$ M D T O
  iintro F₁ O
  iapply (sent m c 0 3 0 3 3 17 (by decide) rfl rfl rfl) $$ F₀ O
  iintro R₀ B₀ O
  iapply (recv_gift m c 0 3 0 4 3 17 (by decide) (by decide) (gift_right c 3 0 (by decide) (k := 4) rfl) rfl rfl rfl) $$ R₀ O
  iintro D₀ B₁ E O
  iapply (fin c)
  iapply K $$ F₁ O B₀ D₀ B₁ E

theorem part31 {Q : PUnit → sProp 𝕄} (c : Dev nD) (w₁ w₂ w₃ w₄ : BitVec 32) :
    sO m c 0 4 0 3 ⊢ iprop(oE (nxt c) (ck 0 4 c) 0 0 -∗ sO m c 1 2 0 2 -∗ Tk m c (hop 0 4 0) -∗ ow c 17 -∗ Fl m c (sca 0)
      -∗ (Fl m c (hop 0 4 0) -∗ ow c 18 -∗ mB c (ck 0 0 c) (mxv m (ck 0 0 c)) -∗ Dn c (sca 0) -∗ mB c (ck 0 1 c) (mxv m (ck 0 1 c)) -∗ Q ⟨⟩)
      -∗ wpc c (at0 k0_part31 c w₁ w₂ w₃ w₄) Q) := by
  iintro B D G T O F₀ K
  simp only [at0, k0_part31_eq_skeleton, k0_part31_skel, Prog.lift, Prog.bind_op, Prog.bind_ret, Prog.pure_eq_ret]
  iapply (send_gift m c 0 4 0 4 3 17 18 (d := nxt c) rfl rfl (mk_right c 4 0 (by decide) (k := 2) rfl) rfl rfl rfl (o15 c 0 0) (dv_eq (k0_dev20_eq c)) rfl rfl) $$ B D G T O
  iintro F₁ O
  iapply (sent_sca m c 0 0 18 (by decide) rfl rfl) $$ F₀ O
  iintro R₀ M₀ O
  iapply (recv_sca m c 0 1 18 (by decide) (by decide) rfl rfl) $$ R₀ O
  iintro D₀ M₁ O
  iapply (fin c)
  iapply K $$ F₁ O M₀ D₀ M₁

theorem part32 {Q : PUnit → sProp 𝕄} (c : Dev nD) (w₁ w₂ : BitVec 32) :
    mB c (ck 0 1 c) (mxv m (ck 0 1 c)) ⊢ iprop(mE (nxt c) (ck 0 1 c) -∗ Tk m c (sca 1) -∗ ow c 18 -∗ Fl m c (hop 0 3 1)
      -∗ oE (nxt c) (ck 0 4 c) 1 0 -∗ sO m c 1 2 1 2 -∗ Tk m c (hop 0 4 1)
      -∗ (Fl m c (sca 1) -∗ ow c 20 -∗ sO m c 0 3 1 3 -∗ Dn c (hop 0 3 1) -∗ Fl m c (hop 0 4 1) -∗ oE (prv c) (ck 1 4 c) 1 1 -∗ Q ⟨⟩)
      -∗ wpc c (at0 k0_part32 c w₁ w₂) Q) := by
  iintro M D T O F₀ D' G T' K
  simp only [at0, k0_part32_eq_skeleton, k0_part32_skel, Prog.lift, Prog.bind_op, Prog.bind_ret, Prog.pure_eq_ret]
  iapply (send_mx m c 1 1 18 19 rfl rfl rfl (o14 c 1) (dv_eq (k0_dev21_eq c)) rfl rfl) $$ M D T O
  iintro F₁ O
  iapply (sent m c 0 3 1 3 3 19 (by decide) rfl rfl rfl) $$ F₀ O
  iintro R₀ B₀ O
  iapply (recv_gift m c 0 3 1 4 3 19 (by decide) (by decide) (gift_right c 3 1 (by decide) (k := 4) rfl) rfl rfl rfl) $$ R₀ O
  iintro D₀ B₁ E O
  iapply (send_gift m c 0 4 1 4 3 19 20 (d := nxt c) rfl rfl (mk_right c 4 1 (by decide) (k := 2) rfl) rfl rfl rfl (o15 c 0 1) (dv_eq (k0_dev22_eq c)) rfl rfl) $$ B₁ D' G T' O
  iintro F₂ O
  iapply (fin c)
  iapply K $$ F₁ O B₀ D₀ F₂ E

theorem part33 {Q : BitVec 32 → sProp 𝕄} (c : Dev nD) (w₁ w₂ : BitVec 32) :
    Fl m c (hop 1 3 0) ⊢ iprop(oE (prv c) (ck 1 4 c) 0 1 -∗ Tk m c (hop 1 4 0) -∗ ow c 20
      -∗ (∀ w, sO m c 1 3 0 3 -∗ Dn c (hop 1 3 0) -∗ oE (nxt c) (ck 0 5 c) 0 0 -∗ Fl m c (hop 1 4 0) -∗ ow c 21 -∗ Q w)
      -∗ wpc c (at0 k0_part33 c w₁ w₂) Q) := by
  iintro F₀ D T O K
  simp only [at0, k0_part33_eq_skeleton, k0_part33_skel, Prog.lift, Prog.bind_op, Prog.bind_ret, Prog.pure_eq_ret]
  iapply (sent m c 1 3 0 3 3 20 (by decide) rfl rfl rfl) $$ F₀ O
  iintro R₀ B₀ O
  iapply (recv_gift m c 1 3 0 4 3 20 (by decide) (by decide) (gift_left c 3 0 (by decide) (k := 5) rfl) rfl rfl rfl) $$ R₀ O
  iintro D₀ B₁ E O
  iapply (send_plain m c 1 4 0 4 3 20 21 (d := prv c) rfl rfl (none_left c _ _ (by decide)) rfl rfl rfl (o16 c 0 0) (dv_eq (k0_dev23_eq c)) rfl rfl) $$ B₁ D T O
  iintro F₁ O
  iapply (fin c)
  iapply K $$ B₀ D₀ E F₁ O

theorem part34 {Q : (Σ' (v992 : BitVec 32) (v994 : BitVec 32), BitVec 32) → sProp 𝕄} (c : Dev nD) (w₁ w₂ w₃ w₄ : BitVec 32) :
    Fl m c (hop 1 3 1) ⊢ iprop(oE (prv c) (ck 1 4 c) 1 1 -∗ Tk m c (hop 1 4 1) -∗ ow c 21
      -∗ (∀ a b d, sO m c 1 3 1 3 -∗ Dn c (hop 1 3 1) -∗ oE (nxt c) (ck 0 5 c) 1 0 -∗ Fl m c (hop 1 4 1) -∗ ow c 22 -∗ Q ⟨a, b, d⟩)
      -∗ wpc c (at0 k0_part34 c w₁ w₂ w₃ w₄) Q) := by
  iintro F₀ D T O K
  simp only [at0, k0_part34_eq_skeleton, k0_part34_skel, Prog.lift, Prog.bind_op, Prog.bind_ret, Prog.pure_eq_ret]
  iapply (sent m c 1 3 1 3 3 21 (by decide) rfl rfl rfl) $$ F₀ O
  iintro R₀ B₀ O
  iapply (recv_gift m c 1 3 1 4 3 21 (by decide) (by decide) (gift_left c 3 1 (by decide) (k := 5) rfl) rfl rfl rfl) $$ R₀ O
  iintro D₀ B₁ E O
  iapply (send_plain m c 1 4 1 4 3 21 22 (d := prv c) rfl rfl (none_left c _ _ (by decide)) rfl rfl rfl (o16 c 0 1) (dv_eq (k0_dev24_eq c)) rfl rfl) $$ B₁ D T O
  iintro F₁ O
  iapply (fin c)
  iapply K $$ B₀ D₀ E F₁ O

theorem part35 {Q : PUnit → sProp 𝕄} (c : Dev nD) (w₁ w₂ w₃ w₄ : BitVec 32) :
    Fl m c (hop 0 4 0) ⊢ iprop(oE (nxt c) (ck 0 5 c) 0 0 -∗ Tk m c (hop 0 5 0) -∗ ow c 22
      -∗ (sO m c 0 4 0 3 -∗ Dn c (hop 0 4 0) -∗ oE (prv c) (ck 1 5 c) 0 1 -∗ Fl m c (hop 0 5 0) -∗ ow c 23 -∗ Q ⟨⟩)
      -∗ wpc c (at0 k0_part35 c w₁ w₂ w₃ w₄) Q) := by
  iintro F₀ D T O K
  simp only [at0, k0_part35_eq_skeleton, k0_part35_skel, Prog.lift, Prog.bind_op, Prog.bind_ret, Prog.pure_eq_ret]
  iapply (sent m c 0 4 0 4 3 22 (by decide) rfl rfl rfl) $$ F₀ O
  iintro R₀ B₀ O
  iapply (recv_gift m c 0 4 0 5 3 22 (by decide) (by decide) (gift_right c 4 0 (by decide) (k := 5) rfl) rfl rfl rfl) $$ R₀ O
  iintro D₀ B₁ E O
  iapply (send_plain m c 0 5 0 5 3 22 23 (d := nxt c) rfl rfl (none_right c _ _ (by decide)) rfl rfl rfl (o15 c 1 0) (dv_eq (k0_dev25_eq c)) rfl rfl) $$ B₁ D T O
  iintro F₁ O
  iapply (fin c)
  iapply K $$ B₀ D₀ E F₁ O

theorem part36 {Q : PUnit → sProp 𝕄} (c : Dev nD) (w₁ w₂ w₃ : BitVec 32) :
    Fl m c (sca 1) ⊢ iprop(mE (nxt c) (ck 0 2 c) -∗ Tk m c (sca 2) -∗ ow c 23
      -∗ (mB c (ck 0 1 c) (mxv m (ck 0 1 c)) -∗ Dn c (sca 1) -∗ Fl m c (sca 2) -∗ ow c 24 -∗ Q ⟨⟩)
      -∗ wpc c (at0 k0_part36 c w₁ w₂ w₃) Q) := by
  iintro F₀ D T O K
  simp only [at0, k0_part36_eq_skeleton, k0_part36_skel, Prog.lift, Prog.bind_op, Prog.bind_ret, Prog.pure_eq_ret]
  iapply (sent_sca m c 1 1 23 (by decide) rfl rfl) $$ F₀ O
  iintro R₀ M₀ O
  iapply (recv_sca m c 1 2 23 (by decide) (by decide) rfl rfl) $$ R₀ O
  iintro D₀ M₁ O
  iapply (send_mx m c 2 2 23 24 rfl rfl rfl (o14 c 2) (dv_eq (k0_dev26_eq c)) rfl rfl) $$ M₁ D T O
  iintro F₁ O
  iapply (fin c)
  iapply K $$ M₀ D₀ F₁ O

theorem part37 {Q : PUnit → sProp 𝕄} (c : Dev nD) (w₁ w₂ w₃ : BitVec 32) :
    Fl m c (hop 0 4 1) ⊢ iprop(oE (nxt c) (ck 0 5 c) 1 0 -∗ Tk m c (hop 0 5 1) -∗ ow c 24 -∗ Fl m c (hop 1 4 0)
      -∗ (sO m c 0 4 1 3 -∗ Dn c (hop 0 4 1) -∗ oE (prv c) (ck 1 5 c) 1 1 -∗ Fl m c (hop 0 5 1) -∗ ow c 25 -∗ Rv m c (hop 1 4 0) -∗ sO m c 1 4 0 3 -∗ Q ⟨⟩)
      -∗ wpc c (at0 k0_part37 c w₁ w₂ w₃) Q) := by
  iintro F₀ D T O F₁ K
  simp only [at0, k0_part37_eq_skeleton, k0_part37_skel, Prog.lift, Prog.bind_op, Prog.bind_ret, Prog.pure_eq_ret]
  iapply (sent m c 0 4 1 4 3 24 (by decide) rfl rfl rfl) $$ F₀ O
  iintro R₀ B₀ O
  iapply (recv_gift m c 0 4 1 5 3 24 (by decide) (by decide) (gift_right c 4 1 (by decide) (k := 5) rfl) rfl rfl rfl) $$ R₀ O
  iintro D₀ B₁ E O
  iapply (send_plain m c 0 5 1 5 3 24 25 (d := nxt c) rfl rfl (none_right c _ _ (by decide)) rfl rfl rfl (o15 c 1 1) (dv_eq (k0_dev27_eq c)) rfl rfl) $$ B₁ D T O
  iintro F₂ O
  iapply (sent m c 1 4 0 4 3 25 (by decide) rfl rfl rfl) $$ F₁ O
  iintro R₁ B₂ O
  iapply (fin c)
  iapply K $$ B₀ D₀ E F₂ O R₁ B₂

theorem part38 {Q : PUnit → sProp 𝕄} (c : Dev nD) (w₁ w₂ : BitVec 32) :
    Rv m c (hop 1 4 0) ⊢ iprop(oE (prv c) (ck 1 5 c) 0 1 -∗ Tk m c (hop 1 5 0) -∗ ow c 25 -∗ Fl m c (hop 1 4 1)
      -∗ (Dn c (hop 1 4 0) -∗ Fl m c (hop 1 5 0) -∗ ow c 26 -∗ Rv m c (hop 1 4 1) -∗ sO m c 1 4 1 3 -∗ Q ⟨⟩)
      -∗ wpc c (at0 k0_part38 c w₁ w₂) Q) := by
  iintro R₀ D T O F₁ K
  simp only [at0, k0_part38_eq_skeleton, k0_part38_skel, Prog.lift, Prog.bind_op, Prog.bind_ret, Prog.pure_eq_ret]
  iapply (recv_plain m c 1 4 0 5 3 25 (by decide) (by decide) (fun d => none_left d _ _ (by decide)) rfl rfl rfl) $$ R₀ O
  iintro D₀ B₁ O
  iapply (send_plain m c 1 5 0 5 3 25 26 (d := prv c) rfl rfl (none_left c _ _ (by decide)) rfl rfl rfl (o16 c 1 0) (dv_eq (k0_dev28_eq c)) rfl rfl) $$ B₁ D T O
  iintro F₂ O
  iapply (sent m c 1 4 1 4 3 26 (by decide) rfl rfl rfl) $$ F₁ O
  iintro R₁ B₂ O
  iapply (fin c)
  iapply K $$ D₀ F₂ O R₁ B₂

theorem part39 {Q : (Σ' (v1123 : BitVec 32), BitVec 32) → sProp 𝕄} (c : Dev nD) (w₁ w₂ w₃ : BitVec 32) :
    Rv m c (hop 1 4 1) ⊢ iprop(oE (prv c) (ck 1 5 c) 1 1 -∗ Tk m c (hop 1 5 1) -∗ ow c 26 -∗ Fl m c (sca 2)
      -∗ (∀ a b, Dn c (hop 1 4 1) -∗ Fl m c (hop 1 5 1) -∗ ow c 27 -∗ Rv m c (sca 2) -∗ mB c (ck 0 2 c) (mxv m (ck 0 2 c)) -∗ Q ⟨a, b⟩)
      -∗ wpc c (at0 k0_part39 c w₁ w₂ w₃) Q) := by
  iintro R₀ D T O F₁ K
  simp only [at0, k0_part39_eq_skeleton, k0_part39_skel, Prog.lift, Prog.bind_op, Prog.bind_ret, Prog.pure_eq_ret]
  iapply (recv_plain m c 1 4 1 5 3 26 (by decide) (by decide) (fun d => none_left d _ _ (by decide)) rfl rfl rfl) $$ R₀ O
  iintro D₀ B₁ O
  iapply (send_plain m c 1 5 1 5 3 26 27 (d := prv c) rfl rfl (none_left c _ _ (by decide)) rfl rfl rfl (o16 c 1 1) (dv_eq (k0_dev29_eq c)) rfl rfl) $$ B₁ D T O
  iintro F₂ O
  iapply (sent_sca m c 2 2 27 (by decide) rfl rfl) $$ F₁ O
  iintro R₁ B₂ O
  iapply (fin c)
  iapply K $$ D₀ F₂ O R₁ B₂

end Cert.KernelProof
-- ==== Proof.PartsD.lean ====
module

public import proofs.«01_k».proof.Proof.Usual

@[expose] public section

set_option maxRecDepth 65536

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! The scale, and the quantising of every sub-block in place. -/
theorem part40 {Q : (Σ' (v1148 : F .f32) (v1167 : BitVec 32), FVec F S256x1024 .f32) → sProp 𝕄} (c : Dev nD) (w0 w1 : BitVec 32) :
    Rv m c (sca 2) ⊢ iprop(mB c (ck 0 0 c) (mxv m (ck 0 0 c)) -∗ mB c (ck 0 1 c) (mxv m (ck 0 1 c)) -∗ mB c (ck 0 2 c) (mxv m (ck 0 2 c)) -∗ ow c 27 -∗ qS m c 0 3 0 0 -∗ qS m c 0 3 0 1 -∗
      (∀ a, Dn c (sca 2) -∗ blk c mm ![0, 0, 0] S4x8x128.size inb_mw (mxs m) -∗ ow c 27 -∗ qD m c 0 3 0 0 -∗ qS m c 0 3 0 1 -∗ Q ⟨scl m, a, k0_pay40 (rowHalf 1 (acc m 0 (ck 0 3 c) 0 3))⟩)
      -∗ wpc c (at0 k0_part40 c w0 w1) Q) := by
  iintro R M₀ M₁ M₂ O B1 B2 K
  simp only [at0, k0_part40_eq_skeleton, k0_part40_skel, Prog.lift, Prog.bind_op, Prog.bind_ret, Prog.pure_eq_ret]
  iapply (recv_sca m c 2 3 27 (by decide) (by decide) rfl rfl) $$ R O
  iintro D M₃ O
  iapply (ld_mx m c (show (![0, 0, 0] : Fin 3 → ℕ) = ![0, 0, 0] from rfl)) $$ M₀ M₁ M₂ M₃
  iintro M
  iapply (quant_step m c 0 3 0 0 (o17 c 0 0) (fun _ => rfl)) $$ B1
  iintro B1
  iapply (ld_q c (ck 0 3 c) 0 1 0 (o17 c 0 1)) $$ B2
  iintro B2
  iapply (fin c)
  iapply K $$ D M O B1 B2

theorem part41 {Q : (Σ' (v1201 : BitVec 32), FVec F S256x1024 .f32) → sProp 𝕄} (c : Dev nD) (w0 w1 : BitVec 32) :
    qS m c 0 3 0 1 ⊢ iprop(qS m c 0 3 1 0 -∗ qS m c 0 3 1 1 -∗
      (∀ a, qD m c 0 3 0 1 -∗ qD m c 0 3 1 0 -∗ qS m c 0 3 1 1 -∗ Q ⟨a, k0_pay43 (scl m) (rowHalf 1 (acc m 0 (ck 0 3 c) 1 3))⟩)
      -∗ wpc c (at0 k0_part41 c w0 (scl m) w1 (k0_pay40 (rowHalf 1 (acc m 0 (ck 0 3 c) 0 3)))) Q) := by
  iintro B1 B2 B3 K
  simp only [at0, k0_part41_eq_skeleton, k0_part41_skel, Prog.lift, Prog.bind_op, Prog.bind_ret, Prog.pure_eq_ret]
  iapply (quant_end m c 0 3 0 1 (o17 c 0 1) rfl) $$ B1
  iintro B1
  iapply (quant_step m c 0 3 1 0 (o17 c 1 0) (fun _ => rfl)) $$ B2
  iintro B2
  iapply (ld_q c (ck 0 3 c) 1 1 0 (o17 c 1 1)) $$ B3
  iintro B3
  iapply (fin c)
  iapply K $$ B1 B2 B3

theorem part42 {Q : (Σ' (v1217 : BitVec 32), BitVec 32) → sProp 𝕄} (c : Dev nD) (w0 w1 : BitVec 32) :
    qS m c 0 3 1 1 ⊢ iprop(qS m c 0 4 0 0 -∗ qS m c 0 4 0 1 -∗
      (∀ a b, qD m c 0 3 1 1 -∗ qD m c 0 4 0 0 -∗ qD m c 0 4 0 1 -∗ Q ⟨a, b⟩)
      -∗ wpc c (at0 k0_part42 c w0 (scl m) w1 (k0_pay43 (scl m) (rowHalf 1 (acc m 0 (ck 0 3 c) 1 3)))) Q) := by
  iintro B1 B2 B3 K
  simp only [at0, k0_part42_eq_skeleton, k0_part42_skel, Prog.lift, Prog.bind_op, Prog.bind_ret, Prog.pure_eq_ret]
  iapply (quant_end m c 0 3 1 1 (o17 c 1 1) rfl) $$ B1
  iintro B1
  iapply (quant_step m c 0 4 0 0 (o18 c 0 0) (fun _ => rfl)) $$ B2
  iintro B2
  iapply (quant_step m c 0 4 0 1 (o18 c 0 1) (fun _ => rfl)) $$ B3
  iintro B3
  iapply (fin c)
  iapply K $$ B1 B2 B3

theorem part43 {Q : (Σ' (v1287 : BitVec 32), FVec F S256x1024 .f32) → sProp 𝕄} (c : Dev nD) (w0 w1 w2 : BitVec 32) :
    qS m c 0 4 1 0 ⊢ iprop(qS m c 0 4 1 1 -∗ qS m c 1 3 0 0 -∗
      (∀ a, qD m c 0 4 1 0 -∗ qD m c 0 4 1 1 -∗ qS m c 1 3 0 0 -∗ Q ⟨a, k0_pay48 (scl m) (rowHalf 0 (acc m 1 (ck 1 3 c) 0 3))⟩)
      -∗ wpc c (at0 k0_part43 c w0 (scl m) w1 w2) Q) := by
  iintro B1 B2 B3 K
  simp only [at0, k0_part43_eq_skeleton, k0_part43_skel, Prog.lift, Prog.bind_op, Prog.bind_ret, Prog.pure_eq_ret]
  iapply (quant_step m c 0 4 1 0 (o18 c 1 0) (fun _ => rfl)) $$ B1
  iintro B1
  iapply (quant_step m c 0 4 1 1 (o18 c 1 1) (fun _ => rfl)) $$ B2
  iintro B2
  iapply (ld_q c (ck 1 3 c) 0 0 1 (o19 c 0 0)) $$ B3
  iintro B3
  iapply (fin c)
  iapply K $$ B1 B2 B3

theorem part44 {Q : BitVec 32 → sProp 𝕄} (c : Dev nD) (w0 w1 : BitVec 32) :
    qS m c 1 3 0 0 ⊢ iprop(qS m c 1 3 0 1 -∗ qS m c 1 3 1 0 -∗
      (∀ a, qD m c 1 3 0 0 -∗ qD m c 1 3 0 1 -∗ qD m c 1 3 1 0 -∗ Q a)
      -∗ wpc c (at0 k0_part44 c w0 (scl m) w1 (k0_pay48 (scl m) (rowHalf 0 (acc m 1 (ck 1 3 c) 0 3)))) Q) := by
  iintro B1 B2 B3 K
  simp only [at0, k0_part44_eq_skeleton, k0_part44_skel, Prog.lift, Prog.bind_op, Prog.bind_ret, Prog.pure_eq_ret]
  iapply (quant_end m c 1 3 0 0 (o19 c 0 0) rfl) $$ B1
  iintro B1
  iapply (quant_step m c 1 3 0 1 (o19 c 0 1) (fun _ => rfl)) $$ B2
  iintro B2
  iapply (quant_step m c 1 3 1 0 (o19 c 1 0) (fun _ => rfl)) $$ B3
  iintro B3
  iapply (fin c)
  iapply K $$ B1 B2 B3

theorem part45 {Q : (Σ' (v1354 : BitVec 32) (v1373 : BitVec 32) (v1382 : FVec F S256x1024 .f32), F .f32) → sProp 𝕄} (c : Dev nD) (w0 w1 : BitVec 32) :
    qS m c 1 3 1 1 ⊢ iprop(qS m c 1 4 0 0 -∗ qS m c 1 4 0 1 -∗
      (∀ a b, qD m c 1 3 1 1 -∗ qD m c 1 4 0 0 -∗ qS m c 1 4 0 1 -∗ Q ⟨a, b, k0_pay54 (scl m) (rowHalf 1 (acc m 1 (ck 1 4 c) 0 3)), (Scalar.ofBits .f32 0x43E00000#32)⟩)
      -∗ wpc c (at0 k0_part45 c w0 (scl m) w1) Q) := by
  iintro B1 B2 B3 K
  simp only [at0, k0_part45_eq_skeleton, k0_part45_skel, Prog.lift, Prog.bind_op, Prog.bind_ret, Prog.pure_eq_ret]
  iapply (quant_step m c 1 3 1 1 (o19 c 1 1) (fun _ => rfl)) $$ B1
  iintro B1
  iapply (quant_step m c 1 4 0 0 (o20 c 0 0) (fun _ => rfl)) $$ B2
  iintro B2
  iapply (ld_q c (ck 1 4 c) 0 1 1 (o20 c 0 1)) $$ B3
  iintro B3
  iapply (fin c)
  iapply K $$ B1 B2 B3

theorem part46 {Q : PUnit → sProp 𝕄} (c : Dev nD) (w0 w1 w2 : BitVec 32) :
    qS m c 1 4 0 1 ⊢ iprop(qS m c 1 4 1 0 -∗ qS m c 1 4 1 1 -∗
      (qD m c 1 4 0 1 -∗ qD m c 1 4 1 0 -∗ qD m c 1 4 1 1 -∗ Q ⟨⟩)
      -∗ wpc c (at0 k0_part46 c w0 (scl m) w1 w2 (k0_pay54 (scl m) (rowHalf 1 (acc m 1 (ck 1 4 c) 0 3))) (Scalar.ofBits .f32 0x43E00000#32)) Q) := by
  iintro B1 B2 B3 K
  simp only [at0, k0_part46_eq_skeleton, k0_part46_skel, Prog.lift, Prog.bind_op, Prog.bind_ret, Prog.pure_eq_ret]
  iapply (quant_end m c 1 4 0 1 (o20 c 0 1) rfl) $$ B1
  iintro B1
  iapply (quant_step m c 1 4 1 0 (o20 c 1 0) (fun _ => rfl)) $$ B2
  iintro B2
  iapply (quant_step m c 1 4 1 1 (o20 c 1 1) (fun _ => rfl)) $$ B3
  iintro B3
  iapply (fin c)
  iapply K $$ B1 B2 B3

theorem part47 {Q : (Σ' (v1455 : BitVec 32) (v1458 : FVec F S256x1024 .f32), F .f32) → sProp 𝕄} (c : Dev nD) (w0 w1 : BitVec 32) :
    ow c 27 ⊢ iprop(Fl m c (hop 0 5 0) -∗
      (∀ a, ow c 27 -∗ sO m c 0 5 0 3 -∗ Dn c (hop 0 5 0) -∗ qD m c 0 6 0 0 -∗ qS m c 0 6 0 1 -∗ Q ⟨a, k0_pay59 (rowHalf 1 (acc m 0 (ck 0 6 c) 0 3)), (Scalar.ofBits .f32 0x00000000#32)⟩)
      -∗ wpc c (at0 k0_part47 c w0 w1 (scl m)) Q) := by
  iintro O B1 K
  simp only [at0, k0_part47_eq_skeleton, k0_part47_skel, Prog.lift, Prog.bind_op, Prog.bind_ret, Prog.pure_eq_ret]
  iapply (sent m c 0 5 0 5 3 27 (by decide) rfl rfl rfl) $$ B1 O
  iintro B2 B3 O
  iapply (recv_plain m c 0 5 0 6 3 27 (by decide) (by decide) (fun d => none_right d _ _ (by decide)) rfl rfl rfl) $$ B2 O
  iintro B4 B5 O
  ihave B5 := (split_rows c (ck 0 6 c) 0 0 (acc m 0 (ck 0 6 c) 0 3)) $$ B5
  icases B5 with ⟨B6, B7⟩
  iapply (quant_step m c 0 6 0 0 (o21 c 1 0 0) (fun _ => rfl)) $$ B6
  iintro B6
  iapply (ld_q c (ck 0 6 c) 0 1 0 (o21 c 1 0 1)) $$ B7
  iintro B7
  iapply (fin c)
  iapply K $$ O B3 B4 B6 B7

theorem part48 {Q : (Σ' (v1486 : BitVec 32), FVec F S256x1024 .fp8e4m3) → sProp 𝕄} (c : Dev nD) (w0 w1 w2 : BitVec 32) :
    qS m c 0 6 0 1 ⊢ iprop(ow c 27 -∗ Fl m c (hop 0 5 1) -∗
      (∀ a, qD m c 0 6 0 1 -∗ ow c 27 -∗ sO m c 0 5 1 3 -∗ Dn c (hop 0 5 1) -∗ qS m c 0 6 1 0 -∗ qS m c 0 6 1 1 -∗ Q ⟨a, k0_pay61 (scl m) (rowHalf 0 (acc m 0 (ck 0 6 c) 1 3))⟩)
      -∗ wpc c (at0 k0_part48 c w0 w1 (scl m) w2 (k0_pay59 (rowHalf 1 (acc m 0 (ck 0 6 c) 0 3))) (Scalar.ofBits .f32 0x00000000#32)) Q) := by
  iintro B1 O B2 K
  simp only [at0, k0_part48_eq_skeleton, k0_part48_skel, Prog.lift, Prog.bind_op, Prog.bind_ret, Prog.pure_eq_ret]
  iapply (quant_end m c 0 6 0 1 (o21 c 1 0 1) rfl) $$ B1
  iintro B1
  iapply (sent m c 0 5 1 5 3 27 (by decide) rfl rfl rfl) $$ B2 O
  iintro B3 B4 O
  iapply (recv_plain m c 0 5 1 6 3 27 (by decide) (by decide) (fun d => none_right d _ _ (by decide)) rfl rfl rfl) $$ B3 O
  iintro B5 B6 O
  ihave B6 := (split_rows c (ck 0 6 c) 1 0 (acc m 0 (ck 0 6 c) 1 3)) $$ B6
  icases B6 with ⟨B7, B8⟩
  iapply (ld_q c (ck 0 6 c) 1 0 0 (o21 c 1 1 0)) $$ B7
  iintro B7
  iapply (fin c)
  iapply K $$ B1 O B4 B5 B7 B8

theorem part49 {Q : PUnit → sProp 𝕄} (c : Dev nD) (w0 w1 w2 w3 : BitVec 32) :
    qS m c 0 6 1 0 ⊢ iprop(qS m c 0 6 1 1 -∗ ow c 27 -∗ Fl m c (hop 1 5 0) -∗
      (qD m c 0 6 1 0 -∗ qD m c 0 6 1 1 -∗ ow c 27 -∗ sO m c 1 5 0 3 -∗ Rv m c (hop 1 5 0) -∗ Q ⟨⟩)
      -∗ wpc c (at0 k0_part49 c w0 w1 w2 (scl m) w3 (k0_pay61 (scl m) (rowHalf 0 (acc m 0 (ck 0 6 c) 1 3)))) Q) := by
  iintro B1 B2 O B3 K
  simp only [at0, k0_part49_eq_skeleton, k0_part49_skel, Prog.lift, Prog.bind_op, Prog.bind_ret, Prog.pure_eq_ret]
  iapply (quant_end m c 0 6 1 0 (o21 c 1 1 0) rfl) $$ B1
  iintro B1
  iapply (quant_step m c 0 6 1 1 (o21 c 1 1 1) (fun _ => rfl)) $$ B2
  iintro B2
  iapply (sent m c 1 5 0 5 3 27 (by decide) rfl rfl rfl) $$ B3 O
  iintro B4 B5 O
  iapply (fin c)
  iapply K $$ B1 B2 O B5 B4

theorem part50 {Q : (Σ' (v1569 : BitVec 32), BitVec 32) → sProp 𝕄} (c : Dev nD) (w0 : BitVec 32) :
    ow c 27 ⊢ iprop(Rv m c (hop 1 5 0) -∗
      (∀ a b, ow c 27 -∗ Dn c (hop 1 5 0) -∗ qD m c 1 6 0 0 -∗ qD m c 1 6 0 1 -∗ Q ⟨a, b⟩)
      -∗ wpc c (at0 k0_part50 c w0 (scl m)) Q) := by
  iintro O B1 K
  simp only [at0, k0_part50_eq_skeleton, k0_part50_skel, Prog.lift, Prog.bind_op, Prog.bind_ret, Prog.pure_eq_ret]
  iapply (recv_plain m c 1 5 0 6 3 27 (by decide) (by decide) (fun d => none_left d _ _ (by decide)) rfl rfl rfl) $$ B1 O
  iintro B2 B3 O
  ihave B3 := (split_rows c (ck 1 6 c) 0 1 (acc m 1 (ck 1 6 c) 0 3)) $$ B3
  icases B3 with ⟨B4, B5⟩
  iapply (quant_step m c 1 6 0 0 (o22 c 1 0 0) (fun _ => rfl)) $$ B4
  iintro B4
  iapply (quant_step m c 1 6 0 1 (o22 c 1 0 1) (fun _ => rfl)) $$ B5
  iintro B5
  iapply (fin c)
  iapply K $$ O B2 B4 B5

theorem part51 {Q : (Σ' (v1599 : BitVec 32) (v1604 : FVec F S256x1024 .f32), FVec F S256x1024 .f32) → sProp 𝕄} (c : Dev nD) (w0 w1 w2 w3 : BitVec 32) :
    ow c 27 ⊢ iprop(Fl m c (hop 1 5 1) -∗
      (∀ a, ow c 27 -∗ sO m c 1 5 1 3 -∗ Dn c (hop 1 5 1) -∗ qD m c 1 6 1 0 -∗ qS m c 1 6 1 1 -∗ Q ⟨a, k0_pay67 (rowHalf 1 (acc m 1 (ck 1 6 c) 1 3)), k0_pay68 (scl m)⟩)
      -∗ wpc c (at0 k0_part51 c w0 w1 (scl m) w2 w3) Q) := by
  iintro O B1 K
  simp only [at0, k0_part51_eq_skeleton, k0_part51_skel, Prog.lift, Prog.bind_op, Prog.bind_ret, Prog.pure_eq_ret]
  iapply (sent m c 1 5 1 5 3 27 (by decide) rfl rfl rfl) $$ B1 O
  iintro B2 B3 O
  iapply (recv_plain m c 1 5 1 6 3 27 (by decide) (by decide) (fun d => none_left d _ _ (by decide)) rfl rfl rfl) $$ B2 O
  iintro B4 B5 O
  ihave B5 := (split_rows c (ck 1 6 c) 1 1 (acc m 1 (ck 1 6 c) 1 3)) $$ B5
  icases B5 with ⟨B6, B7⟩
  iapply (quant_step m c 1 6 1 0 (o22 c 1 1 0) (fun _ => rfl)) $$ B6
  iintro B6
  iapply (ld_q c (ck 1 6 c) 1 1 1 (o22 c 1 1 1)) $$ B7
  iintro B7
  iapply (fin c)
  iapply K $$ O B3 B4 B6 B7

theorem part52 {Q : PUnit → sProp 𝕄} (c : Dev nD) (w0 w1 : BitVec 32) :
    qS m c 1 6 1 1 ⊢ iprop(qS m c 0 5 0 0 -∗ qS m c 0 5 0 1 -∗
      (qD m c 1 6 1 1 -∗ qD m c 0 5 0 0 -∗ qD m c 0 5 0 1 -∗ Q ⟨⟩)
      -∗ wpc c (at0 k0_part52 c w0 (scl m) w1 (k0_pay67 (rowHalf 1 (acc m 1 (ck 1 6 c) 1 3))) (k0_pay68 (scl m))) Q) := by
  iintro B1 B2 B3 K
  simp only [at0, k0_part52_eq_skeleton, k0_part52_skel, Prog.lift, Prog.bind_op, Prog.bind_ret, Prog.pure_eq_ret]
  iapply (quant_end m c 1 6 1 1 (o22 c 1 1 1) rfl) $$ B1
  iintro B1
  iapply (quant_step m c 0 5 0 0 (o21 c 0 0 0) (fun _ => rfl)) $$ B2
  iintro B2
  iapply (quant_step m c 0 5 0 1 (o21 c 0 0 1) (fun _ => rfl)) $$ B3
  iintro B3
  iapply (fin c)
  iapply K $$ B1 B2 B3

theorem part53 {Q : (Σ' (v1684 : BitVec 32) (v1689 : FVec F S256x1024 .f32), FVec F S256x1024 .f32) → sProp 𝕄} (c : Dev nD) (w0 w1 : BitVec 32) :
    qS m c 0 5 1 0 ⊢ iprop(qS m c 0 5 1 1 -∗ qS m c 1 5 0 0 -∗
      (∀ a, qD m c 0 5 1 0 -∗ qD m c 0 5 1 1 -∗ qS m c 1 5 0 0 -∗ Q ⟨a, k0_pay74 (rowHalf 0 (acc m 1 (ck 1 5 c) 0 3)), k0_pay75 (scl m)⟩)
      -∗ wpc c (at0 k0_part53 c w0 w1 (scl m)) Q) := by
  iintro B1 B2 B3 K
  simp only [at0, k0_part53_eq_skeleton, k0_part53_skel, Prog.lift, Prog.bind_op, Prog.bind_ret, Prog.pure_eq_ret]
  iapply (quant_step m c 0 5 1 0 (o21 c 0 1 0) (fun _ => rfl)) $$ B1
  iintro B1
  iapply (quant_step m c 0 5 1 1 (o21 c 0 1 1) (fun _ => rfl)) $$ B2
  iintro B2
  iapply (ld_q c (ck 1 5 c) 0 0 1 (o22 c 0 0 0)) $$ B3
  iintro B3
  iapply (fin c)
  iapply K $$ B1 B2 B3

theorem part54 {Q : PUnit → sProp 𝕄} (c : Dev nD) (w0 w1 : BitVec 32) :
    qS m c 1 5 0 0 ⊢ iprop(qS m c 1 5 0 1 -∗ qS m c 1 5 1 0 -∗
      (qD m c 1 5 0 0 -∗ qD m c 1 5 0 1 -∗ qD m c 1 5 1 0 -∗ Q ⟨⟩)
      -∗ wpc c (at0 k0_part54 c w0 (scl m) w1 (k0_pay74 (rowHalf 0 (acc m 1 (ck 1 5 c) 0 3))) (k0_pay75 (scl m))) Q) := by
  iintro B1 B2 B3 K
  simp only [at0, k0_part54_eq_skeleton, k0_part54_skel, Prog.lift, Prog.bind_op, Prog.bind_ret, Prog.pure_eq_ret]
  iapply (quant_end m c 1 5 0 0 (o22 c 0 0 0) rfl) $$ B1
  iintro B1
  iapply (quant_step m c 1 5 0 1 (o22 c 0 0 1) (fun _ => rfl)) $$ B2
  iintro B2
  iapply (quant_step m c 1 5 1 0 (o22 c 0 1 0) (fun _ => rfl)) $$ B3
  iintro B3
  iapply (fin c)
  iapply K $$ B1 B2 B3

end Cert.KernelProof
-- ==== Proof.Body.lean ====
/-
  Body: the parts run in order, from the resources a device has at the start to the 32 quantised quarters.
-/
module

public import proofs.«01_k».proof.Proof.PartsA
public import proofs.«01_k».proof.Proof.PartsB
public import proofs.«01_k».proof.Proof.PartsC
public import proofs.«01_k».proof.Proof.PartsD

@[expose] public section

set_option maxRecDepth 65536

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A resource of every transfer, in the order of their issue. -/
theorem every (Φ : T → sProp 𝕄) : bigSep Finset.univ Φ = iprop(Φ (hop 0 0 0) ∗ Φ (hop 1 0 0) ∗ Φ (hop 0 0 1) ∗ Φ (hop 1 0 1) ∗ Φ (hop 0 1 0) ∗ Φ (hop 0 1 1) ∗ Φ (hop 1 1 0) ∗ Φ (hop 1 1 1) ∗ Φ (hop 0 2 0) ∗ Φ (hop 0 2 1) ∗ Φ (hop 1 2 0) ∗ Φ (hop 1 2 1) ∗ Φ (hop 0 3 0) ∗ Φ (hop 0 3 1) ∗ Φ (hop 1 3 0) ∗ Φ (hop 1 3 1) ∗ Φ (sca 0) ∗ Φ (hop 0 4 0) ∗ Φ (sca 1) ∗ Φ (hop 0 4 1) ∗ Φ (hop 1 4 0) ∗ Φ (hop 1 4 1) ∗ Φ (hop 0 5 0) ∗ Φ (sca 2) ∗ Φ (hop 0 5 1) ∗ Φ (hop 1 5 0) ∗ Φ (hop 1 5 1)) := by
  rw [bigSep_univ_eq_bigSepL [(hop 0 0 0 : T), hop 1 0 0, hop 0 0 1, hop 1 0 1, hop 0 1 0, hop 0 1 1, hop 1 1 0, hop 1 1 1, hop 0 2 0, hop 0 2 1, hop 1 2 0, hop 1 2 1, hop 0 3 0, hop 0 3 1, hop 1 3 0, hop 1 3 1, sca 0, hop 0 4 0, sca 1, hop 0 4 1, hop 1 4 0, hop 1 4 1, hop 0 5 0, sca 2, hop 0 5 1, hop 1 5 0, hop 1 5 1] (by decide) (by decide)]; rfl

/-- A resource of every quarter, in the order device `c` meets the chunks. -/
theorem quarters (c : Dev nD) (Φ : Fin 4 × Fin 2 × Fin 2 × Fin 2 → sProp 𝕄) :
    bigSep Finset.univ Φ = iprop(Φ (ck 0 3 c, 0, 0, 0) ∗ Φ (ck 0 3 c, 0, 1, 0) ∗ Φ (ck 0 3 c, 1, 0, 0) ∗ Φ (ck 0 3 c, 1, 1, 0) ∗ Φ (ck 0 4 c, 0, 0, 0) ∗ Φ (ck 0 4 c, 0, 1, 0) ∗ Φ (ck 0 4 c, 1, 0, 0) ∗ Φ (ck 0 4 c, 1, 1, 0) ∗ Φ (ck 0 5 c, 0, 0, 0) ∗ Φ (ck 0 5 c, 0, 1, 0) ∗ Φ (ck 0 5 c, 1, 0, 0) ∗ Φ (ck 0 5 c, 1, 1, 0) ∗ Φ (ck 0 6 c, 0, 0, 0) ∗ Φ (ck 0 6 c, 0, 1, 0) ∗ Φ (ck 0 6 c, 1, 0, 0) ∗ Φ (ck 0 6 c, 1, 1, 0) ∗ Φ (ck 1 3 c, 0, 0, 1) ∗ Φ (ck 1 3 c, 0, 1, 1) ∗ Φ (ck 1 3 c, 1, 0, 1) ∗ Φ (ck 1 3 c, 1, 1, 1) ∗ Φ (ck 1 4 c, 0, 0, 1) ∗ Φ (ck 1 4 c, 0, 1, 1) ∗ Φ (ck 1 4 c, 1, 0, 1) ∗ Φ (ck 1 4 c, 1, 1, 1) ∗ Φ (ck 1 5 c, 0, 0, 1) ∗ Φ (ck 1 5 c, 0, 1, 1) ∗ Φ (ck 1 5 c, 1, 0, 1) ∗ Φ (ck 1 5 c, 1, 1, 1) ∗ Φ (ck 1 6 c, 0, 0, 1) ∗ Φ (ck 1 6 c, 0, 1, 1) ∗ Φ (ck 1 6 c, 1, 0, 1) ∗ Φ (ck 1 6 c, 1, 1, 1)) := by
  rw [bigSep_univ_eq_bigSepL [(ck 0 3 c, 0, 0, 0), (ck 0 3 c, 0, 1, 0), (ck 0 3 c, 1, 0, 0), (ck 0 3 c, 1, 1, 0), (ck 0 4 c, 0, 0, 0), (ck 0 4 c, 0, 1, 0), (ck 0 4 c, 1, 0, 0), (ck 0 4 c, 1, 1, 0), (ck 0 5 c, 0, 0, 0), (ck 0 5 c, 0, 1, 0), (ck 0 5 c, 1, 0, 0), (ck 0 5 c, 1, 1, 0), (ck 0 6 c, 0, 0, 0), (ck 0 6 c, 0, 1, 0), (ck 0 6 c, 1, 0, 0), (ck 0 6 c, 1, 1, 0), (ck 1 3 c, 0, 0, 1), (ck 1 3 c, 0, 1, 1), (ck 1 3 c, 1, 0, 1), (ck 1 3 c, 1, 1, 1), (ck 1 4 c, 0, 0, 1), (ck 1 4 c, 0, 1, 1), (ck 1 4 c, 1, 0, 1), (ck 1 4 c, 1, 1, 1), (ck 1 5 c, 0, 0, 1), (ck 1 5 c, 0, 1, 1), (ck 1 5 c, 1, 0, 1), (ck 1 5 c, 1, 1, 1), (ck 1 6 c, 0, 0, 1), (ck 1 6 c, 0, 1, 1), (ck 1 6 c, 1, 0, 1), (ck 1 6 c, 1, 1, 1)] (by revert c; decide +kernel) (by revert c; decide +kernel)]; rfl

/-- A program and what follows it. -/
theorem next {α β : Type} {Q : β → sProp 𝕄} (c : Dev nD) {p : Prog (TpuEff nD τ sig (Elt F) Λ₀ .tc) α} {k : α → Prog (TpuEff nD τ sig (Elt F) Λ₀ .tc) β} :
    wpc c p (fun a => wpc c (k a) Q) ⊢ wpc c (p >>= k) Q := Entails.of_eq (Idealize.SL.Sem.wp_bind _ _ _ _ _ _).symm

/-- A quantised quarter. -/
def quart (i : Fin 4 × Fin 2 × Fin 2 × Fin 2) : Vec F S256x1024 .f32 := k0_pay1 (scl m) (rowHalf i.2.2.1 (acc m i.2.2.2 i.1 i.2.1 3))

/-- What the device has besides `out` when the body ends: the copies of `x` back, the weights, the partial products, the maxima, every
    semaphore at zero, and nothing owed. -/
def after (c : Dev nD) : sProp 𝕄 := iprop((∃ v, XR m c 0 v) ∗ (∃ v, XR m c 1 v) ∗ wP m c ∗ (∃ v, pB c 0 0 v) ∗ (∃ v, pB c 0 1 v) ∗ (∃ v, pB c 1 0 v) ∗ (∃ v, pB c 1 1 v)
  ∗ blk c mm ![0, 0, 0] S4x8x128.size inb_mw (mxs m) ∗ semVal (barCell c) 0 ∗ bigSep Finset.univ (Dn (F := F) c) ∗ ow (F := F) c 27)

set_option maxHeartbeats 4000000 in
/-- The body, from its start to its end. -/
theorem run_body {Q : PUnit → sProp 𝕄} (c : Dev nD) {v₀ v₁ p₀ p₁ p₂ p₃ : Vec F S1x512x1024 .f32} {mv : Vec F S1x8x128 .f32} :
    XR m c 0 v₀ ⊢ iprop(XR m c 1 v₁ -∗ Bk m c 0 -∗ barPay (prv c) true -∗ barPay (nxt c) false -∗ wP m c
      -∗ oE c (ck 0 0 c) 0 0 -∗ oE c (ck 1 0 c) 0 1 -∗ oE c (ck 0 0 c) 1 0 -∗ oE c (ck 1 0 c) 1 1
      -∗ pB c 0 0 p₀ -∗ pB c 0 1 p₁ -∗ pB c 1 0 p₂ -∗ pB c 1 1 p₃ -∗ mB c (ck 0 0 c) mv -∗ bigSep Finset.univ (Tk m c)
      -∗ (after m c -∗ bigSep Finset.univ (fun i : Fin 4 × Fin 2 × Fin 2 × Fin 2 => qB c i.1 i.2.1 i.2.2.1 i.2.2.2 (quart m i)) -∗ Q ⟨⟩)
      -∗ wpc c (at0 cc0_body) Q) := by
  iintro X₀ X₁ Bb Bp Bn W E₀ E₁ E₂ E₃ P₀ P₁ P₂ P₃ M T K
  ihave T := (Entails.of_eq (every (Tk m c))) $$ T
  icases T with ⟨T0, T1, T2, T3, T4, T5, T6, T7, T8, T9, T10, T11, T12, T13, T14, T15, T16, T17, T18, T19, T20, T21, T22, T23, T24, T25, T26⟩
  simp only [at0, cc0_body_eq_skeleton]; unfold cc0_body_skel
  simp only [k0_part55_eq_skeleton]; unfold k0_part55_skel
  iapply (next c)
  iapply (next c)
  iapply (part1 m c) $$ X₀ X₁ Bb Bp Bn
  iintro %a %b %d h1 h2 h3
  iapply (next c)
  iapply (part2 m c _ _) $$ h3 h1 W E₀ E₁ T0
  iintro %w h4 h5 h6 h7 h8 h9 h10 h11
  unfold barNxt barPrv
  icases h5 with ⟨h12, h13, h14, h15, h16, h17, h18, h19⟩
  icases h6 with ⟨h20, h21, h22, h23, h24, h25⟩
  iapply (next c)
  iapply (part3 m c _ _ _ _) $$ h9 h20 T1 h11 h2 h8 E₂ E₃
  iintro %w h26 h27 h28 h29 h30 h31
  iapply (next c)
  iapply (part4 m c _ _ _) $$ h30 h12 T2 h31 h21 T3 h27
  iintro %a %b h32 h33 h34
  iapply (next c)
  iapply (part5 m c _ _) $$ h7 h28 h34 h29 P₀
  iintro h35 h36 h37 h38 h39
  iapply (next c)
  iapply (part6 m c _ _) $$ h35 h36 h37 h38 P₁
  iintro h40 h41 h42 h43 h44
  iapply (next c)
  iapply (part7 m c _ _) $$ h10 h39 h13 T4 h42
  iintro h45 h46 h47 h48 h49
  iapply (next c)
  iapply (part8 m c _ _) $$ h40 h49 h43 P₂ h32
  iintro %w h50 h51 h52 h53 h54 h55 h56
  iapply (next c)
  iapply (part9 m c _ _ _) $$ h56 h44 h14 T5 h51 h41 h52
  iintro h57 h58 h59 h60 h61
  iapply (next c)
  iapply (part10 m c _ _) $$ P₃ h26 h59 h53
  iintro %a %b h62 h63 h64 h65 h66 h67
  iapply (next c)
  iapply (part11 m c _ _ _ _) $$ h65 h22 h45 T6 h66 h33
  iintro %a h68 h69 h70 h71 h72
  iapply (next c)
  iapply (part12 m c _ _ _ _) $$ h72 h62 h23 h54 T7 h69
  iintro %a %b h73 h74 h75
  iapply (next c)
  iapply (part13 m c _ _) $$ h50 h60 h75 h61 h47
  iintro h76 h77 h78 h79 h80
  iapply (next c)
  iapply (part14 m c _ _) $$ h77 h78 h79 h57
  iintro h81 h82 h83 h84
  iapply (next c)
  iapply (part15 m c _ _) $$ h48 h80 h15 h63 T8 h82
  iintro h85 h86 h87 h88 h89
  iapply (next c)
  iapply (part16 m c _ _) $$ h76 h89 h83 h67 h58
  iintro %w h90 h91 h92 h93 h94 h95 h96
  iapply (next c)
  iapply (part17 m c _ _ _) $$ h96 h84 h16 h70 T9 h91 h81 h92
  iintro h97 h98 h99 h100 h101
  iapply (next c)
  iapply (part18 m c _ _) $$ h73 h68 h99 h93
  iintro %a h102 h103 h104 h105 h106 h107 h108
  iapply (next c)
  iapply (part19 m c _ _ _) $$ h105 h24 h85 T10 h107 h74
  iintro %a h109 h110 h111 h112 h113 h114
  iapply (next c)
  iapply (part20 m c _ _ _ _) $$ h113 h102 h25 h94 T11 h110 h90
  iintro %a %b %d h115 h116 h117 h118
  iapply (next c)
  iapply (part21 m c _ _ _) $$ h118 h100 h117 h101 h87
  iintro h119 h120 h121 h122 h123
  iapply (next c)
  iapply (part22 m c _ _) $$ h120 h121 h122 h97 h88
  iintro h124 h125 h126 h127 h128 h129
  iapply (next c)
  iapply (part23 m c _ _) $$ h128 h123 h106 h103 T12 h125
  iintro h130 h131 h132 h133 h134
  iapply (next c)
  iapply (part24 m c _ _) $$ h119 h134 h126 h108 h98
  iintro %w h135 h136 h137 h138 h139 h140 h141 h142
  iapply (next c)
  iapply (part25 m c _ _ _) $$ h141 h127 h114 h111 T13 h136 h124 h137
  iintro h143 h144 h145 h146 h147
  iapply (next c)
  iapply (part26 m c _ _) $$ h115 h109 h145 h138
  iintro %a %b h148 h149 h150 h151 h152 h153 h154
  iapply (next c)
  iapply (part27 m c _ _ _ _) $$ h151 h131 h129 T14 h153 h116 h148
  iintro %a h155 h156 h157 h158 h159 h160 h161
  iapply (next c)
  iapply (part28 m c _ _ _ _) $$ h159 h142 h139 T15 h156 h133 h155
  iintro %a %b h162 h163 h164 h165
  iapply (next c)
  iapply (part29 m c _ _ _ _) $$ h144 h162 M
  iintro h166 h167 h168
  iapply (next c)
  iapply (part30 m c _ _) $$ h168 h17 T16 h163 h164
  iintro %a %b %d %e h169 h170 h171 h172 h173 h174
  iapply (next c)
  iapply (part31 m c _ _ _ _) $$ h173 h152 h149 T17 h170 h169
  iintro h175 h176 h177 h178 h179
  iapply (next c)
  iapply (part32 m c _ _) $$ h179 h18 T18 h176 h166 h160 h157 T19
  iintro h180 h181 h182 h183 h184 h185
  iapply (next c)
  iapply (part33 m c _ _) $$ h165 h174 T20 h181
  iintro %w h186 h187 h188 h189 h190
  iapply (next c)
  iapply (part34 m c _ _ _ _) $$ h167 h185 T21 h190
  iintro %a %b %d h191 h192 h193 h194 h195
  iapply (next c)
  iapply (part35 m c _ _ _ _) $$ h175 h188 T22 h195
  iintro h196 h197 h198 h199 h200
  iapply (next c)
  iapply (part36 m c _ _ _) $$ h180 h19 T23 h200
  iintro h201 h202 h203 h204
  iapply (next c)
  iapply (part37 m c _ _ _) $$ h184 h193 T24 h204 h189
  iintro h205 h206 h207 h208 h209 h210 h211
  iapply (next c)
  iapply (part38 m c _ _) $$ h210 h198 T25 h209 h194
  iintro h212 h213 h214 h215 h216
  iapply (next c)
  iapply (part39 m c _ _ _) $$ h215 h207 T26 h214 h203
  iintro %a %b h217 h218 h219 h220 h221
  ihave h171 := (split_rows c (ck 0 3 c) 0 0 (acc m 0 (ck 0 3 c) 0 3)) $$ h171
  icases h171 with ⟨h222, h223⟩
  iapply (next c)
  iapply (part40 m c _ _) $$ h220 h177 h201 h221 h219 h222 h223
  iintro %a h224 h225 h226 h227 h228
  ihave h182 := (split_rows c (ck 0 3 c) 1 0 (acc m 0 (ck 0 3 c) 1 3)) $$ h182
  icases h182 with ⟨h229, h230⟩
  iapply (next c)
  iapply (part41 m c _ _) $$ h228 h229 h230
  iintro %a h231 h232 h233
  ihave h196 := (split_rows c (ck 0 4 c) 0 0 (acc m 0 (ck 0 4 c) 0 3)) $$ h196
  icases h196 with ⟨h234, h235⟩
  iapply (next c)
  iapply (part42 m c _ _) $$ h233 h234 h235
  iintro %a %b h236 h237 h238
  ihave h205 := (split_rows c (ck 0 4 c) 1 0 (acc m 0 (ck 0 4 c) 1 3)) $$ h205
  icases h205 with ⟨h239, h240⟩
  ihave h186 := (split_rows c (ck 1 3 c) 0 1 (acc m 1 (ck 1 3 c) 0 3)) $$ h186
  icases h186 with ⟨h241, h242⟩
  iapply (next c)
  iapply (part43 m c _ _ _) $$ h239 h240 h241
  iintro %a h243 h244 h245
  ihave h191 := (split_rows c (ck 1 3 c) 1 1 (acc m 1 (ck 1 3 c) 1 3)) $$ h191
  icases h191 with ⟨h246, h247⟩
  iapply (next c)
  iapply (part44 m c _ _) $$ h245 h242 h246
  iintro %a h248 h249 h250
  ihave h211 := (split_rows c (ck 1 4 c) 0 1 (acc m 1 (ck 1 4 c) 0 3)) $$ h211
  icases h211 with ⟨h251, h252⟩
  iapply (next c)
  iapply (part45 m c _ _) $$ h247 h251 h252
  iintro %a %b h253 h254 h255
  ihave h216 := (split_rows c (ck 1 4 c) 1 1 (acc m 1 (ck 1 4 c) 1 3)) $$ h216
  icases h216 with ⟨h256, h257⟩
  iapply (next c)
  iapply (part46 m c _ _ _) $$ h255 h256 h257
  iintro h258 h259 h260
  iapply (next c)
  iapply (part47 m c _ _) $$ h226 h199
  iintro %a h261 h262 h263 h264 h265
  iapply (next c)
  iapply (part48 m c _ _ _) $$ h265 h261 h208
  iintro %a h266 h267 h268 h269 h270 h271
  iapply (next c)
  iapply (part49 m c _ _ _ _) $$ h270 h271 h267 h213
  iintro h272 h273 h274 h275 h276
  iapply (next c)
  iapply (part50 m c _) $$ h274 h276
  iintro %a %b h277 h278 h279 h280
  iapply (next c)
  iapply (part51 m c _ _ _ _) $$ h277 h218
  iintro %a h281 h282 h283 h284 h285
  ihave h262 := (split_rows c (ck 0 5 c) 0 0 (acc m 0 (ck 0 5 c) 0 3)) $$ h262
  icases h262 with ⟨h286, h287⟩
  iapply (next c)
  iapply (part52 m c _ _) $$ h285 h286 h287
  iintro h288 h289 h290
  ihave h268 := (split_rows c (ck 0 5 c) 1 0 (acc m 0 (ck 0 5 c) 1 3)) $$ h268
  icases h268 with ⟨h291, h292⟩
  ihave h275 := (split_rows c (ck 1 5 c) 0 1 (acc m 1 (ck 1 5 c) 0 3)) $$ h275
  icases h275 with ⟨h293, h294⟩
  iapply (next c)
  iapply (part53 m c _ _) $$ h291 h292 h293
  iintro %a h295 h296 h297
  ihave h282 := (split_rows c (ck 1 5 c) 1 1 (acc m 1 (ck 1 5 c) 1 3)) $$ h282
  icases h282 with ⟨h298, h299⟩
  iapply (next c)
  iapply (part54 m c _ _) $$ h297 h294 h298
  iintro h300 h301 h302
  iapply (fin c)
  simp only [Prog.lift, Prog.bind_op, Prog.bind_ret, Prog.pure_eq_ret]
  iapply (quant_step m c 1 5 1 1 (o22 c 0 1 1) (fun _ => rfl)) $$ h299
  iintro h299
  iapply (fin c)
  iapply K $$ [h135 h146 h147 h132 h143 h154 h161 h225 h4 h281 h46 h64 h55 h71 h86 h95 h104 h112 h130 h140 h150 h158 h172 h183 h187 h192 h178 h197 h202 h206 h212 h217 h263 h224 h269 h278 h283]
  · unfold after
    isplitl [h135]; · iexists _; iexact h135
    isplitl [h146]; · iexists _; iexact h146
    isplitl [h147]; · iexact h147
    isplitl [h132]; · iexists _; iexact h132
    isplitl [h143]; · iexists _; iexact h143
    isplitl [h154]; · iexists _; iexact h154
    isplitl [h161]; · iexists _; iexact h161
    isplitl [h225]; · iexact h225
    isplitl [h4]; · iexact h4
    isplitl [h46 h64 h55 h71 h86 h95 h104 h112 h130 h140 h150 h158 h172 h183 h187 h192 h178 h197 h202 h206 h212 h217 h263 h224 h269 h278 h283]
    · iapply (Entails.of_eq (every (Dn (F := F) c)).symm)
      isplitl [h46]; · iexact h46
      isplitl [h64]; · iexact h64
      isplitl [h55]; · iexact h55
      isplitl [h71]; · iexact h71
      isplitl [h86]; · iexact h86
      isplitl [h95]; · iexact h95
      isplitl [h104]; · iexact h104
      isplitl [h112]; · iexact h112
      isplitl [h130]; · iexact h130
      isplitl [h140]; · iexact h140
      isplitl [h150]; · iexact h150
      isplitl [h158]; · iexact h158
      isplitl [h172]; · iexact h172
      isplitl [h183]; · iexact h183
      isplitl [h187]; · iexact h187
      isplitl [h192]; · iexact h192
      isplitl [h178]; · iexact h178
      isplitl [h197]; · iexact h197
      isplitl [h202]; · iexact h202
      isplitl [h206]; · iexact h206
      isplitl [h212]; · iexact h212
      isplitl [h217]; · iexact h217
      isplitl [h263]; · iexact h263
      isplitl [h224]; · iexact h224
      isplitl [h269]; · iexact h269
      isplitl [h278]; · iexact h278
      iexact h283
    iexact h281
  iapply (Entails.of_eq (quarters c (fun i : Fin 4 × Fin 2 × Fin 2 × Fin 2 => qB c i.1 i.2.1 i.2.2.1 i.2.2.2 (quart m i))).symm)
  isplitl [h227]; · iexact h227
  isplitl [h231]; · iexact h231
  isplitl [h232]; · iexact h232
  isplitl [h236]; · iexact h236
  isplitl [h237]; · iexact h237
  isplitl [h238]; · iexact h238
  isplitl [h243]; · iexact h243
  isplitl [h244]; · iexact h244
  isplitl [h289]; · iexact h289
  isplitl [h290]; · iexact h290
  isplitl [h295]; · iexact h295
  isplitl [h296]; · iexact h296
  isplitl [h264]; · iexact h264
  isplitl [h266]; · iexact h266
  isplitl [h272]; · iexact h272
  isplitl [h273]; · iexact h273
  isplitl [h248]; · iexact h248
  isplitl [h249]; · iexact h249
  isplitl [h250]; · iexact h250
  isplitl [h253]; · iexact h253
  isplitl [h254]; · iexact h254
  isplitl [h258]; · iexact h258
  isplitl [h259]; · iexact h259
  isplitl [h260]; · iexact h260
  isplitl [h300]; · iexact h300
  isplitl [h301]; · iexact h301
  isplitl [h302]; · iexact h302
  isplitl [h299]; · iexact h299
  isplitl [h279]; · iexact h279
  isplitl [h280]; · iexact h280
  isplitl [h284]; · iexact h284
  iexact h288

end Cert.KernelProof
-- ==== Proof.Deal.lean ====
/-
  Deal: how the launch hands every device its part of the transfers.

  All cells are made at once, over all devices: the barrier's and, for each transfer, its two. A receive cell's token goes
  to the device that sends, a barrier's two tokens to the two neighbours, and each device is credited what the others owe
  its cells.
-/
module

public import proofs.«01_k».proof.Proof.Body

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells and their tokens -/

/-- A device's cells: the barrier's, and a transfer's two. -/
abbrev J : Type := Unit ⊕ (Bool × T)
def csem : J → SemLoc sig
  | .inl _ => .reg barS
  | .inr (r, t) => .dma (cellSem r t)
abbrev kcell (cj : Dev nD × J) : GSem nD τ sig := ((cj.1 : Thread nD τ), csem cj.2)

theorem csem_injective : Function.Injective csem := by
  rintro (⟨⟩ | ⟨r, t⟩) (⟨⟩ | ⟨r', t'⟩) h
  · rfl
  · exact absurd h (by unfold csem; exact fun h => by cases h)
  · exact absurd h (by unfold csem; exact fun h => by cases h)
  · have h1 : cellSem r t = cellSem r' t' := SemLoc.dma.inj h
    have h2 := congrArg dec h1
    rw [dec_cellSem, dec_cellSem] at h2
    rw [Option.some.inj h2]

theorem kcell_injective : Function.Injective kcell := by
  rintro ⟨c, j⟩ ⟨c', j'⟩ h
  have h1 : c = c' := congrArg (fun g : GSem nD τ sig => g.1.1) h
  have h2 : j = j' := csem_injective (congrArg Prod.snd h)
  rw [h1, h2]
def allCells : Finset (GSem nD τ sig) := Finset.univ.map ⟨kcell, kcell_injective⟩

/-- The tokens of a device's cells: the barrier's two, and one of each other cell. -/
abbrev TJ : Type := Bool ⊕ (Bool × T)
def tj : TJ → J × Bool
  | .inl d => (.inl (), d)
  | .inr p => (.inr p, false)
theorem tj_injective : Function.Injective tj := by
  rintro (d | p) (d' | p') h
  · rw [show d = d' from congrArg Prod.snd h]
  · exact absurd (congrArg Prod.fst h) (fun h => by cases h)
  · exact absurd (congrArg Prod.fst h) (fun h => by cases h)
  · rw [Sum.inr.inj (congrArg Prod.fst h : (Sum.inr p : J) = Sum.inr p')]
abbrev tokOf (x : Dev nD × TJ) : GSem nD τ sig × ℕ × Bool := (kcell (x.1, (tj x.2).1), 0, (tj x.2).2)
theorem tokOf_injective : Function.Injective tokOf := by
  rintro ⟨c, j⟩ ⟨c', j'⟩ h
  have h1 := kcell_injective (congrArg Prod.fst h)
  have h2 : (tj j).2 = (tj j').2 := congrArg (fun x : GSem nD τ sig × ℕ × Bool => x.2.2) h
  have h3 : (tj j).1 = (tj j').1 := congrArg Prod.snd h1
  rw [show c = c' from congrArg Prod.fst h1, tj_injective (Prod.ext h3 h2)]
def allToks : Finset (GSem nD τ sig × ℕ × Bool) := Finset.univ.map ⟨tokOf, tokOf_injective⟩

def u₀ : UU :=
  (initOf (Pipeline.cells cfgs cellOf_inj) (Pipeline.launchToks cfgs cellOf_inj), (initOf allCells allToks, 1))

/-- The tokens of device `c`'s own cells. -/
def toks (c : Dev nD) : sProp 𝕄 := bigSep Finset.univ fun j : TJ => dutyTok ER (tokOf (c, j)).1 (tokOf (c, j)).2.1 (tokOf (c, j)).2.2

/-- What the launch element deals device `c`. -/
def G (c : Dev nD) : sProp 𝕄 :=
  iprop((bigSep Finset.univ fun j : J => roundState ER (rd m) (kcell (c, j)) 0)
    ∗ (bigSep Finset.univ fun j : J => iprop(atPos ER (kcell (c, j)) 0 ∅ 0 ∗ reached ER (kcell (c, j)) 0)) ∗ toks c)

/-- What `c` holds of the barrier's cells, and of a transfer's. -/
def barGhost (c : Dev nD) : sProp 𝕄 :=
  iprop(∃ κ κ₁ κ₂, cellInv ER (rd m) κ (barCell c) ∗ cellInv ER (rd m) κ₁ (barCell (prv c)) ∗ cellInv ER (rd m) κ₂ (barCell (nxt c))
    ∗ atPos ER (barCell c) 0 ∅ 0 ∗ reached ER (barCell (prv c)) 0 ∗ dutyTok ER (barCell (prv c)) 0 true
    ∗ reached ER (barCell (nxt c)) 0 ∗ dutyTok ER (barCell (nxt c)) 0 false)
def xferGhost (c : Dev nD) (t : T) : sProp 𝕄 :=
  iprop(∃ κ₁ κ₂ κ₃, cellInv ER (rd m) κ₁ (sendCell c t) ∗ cellInv ER (rd m) κ₂ (recvCell (dst t c) t) ∗ cellInv ER (rd m) κ₃ (recvCell c t)
    ∗ atPos ER (sendCell c t) 0 ∅ 0 ∗ atPos ER (recvCell c t) 0 ∅ 0
    ∗ reached ER (sendCell c t) 0 ∗ reached ER (recvCell (dst t c) t) 0
    ∗ dutyTok ER (sendCell c t) 0 false ∗ dutyTok ER (recvCell (dst t c) t) 0 false)
def G' (c : Dev nD) : sProp 𝕄 := iprop(barGhost m c ∗ bigSep Finset.univ fun t : T => xferGhost m c t)

theorem by_bool {Φ : Bool × T → sProp 𝕄} :
    bigSep Finset.univ Φ = iprop((bigSep Finset.univ fun t : T => Φ (false, t)) ∗ bigSep Finset.univ fun t : T => Φ (true, t)) := by
  rw [bigSep_univ_prod, bigSep_univ_eq_bigSepL [false, true] (by decide) (by decide)]; rfl
theorem by_unit {A : Type} [Fintype A] {Φ : Unit ⊕ A → sProp 𝕄} :
    bigSep Finset.univ Φ = iprop(Φ (.inl ()) ∗ bigSep Finset.univ fun a : A => Φ (.inr a)) := by
  rw [BI.bigSep_univ_sum, BI.bigSep_univ_of_subsingleton ()]; rfl
theorem bySep {A : Type} [Fintype A] {Φ Ψ : A → sProp 𝕄} :
    (bigSep Finset.univ fun a => iprop(Φ a ∗ Ψ a)) = iprop(bigSep Finset.univ Φ ∗ bigSep Finset.univ Ψ) := bigSep_sep' _ _ _

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun j : J => Φ (kcell (c, j)) := by
    unfold allCells; rw [BI.bigSep_map, bigSep_univ_prod]; rfl
  have hT : bigSep allToks (fun x => (dutyTok ER x.1 x.2.1 x.2.2 : sProp 𝕄)) = bigSep Finset.univ fun c : Dev nD => toks c := by
    unfold allToks; rw [BI.bigSep_map, bigSep_univ_prod]; rfl
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The kernel's own semaphores -/

/-- The two of the copies into the staging slots, and the transfers'. -/
def osem : Fin 2 ⊕ (Bool × T) → SemLoc sig
  | .inl k => .dma (xsem k)
  | .inr (r, t) => .dma (cellSem r t)

theorem ownSemFacts : Pipeline.OwnSemFacts cfg0.spec osem := by decide +kernel

theorem ownSems0_eq (c : Dev nD) : (Pipeline.ownSems0 (Ix := Unit) (Name := ℕ) (U := UU) (Lvl := ℕ) (Val := Elt F) (τ := τ) osem c : sProp 𝕄)
    = iprop((semVal ((c : Thread nD τ), .dma (xsem 0)) 0 ∗ semVal ((c : Thread nD τ), .dma (xsem 1)) 0)
      ∗ bigSep Finset.univ fun p : Bool × T => semVal (kcell (c, .inr p)) 0) := by
  unfold Pipeline.ownSems0
  rw [BI.bigSep_univ_sum]
  exact congrArg (fun A => iprop(A ∗ bigSep Finset.univ fun p : Bool × T => semVal (kcell (c, .inr p)) 0)) (two _)
/-- The barrier's semaphore is the one the launch leaves unscoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The copies' two semaphores at zero. -/
def xsems (c : Dev nD) : sProp 𝕄 := iprop(semVal ((c : Thread nD τ), .dma (xsem 0)) 0 ∗ semVal ((c : Thread nD τ), .dma (xsem 1)) 0)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : J => iprop(∃ κ : ℕ, cellInv ER (rd m) κ (kcell (c, j))))
          ∗ (bigSep Finset.univ fun j : J => iprop(atPos ER (kcell (c, j)) 0 ∅ 0 ∗ reached ER (kcell (c, j)) 0)) ∗ toks c ∗ xsems c) := by
  unfold G
  rw [ownSems0_eq, unscopedSems0_eq]
  iintro ⟨⟨Hx, Hos⟩, Hus, Hst, Hat, Htok⟩
  imod (show iprop((bigSep Finset.univ fun j : J => semVal (kcell (c, j)) 0) ∗ bigSep Finset.univ fun j : J => roundState ER (rd m) (kcell (c, j)) 0)
      ⊢ (|={Set.univ}=> bigSep Finset.univ fun j => iprop(∃ κ : ℕ, cellInv ER (rd m) κ (kcell (c, j))) : sProp 𝕄) from by
        rw [← bigSep_sep']
        exact (bigSep_mono fun j _ => (Rounds.body_intro ER (rd m) (kcell (c, j))).trans inv_alloc).trans (bigSep_fupd _ _)) $$ [Hus Hos Hst] with Hinv
  · isplitr [Hst]
    · iapply (Entails.of_eq (by_unit (Φ := fun j : J => (semVal (kcell (c, j)) 0 : sProp 𝕄))).symm)
      isplitl [Hus]
      · iexact Hus
      · iexact Hos
    · iexact Hst
  imodintro
  isplitl [Hinv]; · iexact Hinv
  isplitl [Hat]; · iexact Hat
  isplitl [Htok]; · iexact Htok
  iapply (show iprop(semVal ((c : Thread nD τ), .dma (xsem 0)) 0 ∗ semVal ((c : Thread nD τ), .dma (xsem 1)) 0) ⊢ (xsems c : sProp 𝕄) from Entails.refl _)
  iexact Hx

/-! ## Dealing -/

def records (K : Dev nD × J → ℕ) : sProp 𝕄 :=
  iprop((bigSep Finset.univ fun x : Dev nD × J => cellInv ER (rd m) (K x) (kcell x))
    ∗ bigSep Finset.univ fun x : Dev nD × J => reached ER (kcell x) 0)
instance records_persistent (K : Dev nD × J → ℕ) : BI.Persistent (records m K) := by unfold records; infer_instance

theorem inv_at (K : Dev nD × J → ℕ) (x : Dev nD × J) :
    (bigSep Finset.univ fun x : Dev nD × J => (cellInv ER (rd m) (K x) (kcell x) : sProp 𝕄)) ⊢ cellInv ER (rd m) (K x) (kcell x) :=
  by classical exact sepElim (Finset.mem_univ x)
theorem reached_at (x : Dev nD × J) :
    (bigSep Finset.univ fun x : Dev nD × J => (reached ER (kcell x) 0 : sProp 𝕄)) ⊢ reached ER (kcell x) 0 :=
  by classical exact sepElim (Finset.mem_univ x)

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The tokens of the duties `c` itself pays. -/
def payToks (c : Dev nD) : sProp 𝕄 :=
  iprop(dutyTok ER (barCell (nxt c)) 0 false ∗ dutyTok ER (barCell (prv c)) 0 true
    ∗ (bigSep Finset.univ fun t : T => dutyTok ER (sendCell c t) 0 false) ∗ bigSep Finset.univ fun t : T => dutyTok ER (recvCell (dst t c) t) 0 false)
def linear (c : Dev nD) : sProp 𝕄 := iprop((bigSep Finset.univ fun j : J => atPos ER (kcell (c, j)) 0 ∅ 0) ∗ payToks c)

theorem xfer_intro (K : Dev nD × J → ℕ) (c : Dev nD) (t : T) :
    iprop(records m K ∗ atPos ER (sendCell c t) 0 ∅ 0 ∗ atPos ER (recvCell c t) 0 ∅ 0
      ∗ dutyTok ER (sendCell c t) 0 false ∗ dutyTok ER (recvCell (dst t c) t) 0 false) ⊢ xferGhost m c t := by
  unfold records xferGhost
  iintro ⟨⟨#HI, #HR⟩, HaS, HaV, HtS, HtV⟩
  iexists (K (c, .inr (false, t)))
  iexists (K (dst t c, .inr (true, t)))
  iexists (K (c, .inr (true, t)))
  isplitr; · iapply (inv_at m K (c, .inr (false, t))); iexact HI
  isplitr; · iapply (inv_at m K (dst t c, .inr (true, t))); iexact HI
  isplitr; · iapply (inv_at m K (c, .inr (true, t))); iexact HI
  isplitl [HaS]; · iexact HaS
  isplitl [HaV]; · iexact HaV
  isplitr; · iapply (reached_at (F := F) (c, .inr (false, t))); iexact HR
  isplitr; · iapply (reached_at (F := F) (dst t c, .inr (true, t))); iexact HR
  isplitl [HtS]; · iexact HtS
  iexact HtV

theorem bar_intro (K : Dev nD × J → ℕ) (c : Dev nD) :
    iprop(records m K ∗ atPos ER (barCell c) 0 ∅ 0 ∗ dutyTok ER (barCell (nxt c)) 0 false ∗ dutyTok ER (barCell (prv c)) 0 true) ⊢ barGhost m c := by
  unfold records barGhost
  iintro ⟨⟨#HI, #HR⟩, Ha, HtN, HtP⟩
  iexists (K (c, .inl ()))
  iexists (K (prv c, .inl ()))
  iexists (K (nxt c, .inl ()))
  isplitr; · iapply (inv_at m K (c, .inl ())); iexact HI
  isplitr; · iapply (inv_at m K (prv c, .inl ())); iexact HI
  isplitr; · iapply (inv_at m K (nxt c, .inl ())); iexact HI
  isplitl [Ha]; · iexact Ha
  isplitr; · iapply (reached_at (F := F) (prv c, .inl ())); iexact HR
  isplitl [HtP]; · iexact HtP
  isplitr; · iapply (reached_at (F := F) (nxt c, .inl ())); iexact HR
  iexact HtN

theorem linear_eq (c : Dev nD) : (linear c : sProp 𝕄) ⊢ iprop((atPos ER (barCell c) 0 ∅ 0 ∗ dutyTok ER (barCell (nxt c)) 0 false ∗ dutyTok ER (barCell (prv c)) 0 true)
    ∗ bigSep Finset.univ fun t : T => iprop(atPos ER (sendCell c t) 0 ∅ 0 ∗ atPos ER (recvCell c t) 0 ∅ 0
      ∗ dutyTok ER (sendCell c t) 0 false ∗ dutyTok ER (recvCell (dst t c) t) 0 false)) := by
  unfold linear payToks
  rw [by_unit, by_bool, bySep, bySep, bySep]
  iintro ⟨⟨Ha, HS, HV⟩, HN, HP, TS, TV⟩
  isplitl [Ha HN HP]
  · isplitl [Ha]; · iexact Ha
    isplitl [HN] <;> iassumption
  isplitl [HS]; · iexact HS
  isplitl [HV]; · iexact HV
  isplitl [TS] <;> iassumption

theorem ghost_intro (K : Dev nD × J → ℕ) (c : Dev nD) : iprop(records m K ∗ linear c) ⊢ G' m c := by
  unfold G'
  iintro ⟨#HR, HL⟩
  ihave H := (linear_eq (F := F) c) $$ HL
  icases H with ⟨Hb, Ht⟩
  isplitl [Hb]
  · iapply (bar_intro m K c)
    isplitr; · iexact HR
    iexact Hb
  · iapply (with_records (R := records m K) fun t _ => xfer_intro m K c t)
    isplitr; · iexact HR
    iexact Ht

/-- Every pair of a receiver and a transfer is the pair of its sender and the transfer, once. -/
def sendersOf : Dev nD × T ≃ Dev nD × T :=
  ⟨fun x => (dst x.2 x.1, x.2), fun x => (src x.2 x.1, x.2), fun x => Prod.ext (src_dst x.2 x.1) rfl, fun x => Prod.ext (dst_src x.2 x.1) rfl⟩

theorem to_senders (Φ : Dev nD → T → sProp 𝕄) :
    (bigSep Finset.univ fun c : Dev nD => bigSep Finset.univ fun t : T => Φ c t) = bigSep Finset.univ fun c : Dev nD => bigSep Finset.univ fun t : T => Φ (dst t c) t := by
  rw [← BI.bigSep_univ_prod (fun x : Dev nD × T => Φ x.1 x.2), BI.bigSep_univ_equiv sendersOf, BI.bigSep_univ_prod]; rfl

theorem toks_eq (c : Dev nD) : (toks c : sProp 𝕄) = iprop((dutyTok ER (barCell c) 0 false ∗ dutyTok ER (barCell c) 0 true)
    ∗ (bigSep Finset.univ fun t : T => dutyTok ER (sendCell c t) 0 false) ∗ bigSep Finset.univ fun t : T => dutyTok ER (recvCell c t) 0 false) := by
  unfold toks
  rw [BI.bigSep_univ_sum]
  refine congrArg₂ (fun A B => iprop(A ∗ B)) ?_ by_bool
  exact bigSep_univ_eq_bigSepL [false, true] (by decide) (by decide) _

/-- A barrier's `false` token goes to the device before, its `true` token to the next, a receive cell's to the sender. -/
theorem toks_around : (bigSep Finset.univ fun c : Dev nD => (toks c : sProp 𝕄)) ⊢ bigSep Finset.univ fun c : Dev nD => payToks c := by
  rw [BI.bigSep_congr fun c _ => toks_eq (F := F) c]
  unfold payToks
  rw [bySep, bySep, bySep, bySep, bySep, bySep,
    BI.bigSep_univ_equiv ring (fun c : Dev nD => (dutyTok ER (barCell c) 0 false : sProp 𝕄)),
    BI.bigSep_univ_equiv ring.symm (fun c : Dev nD => (dutyTok ER (barCell c) 0 true : sProp 𝕄)),
    to_senders (fun c t => (dutyTok ER (recvCell c t) 0 false : sProp 𝕄))]
  iintro ⟨⟨H1, H2⟩, H3, H4⟩
  isplitl [H1]; · iexact H1
  isplitl [H2]; · iexact H2
  isplitl [H3] <;> iassumption

theorem regroup :
    (bigSep Finset.univ fun c : Dev nD => iprop((bigSep Finset.univ fun j : J => iprop(∃ κ : ℕ, cellInv ER (rd m) κ (kcell (c, j))))
          ∗ (bigSep Finset.univ fun j : J => iprop(atPos ER (kcell (c, j)) 0 ∅ 0 ∗ reached ER (kcell (c, j)) 0)) ∗ toks c ∗ xsems c) : sProp 𝕄)
      ⊢ bigSep Finset.univ fun c => iprop(G' m c ∗ xsems c) := by
  rw [bySep, bySep, bySep, bySep, ← BI.bigSep_univ_prod (fun x : Dev nD × J => iprop(∃ κ : ℕ, cellInv ER (rd m) κ (kcell x))),
    BI.bigSep_congr (s := Finset.univ) (fun (c : Dev nD) _ => bySep (Φ := fun j : J => (atPos ER (kcell (c, j)) 0 ∅ 0 : sProp 𝕄)) (Ψ := fun j => reached ER (kcell (c, j)) 0)),
    bySep, ← BI.bigSep_univ_prod (fun x : Dev nD × J => (reached ER (kcell x) 0 : sProp 𝕄))]
  classical
  iintro ⟨HI, ⟨Hat, #HR⟩, Htok, Hx⟩
  isplitr [Hx]
  · ihave HK := (BI.bigSep_exists_pi Finset.univ (fun (x : Dev nD × J) (κ : ℕ) => (cellInv ER (rd m) κ (kcell x) : sProp 𝕄))) $$ HI
    icases HK with ⟨%K, #HI⟩
    ihave Htk := (toks_around (F := F)) $$ Htok
    iapply (with_records (R := records m K) fun c _ => ghost_intro m K c)
    isplitr
    · unfold records; isplitl; · iexact HI
      iexact HR
    · iapply (Entails.of_eq (bySep (Φ := fun c : Dev nD => bigSep Finset.univ fun j : J => (atPos ER (kcell (c, j)) 0 ∅ 0 : sProp 𝕄)) (Ψ := payToks)).symm)
      isplitl [Hat]; · iexact Hat
      iexact Htk
  · iexact Hx

/-- All cells of all devices, made at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ fun c => iprop(G' m c ∗ xsems c) :=
  ((bigSep_mono fun c _ => core_alloc m c).trans (bigSep_fupd _ _)).trans (BI.fupd_mono (regroup m))

/-! ## The credit -/

theorem recvSem_ne_bar (a b : Dev nD) (t : T) : recvCell a t ≠ barCell b := fun h => by
  have h2 : SemLoc.dma (recvSem t) = SemLoc.reg barS := congrArg Prod.snd h
  cases h2
theorem recvCell_inj {a b : Dev nD} {t t' : T} (h : recvCell a t = recvCell b t') : a = b ∧ t = t' := by
  refine ⟨congrArg (fun g : GSem nD τ sig => g.1.1) h, ?_⟩
  have h1 : recvSem t = recvSem t' := SemLoc.dma.inj (congrArg Prod.snd h)
  have h2 := congrArg dec h1
  rw [dec_recv, dec_recv] at h2
  exact congrArg Prod.snd (Option.some.inj h2)

theorem owedL_bar (d c : Dev nD) (l : List T) : owedL d l (barCell c) () = 0 := by
  by_contra h
  obtain ⟨t, _, e⟩ := owedL_pos (Nat.pos_of_ne_zero h)
  exact recvSem_ne_bar _ _ _ e.symm
theorem owedL_not_mem (d c : Dev nD) (t : T) (l : List T) (ht : t ∉ l) : owedL d l (recvCell c t) () = 0 := by
  by_contra h
  obtain ⟨t', h', e⟩ := owedL_pos (Nat.pos_of_ne_zero h)
  exact ht ((recvCell_inj e).2 ▸ h')
theorem owedL_mem (d c : Dev nD) (t : T) (l : List T) (hn : l.Nodup) (ht : t ∈ l) :
    owedL d l (recvCell c t) () = if d = src t c then NN t else 0 := by
  induction l with
  | nil => exact absurd ht List.not_mem_nil
  | cons t' l ih =>
    unfold owedL
    rw [Pi.add_apply, Finsupp.add_apply, tallyAt_apply]
    rcases List.mem_cons.mp ht with rfl | hl
    · rw [owedL_not_mem d c t l (List.nodup_cons.mp hn).1, Nat.zero_add]
      by_cases h : d = src t c
      · rw [if_pos h, if_pos ⟨by rw [h, dst_src], rfl⟩]
      · rw [if_neg h, if_neg]
        rintro ⟨h', -⟩
        exact h (by rw [(recvCell_inj h').1, src_dst])
    · rw [ih (List.nodup_cons.mp hn).2 hl, if_neg (c := recvCell c t = recvCell (dst t' d) t' ∧ () = ()), Nat.add_zero]
      rintro ⟨h', -⟩
      exact (List.nodup_cons.mp hn).1 ((recvCell_inj h').2 ▸ hl)

theorem bar_eq_iff {a b : Dev nD} : Iff (barCell a = barCell b) (a = b) :=
  ⟨fun h => congrArg (fun g : GSem nD τ sig => g.1.1) h, fun h => h ▸ rfl⟩

theorem owed_bar (d c : Dev nD) : O₀ d (barCell c) () = (if d = prv c then 1 else 0) + (if d = nxt c then 1 else 0) := by
  unfold O₀
  rw [Pi.add_apply, Finsupp.add_apply, Pi.add_apply, Finsupp.add_apply, owedL_bar, tallyAt_apply, tallyAt_apply, Nat.zero_add]
  congr 1
  · by_cases h : d = prv c
    · subst h; rw [nxt_prv, if_pos ⟨rfl, rfl⟩, if_pos rfl]
    · rw [if_neg (fun ⟨h1, _⟩ => h (by rw [← prv_nxt d]; exact congrArg prv (bar_eq_iff.mp h1).symm)), if_neg h]
  · by_cases h : d = nxt c
    · subst h; rw [prv_nxt, if_pos ⟨rfl, rfl⟩, if_pos rfl]
    · rw [if_neg (fun ⟨h1, _⟩ => h (by rw [← nxt_prv d]; exact congrArg nxt (bar_eq_iff.mp h1).symm)), if_neg h]

theorem owed_recv (d c : Dev nD) (t : T) : O₀ d (recvCell c t) () = if d = src t c then NN t else 0 := by
  unfold O₀
  rw [Pi.add_apply, Finsupp.add_apply, Pi.add_apply, Finsupp.add_apply, owedL_mem d c t ord nodup_ord (mem_ord t),
    tallyAt_ne_cell (recvSem_ne_bar _ _ _), tallyAt_ne_cell (recvSem_ne_bar _ _ _), Finsupp.zero_apply, Nat.add_zero, Nat.add_zero]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_recv (c : Dev nD) (t : T) :
    tallyOn (recvCell c t) (launchCredit (Pipeline.owing O₀) 0 (recvCell c t)) = (tallyAt (recvCell c t) () (NN t) : CellTallies nD τ sig Unit) := by
  unfold tallyAt; refine congrArg _ (Finsupp.ext fun u => ?_); cases u
  rw [Pipeline.launchCredit_owing, Finsupp.single_eq_same, Finset.sum_congr rfl fun d _ => owed_recv d c t, Finset.sum_ite_eq' Finset.univ (src t c) fun _ => NN t,
    if_pos (Finset.mem_univ _)]

def recvLoc : T ↪ SemLoc sig := ⟨fun t => .dma (recvSem t), fun t t' h => by
  have h2 := congrArg dec (SemLoc.dma.inj h)
  rw [dec_recv, dec_recv] at h2
  exact congrArg Prod.snd (Option.some.inj h2)⟩

theorem creds (c : Dev nD) :
    (Pipeline.launchCred O₀ c : sProp 𝕄) ⊢ iprop(cred (tallyAt (barCell c) () 2) ∗ bigSep Finset.univ fun t : T => cred (tallyAt (recvCell c t) () (NN t))) := by
  unfold Pipeline.launchCred
  rw [bigSep_univ_at _ (SemLoc.reg barS), launch_bar]
  refine sep_mono_right ?_
  refine (BI.bigSep_subset (t := Finset.univ.map recvLoc) fun x hx => ?_).trans ?_
  · obtain ⟨t, -, e⟩ := Finset.mem_map.mp hx
    subst e
    exact Finset.mem_erase.mpr ⟨(fun h => by cases h), Finset.mem_univ _⟩
  · rw [BI.bigSep_map]
    exact sepMono fun t _ => by
      rw [← launch_recv]
      exact Entails.refl _

end Cert.KernelProof
-- ==== Proof.Whole.lean ====
/-
  Whole: the buffers cut into the blocks the body works on, and put together again.
-/
module

public import proofs.«01_k».proof.Proof.Body

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## A whole buffer is one block -/

section Whole
variable (c : Dev nD) (b : Ref sig .tc) {off : Fin b.ty.shape.rank → ℕ} (h : off = fun _ => 0) (inb : ∀ a, off a + b.ty.shape.size a ≤ b.ty.shape.size a)
include h

theorem emb_whole (x : b.ty.shape.Idx) : (Rect.unit off b.ty.shape.size inb).emb x = x := by
  subst h
  exact funext fun a => Fin.ext (show 0 + 1 * (x a).val = (x a).val by omega)

theorem set_whole : ((Memref.whole b).access (Rect.unit off b.ty.shape.size inb)).set = Finset.univ := by
  refine Finset.eq_univ_iff_forall.mpr fun x => ?_
  have := ((Memref.whole b).access (Rect.unit off b.ty.shape.size inb)).emb_mem_set x
  rwa [show ((Memref.whole b).access (Rect.unit off b.ty.shape.size inb)).emb x = x from emb_whole b h inb x] at this

theorem whole_blk (f : Buf (Elt F) ((c : Thread nD τ).loc b)) :
    ((c : Thread nD τ).loc b ↦{fullShare} f) ⊢ (blk c (Memref.whole b) off b.ty.shape.size inb f : sProp 𝕄) := by
  unfold blk
  iintro H
  iexists f
  isplitr; · ipureintro; exact Memref.read_access_unit_zero (Elt F) b h inb f
  rw [set_whole b h inb]
  iexact H

theorem blk_whole (v : (Rect.unit off b.ty.shape.size inb).shape.Idx → Elt F b.ty.elt) :
    (blk c (Memref.whole b) off b.ty.shape.size inb v : sProp 𝕄) ⊢ iprop(∃ f : Buf (Elt F) ((c : Thread nD τ).loc b), ⌜f = v⌝ ∗ ((c : Thread nD τ).loc b ↦{fullShare} f)) := by
  unfold blk
  iintro ⟨%f, %hf, H⟩
  iexists f
  isplitr; · ipureintro; rw [← hf]; exact (Memref.read_access_unit_zero (Elt F) b h inb f).symm
  rw [set_whole b h inb]
  iexact H

end Whole

theorem z2 : (![0, 0] : Fin 2 → ℕ) = fun _ => 0 := by decide
theorem z3 : (![0, 0, 0] : Fin 3 → ℕ) = fun _ => 0 := by decide
theorem inb_ow : ∀ a, (![0, 0] : Fin 2 → ℕ) a + S4096x2048.size a ≤ S4096x2048.size a := by decide
theorem inb_pw : ∀ a, (![0, 0, 0] : Fin 3 → ℕ) a + S2x1024x1024.size a ≤ S2x1024x1024.size a := by decide
theorem inb_xw : ∀ a, (![0, 0, 0] : Fin 3 → ℕ) a + S2x512x1024.size a ≤ S2x512x1024.size a := by decide

/-! ## The tilings -/

/-- The sixteen blocks of the output that travel. -/
def outT : Tiling (Fin 2 × Fin 2 × Fin 4) (![0, 0] : Fin 2 → ℕ) S4096x2048.size S512x1024.size
    (fun i => ![1024 * i.2.2.val + 512 * i.2.1.val, 1024 * i.1.val]) where
  n := ![8, 2]
  k i := ![2 * i.2.2.val + i.2.1.val, i.1.val]
  size_eq := by decide
  off_eq := by decide
  lt := by decide
  inj := by decide +kernel
  surj t h := by
    have h0 : t 0 < 8 := h 0
    have h1 : t 1 < 2 := h 1
    exact ⟨(⟨t 1, h1⟩, ⟨t 0 % 2, by omega⟩, ⟨t 0 / 2, by omega⟩), fun a => by
      fin_cases a
      · show 2 * (t 0 / 2) + t 0 % 2 = t 0; omega
      · rfl⟩

/-- The thirty-two blocks of it that are quantised. -/
def quartT : Tiling (Fin 4 × Fin 2 × Fin 2 × Fin 2) (![0, 0] : Fin 2 → ℕ) S4096x2048.size S256x1024.size
    (fun i => ![1024 * i.1.val + 512 * i.2.1.val + 256 * i.2.2.1.val, 1024 * i.2.2.2.val]) where
  n := ![16, 2]
  k i := ![4 * i.1.val + 2 * i.2.1.val + i.2.2.1.val, i.2.2.2.val]
  size_eq := by decide
  off_eq := by decide +kernel
  lt := by decide +kernel
  inj := by decide +kernel
  surj t h := by
    have h0 : t 0 < 16 := h 0
    have h1 : t 1 < 2 := h 1
    exact ⟨(⟨t 0 / 4, by omega⟩, ⟨t 0 / 2 % 2, by omega⟩, ⟨t 0 % 2, by omega⟩, ⟨t 1, h1⟩), fun a => by
      fin_cases a
      · show 4 * (t 0 / 4) + 2 * (t 0 / 2 % 2) + t 0 % 2 = t 0; omega
      · rfl⟩

/-- The four blocks of the partial products. -/
def partT : Tiling (Fin 2 × Fin 2) (![0, 0, 0] : Fin 3 → ℕ) S2x1024x1024.size S1x512x1024.size (fun i => ![i.1.val, 512 * i.2.val, 0]) where
  n := ![2, 2, 1]
  k i := ![i.1.val, i.2.val, 0]
  size_eq := by decide
  off_eq := by decide
  lt := by decide
  inj := by decide
  surj t h := ⟨(⟨t 0, h 0⟩, ⟨t 1, h 1⟩), fun a => by
    have h2 : t 2 < 1 := h 2
    fin_cases a
    · rfl
    · rfl
    · show 0 = t 2; omega⟩

/-- The two slots of the copy buffer. -/
def slotT : Tiling (Fin 2) (![0, 0, 0] : Fin 3 → ℕ) S2x512x1024.size S1x512x1024.size (fun k => ![k.val, 0, 0]) where
  n := ![2, 1, 1]
  k k := ![k.val, 0, 0]
  size_eq := by decide
  off_eq := by decide
  lt := by decide
  inj := by decide
  surj t h := ⟨⟨t 0, h 0⟩, fun a => by
    have h1 : t 1 < 1 := h 1
    have h2 : t 2 < 1 := h 2
    fin_cases a
    · rfl
    · show 0 = t 1; omega
    · show 0 = t 2; omega⟩

/-! ## Cutting -/

section Cut
variable (c : Dev nD)

theorem blk_E {ι : Type} [Fintype ι] {P : ι → sProp 𝕄} {R : ι → sProp 𝕄} (h : ∀ i, P i ⊢ R i) : bigSep Finset.univ P ⊢ bigSep Finset.univ R := sepMono fun i _ => h i

theorem cut_out (f : Buf (Elt F) ((c : Thread nD τ).loc cc0_stg1_0)) :
    ((c : Thread nD τ).loc cc0_stg1_0 ↦{fullShare} f) ⊢ (bigSep Finset.univ fun i : Fin 2 × Fin 2 × Fin 4 => oE c i.2.2 i.2.1 i.1 : sProp 𝕄) :=
  (whole_blk c cc0_stg1_0 z2 inb_ow f).trans ((outT.split (s := S4096x2048) (size := S4096x2048.size) (sz := S512x1024.size)
    (tinb := fun i => inb_o i.2.2 i.2.1 i.1) (inb := inb_ow) c oM (v := f)).trans (blk_E fun i => by
      unfold oE oB
      iintro H; iexists _; iexact H))

theorem cut_mx (f : Buf (Elt F) ((c : Thread nD τ).loc cc0_scratch2)) :
    ((c : Thread nD τ).loc cc0_scratch2 ↦{fullShare} f) ⊢ (bigSep Finset.univ fun q : Fin 4 => mE c q : sProp 𝕄) :=
  (whole_blk c cc0_scratch2 z3 inb_mw f).trans ((mxT.split (s := S4x8x128) (size := S4x8x128.size) (sz := S1x8x128.size)
    (tinb := inb_m) (inb := inb_mw) c mm (v := f)).trans (blk_E fun i => by
      unfold mE mB
      iintro H; iexists _; iexact H))

theorem cut_part (f : Buf (Elt F) ((c : Thread nD τ).loc cc0_scratch1)) :
    ((c : Thread nD τ).loc cc0_scratch1 ↦{fullShare} f) ⊢ (bigSep Finset.univ fun i : Fin 2 × Fin 2 => iprop(∃ v, pB c i.1 i.2 v) : sProp 𝕄) :=
  (whole_blk c cc0_scratch1 z3 inb_pw f).trans ((partT.split (s := S2x1024x1024) (size := S2x1024x1024.size) (sz := S1x512x1024.size)
    (tinb := fun i => inb_p i.1 i.2) (inb := inb_pw) c pm (v := f)).trans (blk_E fun i => by
      unfold pB
      iintro H; iexists _; iexact H))

abbrev xE (k : Fin 2) : sProp 𝕄 := iprop(∃ v, blk c xb ![k.val, 0, 0] S1x512x1024.size (inb_k k) v)
theorem cut_x (f : Buf (Elt F) ((c : Thread nD τ).loc cc0_scratch0)) :
    ((c : Thread nD τ).loc cc0_scratch0 ↦{fullShare} f) ⊢ (bigSep Finset.univ fun k : Fin 2 => xE c k : sProp 𝕄) :=
  (whole_blk c cc0_scratch0 z3 inb_xw f).trans ((slotT.split (s := S2x512x1024) (size := S2x512x1024.size) (sz := S1x512x1024.size)
    (tinb := inb_k) (inb := inb_xw) c xb (v := f)).trans (blk_E fun i => by
      iintro H; iexists _; iexact H))

theorem four (Φ : Fin 2 × Fin 2 → sProp 𝕄) : bigSep Finset.univ Φ = iprop(Φ (0, 0) ∗ Φ (0, 1) ∗ Φ (1, 0) ∗ Φ (1, 1)) :=
  bigSep_univ_eq_bigSepL [(0, 0), (0, 1), (1, 0), (1, 1)] (by decide) (by decide) Φ

/-- The output's blocks, each half's in the order in which its chunks come by. -/
theorem out_in_order : (bigSep Finset.univ fun i : Fin 2 × Fin 2 × Fin 4 => oE c i.2.2 i.2.1 i.1 : sProp 𝕄)
    ⊢ iprop(oE c (ck 0 0 c) 0 0 ∗ oE c (ck 0 0 c) 1 0 ∗ oE c (ck 1 0 c) 0 1 ∗ oE c (ck 1 0 c) 1 1
      ∗ (bigSep Finset.univ fun p : Fin 3 × Fin 2 => oE c (ck 0 (p.1 + 1) c) p.2 0) ∗ bigSep Finset.univ fun p : Fin 3 × Fin 2 => oE c (ck 1 (p.1 + 1) c) p.2 1) := by
  rw [BI.bigSep_univ_prod, two, BI.bigSep_univ_prod, BI.bigSep_univ_prod, two, two,
    by_ck 0 c, by_ck 0 c, by_ck 1 c, by_ck 1 c, six, six]
  iintro ⟨⟨⟨A0, A1, A2, A3⟩, ⟨B0, B1, B2, B3⟩⟩, ⟨⟨C0, C1, C2, C3⟩, ⟨D0, D1, D2, D3⟩⟩⟩
  isplitl [A0]; · iexact A0
  isplitl [B0]; · iexact B0
  isplitl [C0]; · iexact C0
  isplitl [D0]; · iexact D0
  isplitl [A1 A2 A3 B1 B2 B3]
  · isplitl [A1]; · iexact A1
    isplitl [B1]; · iexact B1
    isplitl [A2]; · iexact A2
    isplitl [B2]; · iexact B2
    isplitl [A3]; · iexact A3
    iexact B3
  · isplitl [C1]; · iexact C1
    isplitl [D1]; · iexact D1
    isplitl [C2]; · iexact C2
    isplitl [D2]; · iexact D2
    isplitl [C3]; · iexact C3
    iexact D3

/-- What the barrier hands the device before: the blocks of half 0 and the maxima's rows its hops write. -/
theorem bar_prv : (bigSep Finset.univ fun p : Fin 3 × Fin 2 => oE c (ck 0 (p.1 + 1) c) p.2 0 : sProp 𝕄)
    ⊢ iprop((bigSep Finset.univ fun g : Fin 3 => mE c (ck 0 (g + 1) c)) -∗ barPay (prv c) true) := by
  have e : (barPay (prv c) true : sProp 𝕄) = iprop((bigSep Finset.univ fun p : Fin 3 × Fin 2 => oE c (ck 0 (p.1 + 1) c) p.2 0)
      ∗ bigSep Finset.univ fun g : Fin 3 => mE c (ck 0 (g + 1) c)) := by
    unfold barPay
    rw [nxt_prv]
    exact congrArg₂ (fun A B => iprop(A ∗ B)) (BI.bigSep_congr fun p _ => by rw [ck_prv]) (BI.bigSep_congr fun p _ => by rw [ck_prv])
  rw [e]
  iintro H M
  isplitl [H] <;> iassumption
/-- What it hands the next device: the blocks of half 1 its hops write. -/
theorem bar_nxt : (bigSep Finset.univ fun p : Fin 3 × Fin 2 => oE c (ck 1 (p.1 + 1) c) p.2 1 : sProp 𝕄) ⊢ barPay (nxt c) false := by
  unfold barPay
  rw [prv_nxt]
  exact Entails.of_eq (BI.bigSep_congr fun p _ => by rw [ck_nxt])

theorem mx_in_order : (bigSep Finset.univ fun q : Fin 4 => mE c q : sProp 𝕄) ⊢ iprop(mE c (ck 0 0 c) ∗ bigSep Finset.univ fun g : Fin 3 => mE c (ck 0 (g + 1) c)) := by
  rw [by_ck 0 c, three]
  exact Entails.refl _

end Cut

/-! ## Joining -/

/-- What the output holds at the end, on every device. -/
def outV : Vec F S4096x2048 .f32 := fun i =>
  have h0 : (i 0).val < 4096 := (i 0).isLt
  have h1 : (i 1).val < 2048 := (i 1).isLt
  quart m (⟨(i 0).val / 1024, by omega⟩, ⟨(i 0).val / 512 % 2, by omega⟩, ⟨(i 0).val / 256 % 2, by omega⟩, ⟨(i 1).val / 1024, by omega⟩)
    (fun a => ⟨(i a).val % S256x1024.size a, Nat.mod_lt _ (by revert a; show ∀ a : Fin 2, _; decide)⟩)

theorem outV_at (i : Fin 4 × Fin 2 × Fin 2 × Fin 2) (j : S256x1024.Idx) :
    outV m (quartT.at (s := S4096x2048) (size := S4096x2048.size) (sz := S256x1024.size) (tinb := fun i => inb_q i.1 i.2.1 i.2.2.1 i.2.2.2) (inb := inb_ow) i j) = quart m i j := by
  obtain ⟨q, s, r, b⟩ := i
  have j0 : (j 0).val < 256 := (j 0).isLt
  have j1 : (j 1).val < 1024 := (j 1).isLt
  have hs := s.isLt
  have hr := r.isLt
  have hb := b.isLt
  have key : ∀ (x y : ℕ) (hx : x = (4 * q.val + 2 * s.val + r.val) * 256 + (j 0).val) (hy : y = b.val * 1024 + (j 1).val) (p : Fin 4 × Fin 2 × Fin 2 × Fin 2) (l : S256x1024.Idx),
      p.1.val = x / 1024 → p.2.1.val = x / 512 % 2 → p.2.2.1.val = x / 256 % 2 → p.2.2.2.val = y / 1024 → (l 0).val = x % 256 → (l 1).val = y % 1024 →
      quart m p l = quart m (q, s, r, b) j := by
    rintro x y hx hy ⟨p1, p2, p3, p4⟩ l e1 e2 e3 e4 e5 e6
    dsimp only at e1 e2 e3 e4
    have a1 : p1 = q := Fin.ext (by omega)
    have a2 : p2 = s := Fin.ext (by omega)
    have a3 : p3 = r := Fin.ext (by omega)
    have a4 : p4 = b := Fin.ext (by omega)
    have a5 : l = j := funext fun a => by
      fin_cases a
      · exact Fin.ext (by show (l 0).val = (j 0).val; omega)
      · exact Fin.ext (by show (l 1).val = (j 1).val; omega)
    rw [a1, a2, a3, a4, a5]
  exact key _ _ rfl rfl _ _ rfl rfl rfl rfl rfl rfl

section Join
variable (c : Dev nD)

theorem join_out : (bigSep Finset.univ (fun i : Fin 4 × Fin 2 × Fin 2 × Fin 2 => qB c i.1 i.2.1 i.2.2.1 i.2.2.2 (quart m i)) : sProp 𝕄)
    ⊢ iprop(∃ f : Buf (Elt F) ((c : Thread nD τ).loc cc0_stg1_0), ⌜f = outV m⌝ ∗ ((c : Thread nD τ).loc cc0_stg1_0 ↦{fullShare} f)) := by
  have h := quartT.join (F := F) (s := S4096x2048) (size := S4096x2048.size) (sz := S256x1024.size) (tinb := fun i => inb_q i.1 i.2.1 i.2.2.1 i.2.2.2) c oM (inb := inb_ow) (w := quart m)
  unfold qB
  iintro H
  ihave H := h $$ H
  icases H with ⟨%v, %hv, H⟩
  have e : v = outV m := by
    funext x
    obtain ⟨i, j, rfl⟩ := quartT.cover (s := S4096x2048) (size := S4096x2048.size) (sz := S256x1024.size) (tinb := fun i : Fin 4 × Fin 2 × Fin 2 × Fin 2 => inb_q i.1 i.2.1 i.2.2.1 i.2.2.2) (inb := inb_ow) x
    exact (hv i j).trans (outV_at m i j).symm
  ihave H := (blk_whole c cc0_stg1_0 z2 inb_ow v) $$ H
  icases H with ⟨%f, %hf, H⟩
  iexists f
  isplitr; · ipureintro; exact hf.trans e
  iexact H

theorem join_E {b : Ref sig .tc} {off : Fin b.ty.shape.rank → ℕ} (h : off = fun _ => 0) (inb : ∀ a, off a + b.ty.shape.size a ≤ b.ty.shape.size a)
    (v : (Rect.unit off b.ty.shape.size inb).shape.Idx → Elt F b.ty.elt) :
    (blk c (Memref.whole b) off b.ty.shape.size inb v : sProp 𝕄) ⊢ iprop(∃ f : Buf (Elt F) ((c : Thread nD τ).loc b), ((c : Thread nD τ).loc b ↦{fullShare} f)) := by
  iintro H
  ihave H := (blk_whole c b h inb v) $$ H
  icases H with ⟨%f, %hf, H⟩
  iexists f
  iexact H

include m in
theorem join_part : (bigSep Finset.univ fun i : Fin 2 × Fin 2 => iprop(∃ v, pB c i.1 i.2 v) : sProp 𝕄)
    ⊢ iprop(∃ f : Buf (Elt F) ((c : Thread nD τ).loc cc0_scratch1), ((c : Thread nD τ).loc cc0_scratch1 ↦{fullShare} f)) := by
  haveI : Nonempty (Vec F S1x512x1024 .f32) := ⟨x3 m c 0 0⟩
  refine (Idealize.SL.BI.bigSep_exists_pi Finset.univ (fun (i : Fin 2 × Fin 2) (v : Vec F S1x512x1024 .f32) => (pB c i.1 i.2 v : sProp 𝕄))).trans ?_
  unfold pB
  iintro ⟨%w, H⟩
  have h := partT.join (F := F) (s := S2x1024x1024) (size := S2x1024x1024.size) (sz := S1x512x1024.size) (tinb := fun i => inb_p i.1 i.2) c pm (inb := inb_pw) (w := w)
  ihave H := h $$ H
  icases H with ⟨%v, -, H⟩
  iapply (join_E c (b := cc0_scratch1) z3 inb_pw v) $$ H

include m in
theorem join_x : (bigSep Finset.univ fun k : Fin 2 => xE c k : sProp 𝕄)
    ⊢ iprop(∃ f : Buf (Elt F) ((c : Thread nD τ).loc cc0_scratch0), ((c : Thread nD τ).loc cc0_scratch0 ↦{fullShare} f)) := by
  haveI : Nonempty (Vec F S1x512x1024 .f32) := ⟨x3 m c 0 0⟩
  refine (Idealize.SL.BI.bigSep_exists_pi Finset.univ (fun (k : Fin 2) (v : Vec F S1x512x1024 .f32) => (blk c xb ![k.val, 0, 0] S1x512x1024.size (inb_k k) v : sProp 𝕄))).trans ?_
  iintro ⟨%w, H⟩
  have h := slotT.join (F := F) (s := S2x512x1024) (size := S2x512x1024.size) (sz := S1x512x1024.size) (tinb := inb_k) c xb (inb := inb_xw) (w := w)
  ihave H := h $$ H
  icases H with ⟨%v, -, H⟩
  iapply (join_E c (b := cc0_scratch0) z3 inb_xw v) $$ H

end Join

end Cert.KernelProof
-- ==== Proof.Run.lean ====
/-
  Run: the body between the staged buffers, and the launch of the four devices.
-/
module

public import proofs.«01_k».proof.Proof.Deal
public import proofs.«01_k».proof.Proof.Whole
public import proofs.«01_k».proof.Proof.Gen.KernelIdeal.Points
public import Idealize.ShloMosaic.Lib.Pipeline.CollectiveSegs

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## What the body takes and leaves -/

abbrev xPts (c : Dev nD) : sProp 𝕄 := (((c : Thread nD τ).loc main_arg0) ↦{fullShare} m ((c : Thread nD τ).loc main_arg0))

/-- What the launch hands device `c`. -/
def start (c : Dev nD) : sProp 𝕄 :=
  iprop(G' m c ∗ xsems c ∗ cred (tallyAt (barCell c) () 2) ∗ (bigSep Finset.univ fun t : T => cred (tallyAt (recvCell c t) () (NN t)))
    ∗ levAts L lv ∗ xPts m c)
/-- Its scratch buffers, whatever they hold. -/
def scrs (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))
def Φ₀ (c : Dev nD) : sProp 𝕄 := iprop(start m c ∗ scrs c)
/-- After the body: `x` as it was, every semaphore at zero. -/
def Φ₁ (c : Dev nD) : sProp 𝕄 :=
  iprop(xPts m c ∗ semVal (barCell c) 0 ∗ (xsems c ∗ bigSep Finset.univ fun p : Bool × T => semVal (kcell (c, .inr p)) 0) ∗ scrs c)

def dats (_ : Fin 1) (c : Dev nD) : Dat τ (Elt F) Unit ℕ UU ℕ cfg0 c where
  A w := m ((cfg0.win w).arr.view.loc (c : Thread nD τ))
  after w _ := match w with
    | ⟨0, _⟩ => wst m c
    | ⟨1, _⟩ => outV m
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem fetch_0 (t : Fin cfg0.N) : (cfg0.win (0 : Fin 2)).fetch t = true := by rw [fin_N0 t]; rfl

section Body
variable (c : Dev nD)

/-- What the launch hands a device is what its body starts from. -/
theorem bar_start : barGhost m c ⊢ iprop(cred (tallyAt (barCell c) () 2) -∗ levAts L lv -∗ (∃ W, owes (c : Thread nD τ) (O₀ c) W) -∗ Bk m c 0) := by
  unfold barGhost Bk
  iintro ⟨%κ, %κ₁, %κ₂, #I, #I₁, #I₂, Ha, Hr, Ht, Hr', Ht'⟩ Hc Hl Ho
  iexists κ
  iexists κ₁
  iexists κ₂
  isplitl [Hl]; · iexact Hl
  isplitr; · iexact I
  isplitr; · iexact I₁
  isplitr; · iexact I₂
  isplitl [Ha]; · iexact Ha
  isplitl [Hc]; · iexact Hc
  isplitl [Hr Ht]
  · rw [if_pos rfl]
    isplitl [Hr] <;> iassumption
  isplitl [Hr' Ht']
  · rw [if_pos (Nat.zero_le 1)]
    isplitl [Hr'] <;> iassumption
  rw [if_pos rfl]
  iexact Ho

theorem xfer_one (t : T) : iprop(xferGhost m c t ∗ cred (tallyAt (recvCell c t) () (NN t))) ⊢ Tk m c t := by
  unfold xferGhost Tk
  iintro ⟨⟨%κ₁, %κ₂, %κ₃, H1, H2, H3, H4, H5, H6, H7, H8, H9⟩, C⟩
  iexists κ₁
  iexists κ₂
  iexists κ₃
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9] <;> iassumption

theorem xfer_start : (bigSep Finset.univ fun t : T => xferGhost m c t) ⊢ iprop((bigSep Finset.univ fun t : T => cred (tallyAt (recvCell c t) () (NN t))) -∗ bigSep Finset.univ (Tk m c)) := by
  iintro H C
  iapply ((Entails.of_eq (bySep (Φ := fun t : T => xferGhost m c t) (Ψ := fun t : T => cred (tallyAt (recvCell c t) () (NN t)))).symm).trans
    (sepMono fun t _ => xfer_one m c t))
  isplitl [H] <;> iassumption

/-- Every semaphore of the transfers is at zero. -/
theorem all_zero : bigSep Finset.univ (Dn (F := F) c) ⊢ (bigSep Finset.univ fun p : Bool × T => semVal (kcell (c, .inr p)) 0 : sProp 𝕄) := by
  rw [by_bool, ← bySep]
  exact sepMono fun t _ => Entails.refl _

/-- The copies of `x` at rest give it back whole. -/
theorem x_back (v₀ v₁ : Vec F S1x512x1024 .f32) : XR m c 0 v₀ ⊢ iprop(XR m c 1 v₁ -∗ xPts m c ∗ xsems c
    ∗ (∃ f : Buf (Elt F) ((c : Thread nD τ).loc cc0_scratch0), ((c : Thread nD τ).loc cc0_scratch0) ↦{fullShare} f)) := by
  unfold XR xRes xsems
  iintro ⟨X₀, S₀, B₀⟩ ⟨X₁, S₁, B₁⟩
  isplitl [X₀ X₁]
  · iapply (pointsTo_share (PosShare.mem_left_op_right fullShare)).2
    isplitl [X₀]
    · iexact X₀
    · iexact X₁
  isplitl [S₀ S₁]
  · isplitl [S₀] <;> iassumption
  iapply (join_x m c)
  iapply (Entails.of_eq (two (fun k => xE c k)).symm)
  isplitl [B₀]
  · iexists v₀; iexact B₀
  · iexists v₁; iexact B₁

/-- What the device has when the body ends is what it hands on. -/
theorem at_end : after m c ⊢ iprop(Φ₁ m c ∗ (∃ W, owes (c : Thread nD τ) 0 W) ∗ wP m c) := by
  unfold after Φ₁ scrs ow
  iintro ⟨⟨%v₀, X₀⟩, ⟨%v₁, X₁⟩, W, P0, P1, P2, P3, M, B, D, -, O⟩
  ihave X := (x_back m c v₀ v₁) $$ X₀ X₁
  icases X with ⟨X, S, B₀⟩
  isplitr [O W]
  · isplitl [X]; · iexact X
    isplitl [B]; · iexact B
    isplitl [S D]
    · isplitl [S]; · iexact S
      iapply (all_zero (F := F) c) $$ D
    isplitl [B₀]; · iexact B₀
    isplitl [P0 P1 P2 P3]
    · iapply (join_part m c)
      iapply (Entails.of_eq (four (fun i => iprop(∃ v, pB c i.1 i.2 v))).symm)
      isplitl [P0]; · iexact P0
      isplitl [P1]; · iexact P1
      isplitl [P2] <;> iassumption
    iapply (join_E c (b := cc0_scratch2) z3 inb_mw (mxs m)) $$ M
  isplitl [O]; · iexact O
  iexact W

set_option maxHeartbeats 1000000 in
/-- The body from what the launch hands a device to what it hands on. -/
theorem whole_body {Q : PUnit → sProp 𝕄} (f : Buf (Elt F) ((c : Thread nD τ).loc cc0_stg1_0)) :
    Φ₀ m c ⊢ iprop((∃ W, owes (c : Thread nD τ) (O₀ c) W) -∗ wP m c -∗ ((c : Thread nD τ).loc cc0_stg1_0 ↦{fullShare} f)
      -∗ (Φ₁ m c -∗ (∃ W, owes (c : Thread nD τ) 0 W) -∗ wP m c -∗ stg c cc0_stg1_0 (outV m) -∗ Q ⟨⟩) -∗ wpc c (at0 cc0_body) Q) := by
  unfold Φ₀ start scrs G' xsems
  iintro ⟨⟨⟨Gb, Gx⟩, ⟨S₀, S₁⟩, Cb, Cx, Lv, X⟩, ⟨%fx, B0⟩, ⟨%fp, B1⟩, ⟨%fm, B2⟩⟩ O W Out Hk
  ihave Bar := (bar_start m c) $$ Gb Cb Lv O
  ihave Tks := (xfer_start m c) $$ Gx Cx
  ihave X := (pointsTo_share (PosShare.mem_left_op_right fullShare)).1 $$ X
  icases X with ⟨X₀, X₁⟩
  ihave B0 := ((cut_x c fx).trans (Entails.of_eq (two _))) $$ B0
  icases B0 with ⟨⟨%v₀, K₀⟩, ⟨%v₁, K₁⟩⟩
  ihave B1 := ((cut_part c fp).trans (Entails.of_eq (four _))) $$ B1
  icases B1 with ⟨⟨%p₀, P₀⟩, ⟨%p₁, P₁⟩, ⟨%p₂, P₂⟩, ⟨%p₃, P₃⟩⟩
  ihave B2 := ((cut_mx c fm).trans (mx_in_order c)) $$ B2
  icases B2 with ⟨M, Ms⟩
  ihave Out := ((cut_out c f).trans (out_in_order c)) $$ Out
  icases Out with ⟨E₀, E₂, E₁, E₃, Ep, En⟩
  ihave Bp := (bar_prv c) $$ Ep Ms
  ihave Bn := (bar_nxt c) $$ En
  ihave M := (show mE c (ck 0 0 c) ⊢ iprop(∃ v, mB c (ck 0 0 c) v) from Entails.refl _) $$ M
  icases M with ⟨%mv, M⟩
  ihave X₀ := (show iprop((((c : Thread nD τ).loc main_arg0) ↦{fullShare.left} m ((c : Thread nD τ).loc main_arg0)) ∗ semVal ((c : Thread nD τ), .dma (xsem 0)) 0
      ∗ blk c xb ![(0 : Fin 2).val, 0, 0] S1x512x1024.size (inb_k 0) v₀) ⊢ XR m c 0 v₀ from Entails.refl _) $$ [X₀ S₀ K₀]
  · isplitl [X₀]; · iexact X₀
    isplitl [S₀] <;> iassumption
  ihave X₁ := (show iprop((((c : Thread nD τ).loc main_arg0) ↦{fullShare.right} m ((c : Thread nD τ).loc main_arg0)) ∗ semVal ((c : Thread nD τ), .dma (xsem 1)) 0
      ∗ blk c xb ![(1 : Fin 2).val, 0, 0] S1x512x1024.size (inb_k 1) v₁) ⊢ XR m c 1 v₁ from Entails.refl _) $$ [X₁ S₁ K₁]
  · isplitl [X₁]; · iexact X₁
    isplitl [S₁] <;> iassumption
  iapply (run_body m c) $$ X₀ X₁ Bar Bp Bn W E₀ E₁ E₂ E₃ P₀ P₁ P₂ P₃ M Tks
  iintro A Qs
  ihave A := (at_end m c) $$ A
  icases A with ⟨H, O, W⟩
  ihave Out := (join_out m c) $$ Qs
  iapply Hk $$ H O W Out

set_option maxRecDepth 4000 in
def bodyPre : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))
def bodyPost : sProp 𝕄 :=
  iprop(Φ₁ m c ∗ (dats m 0 c).owesAt () t0_0.succ ∗ stg c cc0_stg0_0 (wst m c) ∗ stg c cc0_stg1_0 (outV m))

theorem sound_body : bodyPre m c ⊢ wpc c (at0 cc0_body) (fun _ => bodyPost m c) := by
  unfold bodyPre
  iintro ⟨H, Ho, ⟨%d0, %g0, %hg0, Hx⟩, ⟨%d1, %g1, %hg1, Hout⟩⟩
  have hx : g0 = wst m c := by rw [hg0]; unfold Dat.before; rw [if_pos (fetch_0 t0_0)]; rfl
  subst hx
  unfold Dat.owesAt Pipeline.owesWithin
  icases Ho with ⟨%W, %hW, HO⟩
  rw [show (dats m 0 c).owed t0_0.castSucc = O₀ c from rfl]
  iapply (whole_body m c g1) $$ H [HO] [Hx] Hout
  · iexists W; iexact HO
  · unfold wP; iexact Hx
  iintro H ⟨%W', HO⟩ Hx Hout
  unfold bodyPost Dat.owesAt Pipeline.owesWithin
  rw [show (dats m 0 c).owed t0_0.succ = 0 from rfl]
  isplitl [H]; · iexact H
  isplitl [HO]
  · iexists W'
    isplitr; · ipureintro; exact fun _ _ => Or.inl trivial
    iexact HO
  isplitl [Hx]
  · iexists wst m c
    isplitr; · ipureintro; rfl
    unfold wP
    iexact Hx
  iexact Hout

set_option maxRecDepth 16384 in
theorem body_obligation : BodyObligation (dats (F := F) m 0 c) (defs₀ (F := F)) 𝒱₀ () Set.univ := fun t => by
  rw [fin_N0 t]
  rw [bigSep_W, bigSep_W]
  simp only [owns_whole_eq]
  exact (show bodyPre m c ⊢ wpc c (at0 cc0_body) (fun _ => bodyPost m c) from sound_body m c)

end Body

/-! ## The launch -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ (G' m c ∗ xsems c))
      ⊢ |={Set.univ}=> iprop(start m c ∗ emp) := by
  rw [Pipeline.unscopedRestP_none, unscopedRest0_eq]
  iintro ⟨Hx, Hlev, Hcr, -, HG, Hs⟩
  ihave Hc := (creds (F := F) c) $$ Hcr
  icases Hc with ⟨H1, HN⟩
  imodintro
  unfold start
  isplitl
  · isplitl [HG]; · iexact HG
    isplitl [Hs]; · iexact Hs
    isplitl [H1]; · iexact H1
    isplitl [HN]; · iexact HN
    isplitl [Hlev]; · iexact Hlev
    iexact Hx
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scrs
  iintro ⟨Hs, -, Hr⟩
  isplitl [Hs]; · iexact Hs
  iexact Hr

theorem phi1_exit (c : Dev nD) :
    (dats m 0 c).Φ (Fin.last cfg0.N) ⊢ iprop((xPts m c ∗ unscopedSems0 c) ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁ scrs xsems
  iintro ⟨X, B, S, R⟩
  isplitl [X B]
  · isplitl [X] <;> iassumption
  isplitl [S]; · iexact S
  iexact R

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_start c _ (by fin_cases w <;> fin_cases s <;> decide)
    · show (levAts L lv : sProp 𝕄) ⊢ MayWait (c : Thread nD τ) _ () 0
      rw [MayWait_zero]; iintro -; iempintro

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg0) = m ((c : Thread nD τ).loc main_arg0)

set_option maxRecDepth 32768 in
/-- Every fair run of the four devices from any memory with zero counters ends, with the windows' arrays at the computed
    contents, `x` as it was and every counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := fun c => iprop(G' m c ∗ xsems c)) (u₀ := u₀)
    (hu₀ := by
      unfold u₀
      iintro Hu
      ihave H := (ownU_pair _ _) $$ Hu
      icases H with ⟨HP, HX⟩
      ihave HX := (own_pair_emb _ _ _) $$ HX
      icases HX with ⟨HX, -⟩
      ihave HX := (show BI.own (((Emb.inl : Emb UB (UB × Counters)).trans (embR (A := UR sig nD τ) (B := UB × Counters))) (initOf allCells allToks)) ⊢ (BI.own (ER (initOf allCells allToks)) : sProp 𝕄) from Entails.refl _) $$ HX
      imod (fund_cells m) $$ HX with HG
      imodintro
      isplitl [HP] <;> iassumption)
    (hglob := glob m)
    (hA := fun _ _ => rfl) (hpf := fun _ k => k.elim0)
    (X := start m) (Y := fun c => iprop(xPts m c ∗ unscopedSems0 c)) (Z := fun _ => iprop(emp))
    (hX := start_intro m ρ) (hin := phi0_intro m) (hout := phi1_exit m)
    (QY := fun c s => s.mem ((c : Thread nD τ).loc main_arg0) = m ((c : Thread nD τ).loc main_arg0) ∧ ∀ sm : SemLoc sig, sm.isScoped .tc = false → s.sem ((c.tc : Thread nD τ), sm) = 0)
    (hY := fun c s' => by
      iintro ⟨⟨H0, Hu⟩, -, HSI⟩
      icombine HSI H0 gives %h0
      ihave H := (Pipeline.unscopedSems0_read (X := unscopedSems0 c) (c := c) fupd_intro s') $$ [Hu HSI]
      · isplitl [Hu] <;> iassumption
      imod H with ⟨%h1, HSI⟩
      imodintro
      isplitr; · ipureintro; exact ⟨Buf.eq_of_forall_mem_univ h0, h1⟩
      iexact HSI)
    (hQ := fun _ h hs => ⟨fun c => ⟨(h c).1, (h c).2.2.1⟩, sem_eq_zero hs fun c => (h c).2.2.2⟩)

/-- The weights' array holds what it held. -/
theorem finalA_w (c : Dev nD) : finalA m c (0 : Fin 2) = m ((c : Thread nD τ).loc main_arg1) :=
  (dats (F := F) m 0 c).arrAt_in (0 : Fin 2) rfl _

end Cert.KernelProof
-- ==== Proof.Frames.lean ====
/-
  Frames: the four devices' run, read as the claims that a program ends with its arguments unchanged and every counter zero.
-/
module

public import proofs.«01_k».proof.Defs
public import proofs.«01_k».proof.Proof.Gen.Kernel
public import proofs.«01_k».proof.Proof.Gen.ReferenceIdeal.Value
public import proofs.«01_k».proof.Proof.Run

@[expose] public section

noncomputable section

namespace Cert.KernelProof

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ)

/-- What the run leaves in the weights' array is what was there. -/
theorem kept_w {r : PUnit × MemSt nD τ sig (Elt F)} (h : QC m r) (c : Dev nD) :
    r.2.mem ((c : Thread nD τ).loc main_arg1) = m ((c : Thread nD τ).loc main_arg1) :=
  ((h c).1 (0 : Fin 2)).trans (finalA_w m c)

instance : Cert.Kernel.Facts := Cert.Kernel.Gen.facts

/-- The run as a claim, over any values. -/
theorem frame_any (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run Cert.KernelIdeal.defs _ _).mono (fun _ h => ⟨fun c => ⟨(h.1 c).2, kept_w m h.1 c⟩, h.2⟩) (run_main m ρ)

/-- Both printings of the kernel have the same body. -/
theorem same_body : Cert.Kernel.cc0_body (F := F) = cc0_body (F := F) := rfl

/-- So they have the same table of kernels, -/
theorem same_kernels : Cert.Kernel.defs₀ (F := F) = defs₀ (F := F) := by
  unfold Cert.Kernel.defs₀ Cert.KernelIdeal.defs₀
  refine congrArg Defs.onTc ?_
  funext l
  match l with
  | 0 =>
    funext a
    obtain ⟨t, s⟩ := a
    rfl

/-- and of everything a run calls. -/
theorem same_defs : Cert.Kernel.defs (F := F) = defs (F := F) := by
  unfold Cert.Kernel.defs Cert.KernelIdeal.defs
  exact congrArg _ same_kernels

/-- The kernel on words. -/
theorem frame_kernel : Cert.quiescent_Kernel := fun m ρ _ =>
  (congrArg (fun d => θ_run d (onTc (τ := τ) (main (F := Bits))) ⟨m, fun _ => 0, ρ⟩ _) (same_defs (F := Bits))).mpr
    (frame_any (F := Bits) m ρ)

/-- The kernel on extended reals. -/
theorem frame_kernelIdeal : Cert.quiescent_KernelIdeal := fun m ρ _ => frame_any (F := Ideal) m ρ

/-- The reference on extended reals. -/
theorem frame_reference : Cert.quiescent_ReferenceIdeal := fun m ρ _ => Cert.ReferenceIdeal.Gen.frame m ρ

end Cert.KernelProof
-- ==== Proof.Products.lean ====
/-
  Products: what the partial products and their sums round the rings are over the extended reals.
-/
module

public import proofs.«01_k».proof.Proof.Whole
public import Idealize.ShloMosaic.Lib.Pointwise

@[expose] public section

set_option maxRecDepth 16384

noncomputable section

namespace Cert.KernelProof

open Cert.KernelIdeal Cert.KernelIdeal.Gen
open Idealize.ShloMosaic
open Idealize.ShloMosaic.TcCoe

variable (m : (ℓ : Loc nD τ sig) → Buf (Elt Ideal) ℓ)

/-- A product of a whole slice of the weights, at an element. -/
theorem own_pay_at (x : Vec Ideal S1x512x1024 .f32) (w : Vec Ideal S1024x2048 .f32) (i : Fin 512) (k : Fin 2048) :
    k0_pay2 (F := Ideal) x w (ix2 i k) = ∑ l : Fin 1024, x (ix3 0 i l) * w (ix2 l k) := by
  pointwise [k0_pay2]

/-- A product of a column half of the weights, at an element. -/
theorem part_pay_at (x : Vec Ideal S1x512x1024 .f32) (w : Vec Ideal S1024x1024 .f32) (i : Fin 512) (k : Fin 1024) :
    k0_pay4 (F := Ideal) x w (ix3 0 i k) = ∑ l : Fin 1024, x (ix3 0 i l) * w (ix2 l k) := by
  pointwise [k0_pay4]

/-- One more term of a sum, at an element. -/
theorem add_pay_at (a : Vec Ideal S512x1024 .f32) (p : Vec Ideal S1x512x1024 .f32) (i : Fin 512) (k : Fin 1024) :
    k0_pay6 (F := Ideal) a p (ix2 i k) = a (ix2 i k) + p (ix3 0 i k) := by
  pointwise [k0_pay6]

/-- Element `(r, l)` of device `c`'s slice of `x`. -/
def xAt (c : Dev nD) (r : Fin 4096) (l : Fin 1024) : EReal := m ((c : Thread nD τ).loc main_arg0) (ix2 r l)

/-- Element `(l, k)` of device `c`'s slice of `w`. -/
def wAt (c : Dev nD) (l : Fin 1024) (k : Fin 2048) : EReal := m ((c : Thread nD τ).loc main_arg1) (ix2 l k)

/-- Row `i` of sub-block `(q, s)`, in the whole array. -/
def row (q : Fin 4) (s : Fin 2) (i : Fin 512) : Fin 4096 := ⟨1024 * q.val + 512 * s.val + i.val, by omega⟩

/-- Column `k` of half `b`, in the whole array. -/
def col (b : Fin 2) (k : Fin 1024) : Fin 2048 := ⟨1024 * b.val + k.val, by omega⟩

theorem x3_at (c : Dev nD) (q : Fin 4) (s : Fin 2) (i : Fin 512) (l : Fin 1024) : x3 m c q s (ix3 0 i l) = xAt m c (row q s i) l := by
  unfold x3
  have h : Shape.reshapeEquiv numel_slot (ix3 (0 : Fin 1) i l) = (ix2 i l : S512x1024.Idx) := by
    pointwise
  rw [h]
  refine congrArg (m ((c : Thread nD τ).loc main_arg0)) ?_
  funext a
  apply Fin.ext
  match a with
  | 0 => show 1024 * q.val + 512 * s.val + 1 * i.val = 1024 * q.val + 512 * s.val + i.val; omega
  | 1 => show 0 + 1 * l.val = l.val; omega

theorem wst_at (c : Dev nD) (l : Fin 1024) (k : Fin 2048) : wst m c (ix2 l k) = wAt m c l k := by
  refine congrArg (m ((c : Thread nD τ).loc main_arg1)) ?_
  funext a
  apply Fin.ext
  match a with
  | 0 => show 0 * 1024 + 1 * l.val = l.val; omega
  | 1 => show 0 * 2048 + 1 * k.val = k.val; omega

theorem wh_at (c : Dev nD) (b : Fin 2) (l : Fin 1024) (k : Fin 1024) : wh m c b (ix2 l k) = wAt m c l (col b k) := by
  rw [← wst_at]
  refine congrArg (wst m c) ?_
  funext a
  apply Fin.ext
  match a with
  | 0 => show 0 + 1 * l.val = l.val; omega
  | 1 => show 1024 * b.val + 1 * k.val = 1024 * b.val + k.val; omega

theorem colHalf_at (b : Fin 2) (v : Vec Ideal S512x2048 .f32) (i : Fin 512) (k : Fin 1024) : colHalf b v (ix2 i k) = v (ix2 i (col b k)) := by
  refine congrArg v ?_
  funext a
  apply Fin.ext
  match a with
  | 0 => show 0 + 1 * i.val = i.val; omega
  | 1 => show 1024 * b.val + 1 * k.val = 1024 * b.val + k.val; omega

/-! ## The sums round the rings -/

/-- Device `c`'s term of element `(r, k)` of the product. -/
def term (r : Fin 4096) (k : Fin 2048) (c : Dev nD) : EReal := ∑ l : Fin 1024, xAt m c r l * wAt m c l k

/-- Element `(r, k)` of the product. -/
def prod (r : Fin 4096) (k : Fin 2048) : EReal := ∑ c : Dev nD, term m r k c

theorem acc_zero_at (b : Fin 2) (q : Fin 4) (s : Fin 2) (i : Fin 512) (k : Fin 1024) :
    acc m b q s 0 (ix2 i k) = term m (row q s i) (col b k) q := by
  show colHalf b (own m q s) (ix2 i k) = _
  rw [colHalf_at]
  refine (own_pay_at _ _ _ _).trans (Finset.sum_congr rfl fun l _ => ?_)
  rw [x3_at, wst_at]

theorem part_at (c : Dev nD) (q : Fin 4) (s b : Fin 2) (i : Fin 512) (k : Fin 1024) :
    part m c q s b (ix3 0 i k) = term m (row q s i) (col b k) c := by
  refine (part_pay_at _ _ _ _).trans (Finset.sum_congr rfl fun l _ => ?_)
  rw [x3_at, wh_at]

theorem acc_succ_at (b : Fin 2) (q : Fin 4) (s : Fin 2) (j : ℕ) (i : Fin 512) (k : Fin 1024) :
    acc m b q s (j + 1) (ix2 i k) = acc m b q s j (ix2 i k) + term m (row q s i) (col b k) (dv b (j + 1) q) := by
  rw [← part_at]
  exact add_pay_at _ _ _ _

/-- Each way round visits every device once. -/
theorem round_sum (f : Dev nD → EReal) (b : Fin 2) (q : Fin 4) : f q + f (dv b 1 q) + f (dv b 2 q) + f (dv b 3 q) = ∑ c : Dev nD, f c := by
  have h : ∑ c : Dev nD, f c = f 0 + f 1 + f 2 + f 3 := Fin.sum_univ_four f
  rw [h]
  fin_cases b <;> fin_cases q
  · show f 0 + f 1 + f 2 + f 3 = _; rfl
  · show f 1 + f 2 + f 3 + f 0 = _; ac_rfl
  · show f 2 + f 3 + f 0 + f 1 = _; ac_rfl
  · show f 3 + f 0 + f 1 + f 2 = _; ac_rfl
  · show f 0 + f 3 + f 2 + f 1 = _; ac_rfl
  · show f 1 + f 0 + f 3 + f 2 = _; ac_rfl
  · show f 2 + f 1 + f 0 + f 3 = _; ac_rfl
  · show f 3 + f 2 + f 1 + f 0 = _; ac_rfl

/-- A finished sub-block holds its elements of the product. -/
theorem acc_at (b : Fin 2) (q : Fin 4) (s : Fin 2) (i : Fin 512) (k : Fin 1024) :
    acc m b q s 3 (ix2 i k) = prod m (row q s i) (col b k) := by
  rw [acc_succ_at, acc_succ_at, acc_succ_at, acc_zero_at]
  exact round_sum (term m (row q s i) (col b k)) b q

end Cert.KernelProof

end
-- ==== Proof.Quant.lean ====
/-
  Quant: an element quantised with a scale over the extended reals, and which scales do alike.
-/
module

public import Idealize.ShloMosaic.PureOps.Ideal.Laws
public import Mathlib.Tactic.FieldSimp
public import Mathlib.Tactic.Positivity
public import Mathlib.Tactic.Linarith

@[expose] public section

noncomputable section

namespace Cert.Quant

open Idealize.ShloMosaic

/-! ## The literals -/

/-- The word of −∞. -/
theorem lit_bot : Ideal.ofBits .f32 0xFF800000#32 = ⊥ := by simp [Ideal.ofBits, Ideal.ieee]

/-- The format's largest number. -/
theorem lit_top : Ideal.ofBits .f32 0x43E00000#32 = ((448 : ℝ) : EReal) := by
  have h : Ideal.ofBits .f32 0x43E00000#32 = (((1 * (2 ^ 23 + (6291456 : ℕ) : ℕ) * (2 : ℝ) ^ (-15 : ℤ) : ℝ)) : EReal) := by
    simp [Ideal.ofBits, Ideal.ieee]
  rw [h]
  congr 1
  norm_num

/-- The least maximum that the kernel divides by is some positive real. -/
theorem lit_eps : ∃ e : ℝ, 0 < e ∧ Ideal.ofBits .f32 0x0DA24260#32 = (e : EReal) := by
  refine ⟨1 * (2 ^ 23 + (2245216 : ℕ) : ℕ) * (2 : ℝ) ^ (-123 : ℤ), by positivity, ?_⟩
  simp [Ideal.ofBits, Ideal.ieee]

/-- An element, quantised with a scale. -/
def quant (s y : EReal) : EReal := min (Ideal.div (max y 0) s) ((448 : ℝ) : EReal) * s

/-! ## The two scales -/

/-- A scale that is a positive real takes an element up to 448 times itself back to the element. -/
theorem quant_back (s y : ℝ) (hs : 0 < s) (h0 : 0 ≤ y) (h : y ≤ 448 * s) : quant (s : EReal) (y : EReal) = (y : EReal) := by
  unfold quant
  rw [max_eq_left (by exact_mod_cast h0), Ideal.div_coe hs.ne', ← EReal.coe_mul, min_eq_left, ← EReal.coe_mul]
  · congr 1; field_simp
  · rw [EReal.coe_le_coe_iff]
    rw [mul_one_div, div_le_iff₀ hs]; exact h

/-- The peak itself does as well for the scale as the larger of it and any positive real. -/
theorem quant_scale (p y : EReal) (e : ℝ) (he : 0 < e) (hp : 0 ≤ p) (hy : y ≤ p) :
    quant (Ideal.div (max p (e : EReal)) ((448 : ℝ) : EReal)) y = quant (Ideal.div p ((448 : ℝ) : EReal)) y := by
  rcases le_total (e : EReal) p with h | h
  · rw [max_eq_left h]
  · rw [max_eq_right h]
    have hq : quant (Ideal.div p ((448 : ℝ) : EReal)) y = quant (Ideal.div p ((448 : ℝ) : EReal)) (max y 0) := by
      unfold quant; rw [max_eq_left (le_max_right y 0)]
    have hq' : quant (Ideal.div (e : EReal) ((448 : ℝ) : EReal)) y = quant (Ideal.div (e : EReal) ((448 : ℝ) : EReal)) (max y 0) := by
      unfold quant; rw [max_eq_left (le_max_right y 0)]
    rw [hq, hq']
    have h0 : 0 ≤ max y 0 := le_max_right y 0
    have h1 : max y 0 ≤ p := max_le hy hp
    generalize max y 0 = z at h0 h1
    lift p to ℝ using ⟨(lt_of_le_of_lt h (EReal.coe_lt_top e)).ne, (lt_of_lt_of_le EReal.bot_lt_zero hp).ne'⟩
    lift z to ℝ using ⟨(lt_of_le_of_lt h1 (EReal.coe_lt_top p)).ne, (lt_of_lt_of_le EReal.bot_lt_zero h0).ne'⟩
    have h' : p ≤ e := by exact_mod_cast h
    have hp' : 0 ≤ p := by exact_mod_cast hp
    have h0' : 0 ≤ z := by exact_mod_cast h0
    have h1' : z ≤ p := by exact_mod_cast h1
    rw [Ideal.div_coe (by norm_num), Ideal.div_coe (by norm_num), ← EReal.coe_mul, ← EReal.coe_mul]
    rw [quant_back (e * (1 / 448)) z (by positivity) h0' (by linarith)]
    rcases hp'.eq_or_lt with hz | hz
    · subst hz
      have : z = 0 := le_antisymm h1' h0'
      subst this
      unfold quant
      simp
    · rw [quant_back (p * (1 / 448)) z (by positivity) h0' (by linarith)]

end Cert.Quant

end
-- ==== Proof.Scale.lean ====
/-
  Scale: the largest element that the devices find between them, over the extended reals.
-/
module

public import proofs.«01_k».proof.Proof.Products
public import proofs.«01_k».proof.Proof.Quant

@[expose] public section

set_option maxRecDepth 16384

noncomputable section

namespace Cert.KernelProof

open Cert.KernelIdeal Cert.KernelIdeal.Gen
open Idealize.ShloMosaic
open Idealize.ShloMosaic.TcCoe
open Cert.Quant

variable (m : (ℓ : Loc nD τ sig) → Buf (Elt Ideal) ℓ)

/-! ## What the maxima are below -/

theorem fold_le {α : Type} (t : Finset α) (f : α → EReal) (z : EReal) :
    Finset.fold max (Ideal.ofBits .f32 0xFF800000#32) f t ≤ z ↔ ∀ x ∈ t, f x ≤ z := by
  rw [lit_bot, Finset.fold_max_le]
  exact ⟨fun h => h.2, fun h => ⟨bot_le, h⟩⟩

theorem fold_pair_le (v : Vec Ideal S512x1024 .f32) (z : EReal) :
    Finset.fold max (Ideal.ofBits .f32 0xFF800000#32) (fun x : Fin 512 × Fin 1024 => (v (ix2 x.1 x.2) : EReal)) Finset.univ ≤ z
      ↔ ∀ i k, (v (ix2 i k) : EReal) ≤ z := by
  rw [fold_le]
  exact ⟨fun h i k => h (i, k) (Finset.mem_univ _), fun h x _ => h x.1 x.2⟩

theorem first_max (v : Vec Ideal S512x1024 .f32) (z : EReal) :
    (k0_pay36 (F := Ideal) v : EReal) ≤ z ↔ 0 ≤ z ∧ ∀ i k, (v (ix2 i k) : EReal) ≤ z := by
  pointwise [k0_pay36]
  rw [max_le_iff]
  exact and_congr_right fun _ => fold_pair_le v z

theorem more_max (a : EReal) (u v w : Vec Ideal S512x1024 .f32) (j : S1x8x128.Idx) (z : EReal) :
    (k0_pay37 (F := Ideal) a u v w j : EReal) ≤ z
      ↔ ((a ≤ z ∧ ∀ i k, (u (ix2 i k) : EReal) ≤ z) ∧ ∀ i k, (v (ix2 i k) : EReal) ≤ z) ∧ ∀ i k, (w (ix2 i k) : EReal) ≤ z := by
  pointwise [k0_pay37]
  rw [max_le_iff, max_le_iff, max_le_iff]
  exact and_congr (and_congr (and_congr Iff.rfl (fold_pair_le u z)) (fold_pair_le v z)) (fold_pair_le w z)

/-- The larger of zero and of every element of the product. -/
def peak : EReal := max 0 (⨆ r, ⨆ k, prod m r k)

theorem peak_le (z : EReal) : peak m ≤ z ↔ 0 ≤ z ∧ ∀ r k, prod m r k ≤ z := by
  unfold peak
  rw [max_le_iff, iSup_le_iff]
  exact and_congr_right fun _ => forall_congr' fun r => iSup_le_iff

/-- Every row lies in a sub-block, every column in a half. -/
theorem row_onto (r : Fin 4096) : ∃ q s i, row q s i = r :=
  ⟨⟨r.val / 1024, by omega⟩, ⟨r.val / 512 % 2, by omega⟩, ⟨r.val % 512, by omega⟩, Fin.ext (by
    show 1024 * (r.val / 1024) + 512 * (r.val / 512 % 2) + r.val % 512 = r.val; omega)⟩
theorem col_onto (k : Fin 2048) : ∃ b j, col b j = k :=
  ⟨⟨k.val / 1024, by omega⟩, ⟨k.val % 1024, by omega⟩, Fin.ext (by
    show 1024 * (k.val / 1024) + k.val % 1024 = k.val; omega)⟩

/-- What a device finds in the two sub-blocks of the two chunks that it finishes. -/
theorem device_max (c : Dev nD) (j : S1x8x128.Idx) (z : EReal) :
    (mxv m c j : EReal) ≤ z ↔ 0 ≤ z ∧ ∀ s b i k, prod m (row (ck b 3 c) s i) (col b k) ≤ z := by
  unfold mxv
  refine (more_max _ _ _ _ j z).trans ?_
  refine (and_congr (and_congr (and_congr (first_max _ z) Iff.rfl) Iff.rfl) Iff.rfl).trans ?_
  simp only [acc_at]
  constructor
  · rintro ⟨⟨⟨⟨h0, h00⟩, h10⟩, h01⟩, h11⟩
    refine ⟨h0, fun s b => ?_⟩
    fin_cases s <;> fin_cases b
    exacts [h00, h10, h01, h11]
  · rintro ⟨h0, h⟩
    exact ⟨⟨⟨⟨h0, h 0 0⟩, h 0 1⟩, h 1 0⟩, h 1 1⟩

/-- The chunks that the four devices finish are all the chunks. -/
theorem ck_onto : ∀ (b : Fin 2) (q : Fin 4), ∃ c : Dev nD, ck b 3 c = q := by decide

theorem s1_all (i : S1x4x8x128.Idx) : reduces_S1x4x8x128_S1.drop i = ix1 0 := by
  funext a
  exact Fin.ext (by
    have h : ∀ (x y : Fin (S1.size a)), x.val = y.val := by
      match a with
      | 0 => intro x y; have hx : x.val < 1 := x.isLt; have hy : y.val < 1 := y.isLt; omega
    exact h _ _)

/-- The largest of the words that the devices have sent each other. -/
def sentMax (v : Vec Ideal S4x8x128 .f32) : EReal :=
  max (Finset.fold max (Ideal.ofBits .f32 0xFF800000#32) (fun x : S1x4x8x128.Idx => (v (ix3 (x 1) (x 2) (x 3)) : EReal))
    (Finset.univ.filter fun i => reduces_S1x4x8x128_S1.drop i = ix1 0)) 0

theorem scale_pay (v : Vec Ideal S4x8x128 .f32) :
    (k0_pay38 (F := Ideal) v : EReal) = Ideal.div (max (sentMax v) (Ideal.ofBits .f32 0x0DA24260#32)) (Ideal.ofBits .f32 0x43E00000#32) := by
  unfold sentMax
  pointwise [k0_pay38]

theorem sentMax_le (v : Vec Ideal S4x8x128 .f32) (z : EReal) : sentMax v ≤ z ↔ 0 ≤ z ∧ ∀ (c : Fin 4) (a : Fin 8) (b : Fin 128), (v (ix3 c a b) : EReal) ≤ z := by
  unfold sentMax
  rw [max_le_iff, fold_le, and_comm]
  refine and_congr_right fun _ => ⟨fun h c a b => h (ix4 0 c a b) (Finset.mem_filter.2 ⟨Finset.mem_univ _, s1_all _⟩), fun h x _ => h _ _ _⟩

theorem mxs_at (c : Fin 4) (a : Fin 8) (b : Fin 128) : ∃ j, mxs m (ix3 c a b) = mxv m c j := ⟨_, rfl⟩

/-- What all devices find between them. -/
theorem sentMax_eq : sentMax (mxs m) = peak m := by
  refine eq_of_forall_ge_iff fun z => ?_
  rw [sentMax_le, peak_le]
  refine and_congr_right fun h0 => ⟨fun h r k => ?_, fun h c a b => ?_⟩
  · obtain ⟨q, s, i, rfl⟩ := row_onto r
    obtain ⟨b, j, rfl⟩ := col_onto k
    obtain ⟨c, rfl⟩ := ck_onto b q
    have h1 := h c 0 0
    obtain ⟨y, hy⟩ := mxs_at m c 0 0
    rw [hy] at h1
    exact ((device_max m c y z).1 h1).2 s b i j
  · obtain ⟨y, hy⟩ := mxs_at m c a b
    rw [hy]
    exact (device_max m _ y z).2 ⟨h0, fun s b i k => h _ _⟩

/-- The scale: the larger of the peak and the least maximum, over the format's largest number. -/
theorem scl_eq : (scl m : EReal) = Ideal.div (max (peak m) (Ideal.ofBits .f32 0x0DA24260#32)) ((448 : ℝ) : EReal) := by
  rw [← lit_top, ← sentMax_eq]
  exact scale_pay (mxs m)

end Cert.KernelProof

end
-- ==== Proof.Result.lean ====
/-
  Result: an element of the kernel's result over the extended reals.
-/
module

public import proofs.«01_k».proof.Proof.Scale
public import proofs.«01_k».proof.Proof.Run
public import Idealize.ShloMosaic.Lib.Pipeline.ValueKit

@[expose] public section

set_option maxRecDepth 16384

noncomputable section

namespace Cert.KernelProof

open Cert.KernelIdeal Cert.KernelIdeal.Gen
open Idealize.ShloMosaic
open Idealize.ShloMosaic.TcCoe
open Cert.Quant

variable (m : (ℓ : Loc nD τ sig) → Buf (Elt Ideal) ℓ)

theorem quant_pay (s : EReal) (v : Vec Ideal S256x1024 .f32) (i : Fin 256) (k : Fin 1024) :
    (k0_pay1 (F := Ideal) s v (ix2 i k) : EReal) = quant s (v (ix2 i k)) := by
  unfold quant
  rw [← lit_top]
  pointwise [k0_pay1]

theorem rowHalf_at (r : Fin 2) (v : Vec Ideal S512x1024 .f32) (i : Fin 256) (k : Fin 1024) :
    rowHalf r v (ix2 i k) = v (ix2 ⟨256 * r.val + i.val, by omega⟩ k) := by
  refine congrArg v ?_
  funext a
  apply Fin.ext
  match a with
  | 0 => show 256 * r.val + 1 * i.val = 256 * r.val + i.val; omega
  | 1 => show 0 + 1 * k.val = k.val; omega

theorem quart_at (q : Fin 4) (s r b : Fin 2) (i : Fin 256) (k : Fin 1024) :
    quart m (q, s, r, b) (ix2 i k) = quant (scl m) (prod m (row q s ⟨256 * r.val + i.val, by omega⟩) (col b k)) := by
  refine (quant_pay _ _ _ _).trans ?_
  rw [rowHalf_at, acc_at]

/-- Element `(r, k)` of the result. -/
theorem outV_apply (r : Fin 4096) (k : Fin 2048) : (outV m (ix2 r k) : EReal) = quant (scl m) (prod m r k) := by
  have h := quart_at m ⟨r.val / 1024, by omega⟩ ⟨r.val / 512 % 2, by omega⟩ ⟨r.val / 256 % 2, by omega⟩ ⟨k.val / 1024, by omega⟩
    ⟨r.val % 256, by omega⟩ ⟨k.val % 1024, by omega⟩
  have hr : row ⟨r.val / 1024, by omega⟩ ⟨r.val / 512 % 2, by omega⟩ ⟨256 * (r.val / 256 % 2) + r.val % 256, by omega⟩ = r :=
    Fin.ext (by show 1024 * (r.val / 1024) + 512 * (r.val / 512 % 2) + (256 * (r.val / 256 % 2) + r.val % 256) = r.val; omega)
  have hk : col ⟨k.val / 1024, by omega⟩ ⟨k.val % 1024, by omega⟩ = k :=
    Fin.ext (by show 1024 * (k.val / 1024) + k.val % 1024 = k.val; omega)
  rw [hr, hk] at h
  rw [← h]
  unfold outV
  refine congrArg (quart m _) ?_
  funext a
  apply Fin.ext
  match a with
  | 0 => rfl
  | 1 => rfl

/-- The one write-back fills the result array. -/
theorem whole_out : win0_1.WholeAt (0 : Fin 1) := by
  refine ⟨by decide, fun t _ => ?_, fun a => ?_⟩
  · exact Fin.ext (by have h : t.val < 1 := t.isLt; show t.val = 0; omega)
  · match a with
    | 0 => exact ⟨rfl, rfl⟩
    | 1 => exact ⟨rfl, rfl⟩

/-- The result array after the run. -/
theorem finalA_out (c : Dev nD) : finalA m c (1 : Fin 2) = outV m := by
  refine (dats m 0 c).arrAt_eq_of_after_last (1 : Fin 2) (0 : Fin 1) whole_out _ fun j => ?_
  blk_simp
  rfl

end Cert.KernelProof

end
-- ==== Proof.RefValue.lean ====
/-
  RefValue: an element of the reference's result over the extended reals.
-/
module

public import proofs.«01_k».proof.Proof.Gen.ReferenceIdeal.Value
public import Idealize.ShloMosaic.Lib.Pipeline.ValueKit
public import Idealize.ShloMosaic.Lib.Pointwise
public import Idealize.ShloMosaic.Lib.Pipeline.ReadBack
public import proofs.«01_k».proof.Proof.Quant

@[expose] public section

set_option maxRecDepth 16384

noncomputable section

namespace Cert.RefProof

open Cert.ReferenceIdeal Cert.ReferenceIdeal.Gen
open Idealize.ShloMosaic
open Idealize.ShloMosaic.TcCoe
open Cert.Quant

variable (m : (ℓ : Loc nD τ sig) → Buf (Elt Ideal) ℓ)

theorem whole_out : win0_2.WholeAt (0 : Fin 1) := by
  refine ⟨by decide, fun t _ => ?_, fun a => ?_⟩
  · exact Fin.ext (by have h : t.val < 1 := t.isLt; show t.val = 0; omega)
  · match a with
    | 0 => exact ⟨rfl, rfl⟩
    | 1 => exact ⟨rfl, rfl⟩

/-- The result array is what the one point leaves. -/
theorem result_eq (c : Dev nD) : (dats m 0 c).arrAt 2 cfg0.N = outsAt0 m c (0 : Fin 1) := by
  refine (dats m 0 c).arrAt_eq_of_after_last (2 : Fin 3) (0 : Fin 1) whole_out _ fun j => ?_
  blk_simp
  exact congrFun (after0_2 m c (0 : Fin 1)) j

/-- The product's positive part. -/
def relu (x : FVec Ideal S4096x4096 .f32) (w : FVec Ideal S4096x2048 .f32) : FVec Ideal S4096x2048 .f32 :=
  maximumf (Host.dotGeneral dot_S4096x4096_S4096x2048_S4096x2048_1_0_0_1_n_n none x w)
    (broadcastInDim S4096x2048 ![] bcast_S_S4096x2048 (constant S_ .f32 0x00000000#32))

/-- The scale. -/
def scale (y : FVec Ideal S4096x2048 .f32) : FVec Ideal S_ .f32 :=
  Host.divf (Host.reduce FloatOps.maximumf (Host.absf y) (constant S_ .f32 0xFF800000#32) reducesTo_S4096x2048_S_d0_1 h_S_)
    (constant S_ .f32 0x43E00000#32)

theorem V8 (c : Dev nD) : V m c main_v8 = (Host.convertf .fp8e4m3 (Host.divf (relu (m ((c : Thread nD τ).loc main_arg0)) (m ((c : Thread nD τ).loc main_arg1)))
    (broadcastInDim S4096x2048 ![] bcast_S_S4096x2048 (scale (relu (m ((c : Thread nD τ).loc main_arg0)) (m ((c : Thread nD τ).loc main_arg1)))))) : FVec Ideal S4096x2048 .fp8e4m3) := by
  entry_read
  rfl

theorem V9 (c : Dev nD) : V m c main_v9 = (shapeCast S1x1 (scale (relu (m ((c : Thread nD τ).loc main_arg0)) (m ((c : Thread nD τ).loc main_arg1)))) shapeCasts_S_S1x1 : FVec Ideal S1x1 .f32) := by
  entry_read
  rfl

theorem relu_at (x : FVec Ideal S4096x4096 .f32) (w : FVec Ideal S4096x2048 .f32) (r : Fin 4096) (k : Fin 2048) :
    (relu x w (ix2 r k) : EReal) = max (∑ l : Fin 4096, x (ix2 r l) * w (ix2 l k)) 0 := by
  pointwise [relu]

/-- A maximum over pairs, from −∞. -/
theorem fold_le {α β : Type} [Fintype α] [Fintype β] (f : α × β → EReal) (z : EReal) :
    Finset.fold max (Ideal.ofBits .f32 0xFF800000#32) f Finset.univ ≤ z ↔ ∀ a b, f (a, b) ≤ z := by
  rw [lit_bot, Finset.fold_max_le]
  exact ⟨fun h a b => h.2 (a, b) (Finset.mem_univ _), fun h => ⟨bot_le, fun x _ => h x.1 x.2⟩⟩

/-- The magnitude of a positive part is the part. -/
theorem abs_pos_part (y : EReal) : max (max y 0) (-(max y 0)) = max y 0 := by
  have h : (0 : EReal) ≤ max y 0 := le_max_right _ _
  exact max_eq_left ((EReal.neg_le_neg_iff.2 h).trans (by rw [neg_zero]; exact h))

/-- The largest magnitude of the positive parts of a family is the larger of zero and of the family. -/
theorem abs_peak {α β : Type} [Fintype α] [Fintype β] [Nonempty α] [Nonempty β] (y f : α → β → EReal) (h : ∀ a b, y a b = max (f a b) 0) :
    Finset.fold max (Ideal.ofBits .f32 0xFF800000#32) (fun x : α × β => max (y x.1 x.2) (-(y x.1 x.2))) Finset.univ
      = max 0 (⨆ a, ⨆ b, f a b) := by
  refine eq_of_forall_ge_iff fun z => ?_
  rw [fold_le, max_le_iff, iSup_le_iff]
  simp only [h, abs_pos_part, max_le_iff, iSup_le_iff]
  obtain ⟨a⟩ := ‹Nonempty α›
  obtain ⟨b⟩ := ‹Nonempty β›
  exact ⟨fun h => ⟨(h a b).2, fun a b => (h a b).1⟩, fun h a b => ⟨h.2 a b, h.1⟩⟩

/-- Element `(r, k)` of the product. -/
def prod (x : FVec Ideal S4096x4096 .f32) (w : FVec Ideal S4096x2048 .f32) (r : Fin 4096) (k : Fin 2048) : EReal :=
  ∑ l : Fin 4096, x (ix2 r l) * w (ix2 l k)

/-- The larger of zero and of every element of the product. -/
def peak (x : FVec Ideal S4096x4096 .f32) (w : FVec Ideal S4096x2048 .f32) : EReal := max 0 (⨆ r, ⨆ k, prod x w r k)

theorem scale_fold (y : FVec Ideal S4096x2048 .f32) :
    (scale y ix0 : EReal) = Ideal.div (Finset.fold max (Ideal.ofBits .f32 0xFF800000#32)
      (fun x : Fin 4096 × Fin 2048 => max (y (ix2 x.1 x.2)) (-(y (ix2 x.1 x.2)))) Finset.univ) (Ideal.ofBits .f32 0x43E00000#32) := by
  pointwise [scale]
  rfl

theorem scale_at (x : FVec Ideal S4096x4096 .f32) (w : FVec Ideal S4096x2048 .f32) :
    (scale (relu x w) ix0 : EReal) = Ideal.div (peak x w) ((448 : ℝ) : EReal) := by
  have h := abs_peak (fun a b => (relu x w (ix2 a b) : EReal)) (prod x w) (relu_at x w)
  have h' := scale_fold (relu x w)
  rw [h, lit_top] at h'
  exact h'

theorem pay_at (q : Vec Ideal S4096x2048 .fp8e4m3) (s : EReal) (r : Fin 4096) (k : Fin 2048) :
    (k0_pay1 (F := Ideal) q s (ix2 r k) : EReal) = min (q (ix2 r k)) (Ideal.ofBits .f32 0x43E00000#32) * s := by
  pointwise [k0_pay1]

theorem quotient_at (y : FVec Ideal S4096x2048 .f32) (s : FVec Ideal S_ .f32) (r : Fin 4096) (k : Fin 2048) :
    ((Host.convertf .fp8e4m3 (Host.divf y (broadcastInDim S4096x2048 ![] bcast_S_S4096x2048 s)) : FVec Ideal S4096x2048 .fp8e4m3) (ix2 r k) : EReal)
      = Ideal.div (y (ix2 r k)) (s ix0) := by
  pointwise

theorem scalar_at (s : FVec Ideal S_ .f32) : (shapeCast S1x1 s shapeCasts_S_S1x1 : FVec Ideal S1x1 .f32) (ix2 0 0) = s ix0 := by
  pointwise

/-- What the call reads of the quotients, -/
theorem in8 (c : Dev nD) (r : Fin 4096) (k : Fin 2048) : (iblk m c 0 (0 : Fin 1) (ix2 r k) : EReal) = V m c main_v8 (ix2 r k) := by
  refine congrArg (V m c main_v8) ?_
  funext a
  apply Fin.ext
  match a with
  | 0 => show 0 * 4096 + 1 * r.val = r.val; omega
  | 1 => show 0 * 2048 + 1 * k.val = k.val; omega

/-- and of the scale. -/
theorem in9 (c : Dev nD) (i : S1x1.Idx) : (iblk m c 1 (0 : Fin 1) i : EReal) = V m c main_v9 (ix2 0 0) := by
  refine congrArg (V m c main_v9) ?_
  funext a
  apply Fin.ext
  match a with
  | 0 => have h : (i 0).val < 1 := (i 0).isLt; show 0 * 1 + 1 * (i 0).val = 0; omega
  | 1 => have h : (i 1).val < 1 := (i 1).isLt; show 0 * 1 + 1 * (i 1).val = 0; omega

/-- Element `(r, k)` of the reference's result. -/
theorem result_at (c : Dev nD) (r : Fin 4096) (k : Fin 2048) :
    ((dats m 0 c).arrAt 2 cfg0.N (ix2 r k) : EReal)
      = quant (Ideal.div (peak (m ((c : Thread nD τ).loc main_arg0)) (m ((c : Thread nD τ).loc main_arg1))) ((448 : ℝ) : EReal))
          (prod (m ((c : Thread nD τ).loc main_arg0)) (m ((c : Thread nD τ).loc main_arg1)) r k) := by
  rw [result_eq]
  unfold outsAt0
  frame_out
  refine (pay_at _ _ _ _).trans ?_
  simp only [read_unread_whole]
  rw [in8, in9, V8, V9, quotient_at, scalar_at, scale_at, relu_at, lit_top]
  rfl

end Cert.RefProof

end
-- ==== Proof.Equal.lean ====
/-
  Equal: the kernel's result and the reference's, from the same arrays.
-/
module

public import proofs.«01_k».proof.Proof.Frames
public import proofs.«01_k».proof.Proof.Result
public import proofs.«01_k».proof.Proof.RefValue

@[expose] public section

set_option maxRecDepth 16384

noncomputable section

namespace Cert.Equal

open Idealize.ShloMosaic
open Idealize.ShloMosaic.TcCoe
open Idealize.SL.Sem
open Cert.Quant

variable (X : FVec Ideal Cert.ReferenceIdeal.S4096x4096 .f32) (W : FVec Ideal Cert.ReferenceIdeal.S4096x2048 .f32)

/-- A sum over the inner dimension is the sum over the devices of the sums over their slices. -/
theorem sum_slices (f : Fin 4096 → EReal) :
    ∑ c : Fin 4, ∑ l : Fin 1024, f ⟨1024 * c.val + l.val, by omega⟩ = ∑ j : Fin 4096, f j := by
  have h := Fin.sum_univ_univ_mul_add 4 1024 fun n => if h : n < 4096 then f ⟨n, h⟩ else 0
  have e : ∀ j : Fin (4 * 1024), (if h : j.val < 4096 then f ⟨j.val, h⟩ else 0) = f j := fun j => dif_pos j.isLt
  rw [Finset.sum_congr rfl fun j _ => e j] at h
  refine Eq.trans ?_ h
  refine Finset.sum_congr rfl fun c _ => Finset.sum_congr rfl fun l _ => ?_
  have hc := c.isLt
  have hl := l.isLt
  rw [dif_pos (by omega)]
  exact congrArg f (Fin.ext (by show 1024 * c.val + l.val = c.val * 1024 + l.val; omega))

section
variable (m : (ℓ : Loc Cert.KernelIdeal.nD Cert.KernelIdeal.τ Cert.KernelIdeal.sig) → Buf (Elt Ideal) ℓ)

/-- Each device holds its slices of the two whole arrays. -/
def Slices : Prop := ∀ c : Dev Cert.KernelIdeal.nD,
  m ((c : Thread Cert.KernelIdeal.nD Cert.KernelIdeal.τ).loc Cert.KernelIdeal.main_arg0) = Layout.block ⟨2, ![4096, 1024]⟩ ⟨2, ![4096, 4096]⟩ 1 4 c X
  ∧ m ((c : Thread Cert.KernelIdeal.nD Cert.KernelIdeal.τ).loc Cert.KernelIdeal.main_arg1) = Layout.block ⟨2, ![1024, 2048]⟩ ⟨2, ![4096, 2048]⟩ 0 4 c W

variable {X W m} (h : Slices X W m)
include h

theorem x_slice (c : Fin 4) (r : Fin 4096) (l : Fin 1024) :
    Cert.KernelProof.xAt m c r l = X (ix2 r ⟨1024 * c.val + l.val, by omega⟩) := by
  unfold Cert.KernelProof.xAt
  rw [(h c).1]
  refine congrArg X ?_
  funext a
  apply Fin.ext
  rw [Layout.Tiles.idx_val]
  match a with
  | 0 => rfl
  | 1 => show c.val * 1024 + l.val = 1024 * c.val + l.val; omega

theorem w_slice (c : Fin 4) (l : Fin 1024) (k : Fin 2048) :
    Cert.KernelProof.wAt m c l k = W (ix2 ⟨1024 * c.val + l.val, by omega⟩ k) := by
  unfold Cert.KernelProof.wAt
  rw [(h c).2]
  refine congrArg W ?_
  funext a
  apply Fin.ext
  rw [Layout.Tiles.idx_val]
  match a with
  | 0 => show c.val * 1024 + l.val = 1024 * c.val + l.val; omega
  | 1 => rfl

/-- The devices' products add up to the product of the whole arrays, -/
theorem prod_eq (r : Fin 4096) (k : Fin 2048) : Cert.KernelProof.prod m r k = Cert.RefProof.prod X W r k := by
  unfold Cert.KernelProof.prod Cert.KernelProof.term Cert.RefProof.prod
  refine Eq.trans ?_ (sum_slices fun j => X (ix2 r j) * W (ix2 j k))
  refine Finset.sum_congr rfl fun c _ => Finset.sum_congr rfl fun l _ => ?_
  rw [x_slice h, w_slice h]

/-- so the peak is the same, -/
theorem peak_eq : Cert.KernelProof.peak m = Cert.RefProof.peak X W := by
  unfold Cert.KernelProof.peak Cert.RefProof.peak
  simp only [prod_eq h]

/-- and so is every element, although the kernel's scale keeps away from zero. -/
theorem element_eq (r : Fin 4096) (k : Fin 2048) : (Cert.KernelProof.outV m (ix2 r k) : EReal)
    = quant (Ideal.div (Cert.RefProof.peak X W) ((448 : ℝ) : EReal)) (Cert.RefProof.prod X W r k) := by
  obtain ⟨e, he, hw⟩ := lit_eps
  have hp := (Cert.KernelProof.peak_le m _).1 le_rfl
  rw [Cert.KernelProof.outV_apply, Cert.KernelProof.scl_eq, hw, ← peak_eq h, ← prod_eq h]
  exact quant_scale _ _ e he hp.1 (hp.2 r k)

end

/-- The claim on the two results. -/
theorem algebraic : Cert.algebraic_KernelIdeal_ReferenceIdeal
    (hKernelIdeal := Cert.KernelIdeal.Gen.facts) (hReferenceIdeal := Cert.ReferenceIdeal.Gen.facts) := by
  intro m g m' g' _ hm
  refine ⟨(Cert.ReferenceIdeal.Gen.dats m' 0 0).arrAt 2 Cert.ReferenceIdeal.cfg0.N, ?_, ?_⟩
  · refine (θ_run _ _ _).mono (fun r hr c => ⟨?_, (hr.1 c).2, Cert.KernelProof.kept_w m hr.1 c⟩) (Cert.KernelProof.run_main (F := Ideal) m g)
    refine ((hr.1 c).1 (1 : Fin 2)).trans ((Cert.KernelProof.finalA_out m c).trans ?_)
    funext i
    obtain ⟨a, b, rfl⟩ : ∃ (a : Fin 4096) (b : Fin 2048), i = ix2 a b := ⟨i 0, i 1, eq_ix2 i⟩
    exact (element_eq hm a b).trans (Cert.RefProof.result_at m' 0 a b).symm
  · exact (θ_run _ _ _).mono (fun r hr => hr 0) (Cert.ReferenceIdeal.Value.run_blocks m' g')

end Cert.Equal

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Value
public import proofs.«01_k».proof.Proof.Frames
public import proofs.«01_k».proof.Proof.Equal

@[expose] public section

noncomputable section

namespace Cert.Proof

open Cert.KernelProof

theorem claim : Cert.Claim :=
  ⟨Cert.Kernel.Gen.facts, Cert.KernelIdeal.Gen.facts, Cert.ReferenceIdeal.Gen.facts,
    frame_kernel, frame_kernelIdeal, frame_reference, trivial, Cert.Equal.algebraic⟩

end Cert.Proof

end
